-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S16 : Shape := ⟨1, ![16]⟩
abbrev S_ : Shape := ⟨0, ![]⟩
abbrev S1 : Shape := ⟨1, ![1]⟩
abbrev S3 : Shape := ⟨1, ![3]⟩
abbrev S4096x8192 : Shape := ⟨2, ![4096, 8192]⟩
abbrev S2x256x4096 : Shape := ⟨3, ![2, 256, 4096]⟩
abbrev S16x128 : Shape := ⟨2, ![16, 128]⟩
abbrev S2 : Shape := ⟨1, ![2]⟩
abbrev S15 : Shape := ⟨1, ![15]⟩
abbrev S256x256 : Shape := ⟨2, ![256, 256]⟩
abbrev S256x4096 : Shape := ⟨2, ![256, 4096]⟩
abbrev S1x256x4096 : Shape := ⟨3, ![1, 256, 4096]⟩
abbrev S1x256x8192 : Shape := ⟨3, ![1, 256, 8192]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 46
  | .vmem => 7
  | .smem => 1
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .i32⟩
  | .hbm, ⟨44, _⟩ => ⟨S3, .i32⟩
  | .hbm, ⟨45, _⟩ => ⟨S4096x8192, .bf16⟩
  | .local _ .vmem, ⟨0, _⟩ => ⟨S4096x256, .bf16⟩
  | .local _ .vmem, ⟨1, _⟩ => ⟨S256x8192, .bf16⟩
  | .local _ .vmem, ⟨2, _⟩ => ⟨S2x256x4096, .bf16⟩
  | .local _ .vmem, ⟨3, _⟩ => ⟨S2x256x4096, .bf16⟩
  | .local _ .vmem, ⟨4, _⟩ => ⟨S256x8192, .f32⟩
  | .local _ .vmem, ⟨5, _⟩ => ⟨S256x8192, .bf16⟩
  | .local _ .vmem, ⟨6, _⟩ => ⟨S16x128, .f32⟩
  | .local _ .smem, ⟨0, _⟩ => ⟨S3, .i32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 3 73 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_c_11 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_1 : BitVec 32 := 1#32
  let v7 : BitVec 32 := Scalar.muli v1 c1_i32_1
  let v8 : BitVec 32 := Scalar.addi c0_i32 v7
  v8.toNat

def k0_dev2 (v2 : BitVec 32) : Nat :=
  let c0_i32_4 : BitVec 32 := 0#32
  let c1_i32_3 : BitVec 32 := 1#32
  let v9 : BitVec 32 := Scalar.muli v2 c1_i32_3
  let v10 : BitVec 32 := Scalar.addi c0_i32_4 v9
  v10.toNat

def k0_off1 (v0 : BitVec 32) (c31_i32 : BitVec 32) : Fin 2 → Nat :=
  let v11 : BitVec 32 := Scalar.addi v0 c31_i32
  let c16_i32_5 : BitVec 32 := 16#32
  let v12 : BitVec 32 := Scalar.remsi v11 c16_i32_5
  let c256_i32 : BitVec 32 := 256#32
  let v16 : BitVec 32 := Scalar.muli v12 c256_i32
  let v17 : Index := Scalar.indexCast v16
  let c0_9 : Index := 0#32
  ![v17.toNat, 0]

def k0_off2 (v0 : BitVec 32) (c0_i32_7 : BitVec 32) : Fin 2 → Nat :=
  let c1_i32_6 : BitVec 32 := 1#32
  let v13 : BitVec 32 := Scalar.addi v0 c1_i32_6
  let v14 : BitVec 32 := Scalar.addi v13 c0_i32_7
  let c16_i32_8 : BitVec 32 := 16#32
  let v15 : BitVec 32 := Scalar.remsi v14 c16_i32_8
  let c256_i32_15 : BitVec 32 := 256#32
  let v27 : BitVec 32 := Scalar.muli v15 c256_i32_15
  let v28 : Index := Scalar.indexCast v27
  let c0_16 : Index := 0#32
  ![v28.toNat, 0]
def k0_dev3 (v2 : BitVec 32) : Nat :=
  let c0_i32_27 : BitVec 32 := 0#32
  let c1_i32_26 : BitVec 32 := 1#32
  let v38 : BitVec 32 := Scalar.muli v2 c1_i32_26
  let v39 : BitVec 32 := Scalar.addi c0_i32_27 v38
  v39.toNat
def k0_dev4 (v1 : BitVec 32) : Nat :=
  let c0_i32_37 : BitVec 32 := 0#32
  let c1_i32_36 : BitVec 32 := 1#32
  let v48 : BitVec 32 := Scalar.muli v1 c1_i32_36
  let v49 : BitVec 32 := Scalar.addi c0_i32_37 v48
  v49.toNat
def k0_dev5 (v1 : BitVec 32) : Nat :=
  let c0_i32_82 : BitVec 32 := 0#32
  let c1_i32_81 : BitVec 32 := 1#32
  let v86 : BitVec 32 := Scalar.muli v1 c1_i32_81
  let v87 : BitVec 32 := Scalar.addi c0_i32_82 v86
  v87.toNat
def k0_dev6 (v2 : BitVec 32) : Nat :=
  let c0_i32_85 : BitVec 32 := 0#32
  let c1_i32_84 : BitVec 32 := 1#32
  let v88 : BitVec 32 := Scalar.muli v2 c1_i32_84
  let v89 : BitVec 32 := Scalar.addi c0_i32_85 v88
  v89.toNat
def k0_dev7 (v2 : BitVec 32) : Nat :=
  let c0_i32_121 : BitVec 32 := 0#32
  let c1_i32_120 : BitVec 32 := 1#32
  let v125 : BitVec 32 := Scalar.muli v2 c1_i32_120
  let v126 : BitVec 32 := Scalar.addi c0_i32_121 v125
  v126.toNat
def k0_dev8 (v1 : BitVec 32) : Nat :=
  let c0_i32_131 : BitVec 32 := 0#32
  let c1_i32_130 : BitVec 32 := 1#32
  let v135 : BitVec 32 := Scalar.muli v1 c1_i32_130
  let v136 : BitVec 32 := Scalar.addi c0_i32_131 v135
  v136.toNat
def k0_dev9 (v1 : BitVec 32) : Nat :=
  let c0_i32_176 : BitVec 32 := 0#32
  let c1_i32_175 : BitVec 32 := 1#32
  let v173 : BitVec 32 := Scalar.muli v1 c1_i32_175
  let v174 : BitVec 32 := Scalar.addi c0_i32_176 v173
  v174.toNat
def k0_dev10 (v2 : BitVec 32) : Nat :=
  let c0_i32_179 : BitVec 32 := 0#32
  let c1_i32_178 : BitVec 32 := 1#32
  let v175 : BitVec 32 := Scalar.muli v2 c1_i32_178
  let v176 : BitVec 32 := Scalar.addi c0_i32_179 v175
  v176.toNat
def k0_dev11 (v2 : BitVec 32) : Nat :=
  let c0_i32_215 : BitVec 32 := 0#32
  let c1_i32_214 : BitVec 32 := 1#32
  let v212 : BitVec 32 := Scalar.muli v2 c1_i32_214
  let v213 : BitVec 32 := Scalar.addi c0_i32_215 v212
  v213.toNat
def k0_dev12 (v1 : BitVec 32) : Nat :=
  let c0_i32_225 : BitVec 32 := 0#32
  let c1_i32_224 : BitVec 32 := 1#32
  let v222 : BitVec 32 := Scalar.muli v1 c1_i32_224
  let v223 : BitVec 32 := Scalar.addi c0_i32_225 v222
  v223.toNat
def k0_dev13 (v1 : BitVec 32) : Nat :=
  let c0_i32_270 : BitVec 32 := 0#32
  let c1_i32_269 : BitVec 32 := 1#32
  let v260 : BitVec 32 := Scalar.muli v1 c1_i32_269
  let v261 : BitVec 32 := Scalar.addi c0_i32_270 v260
  v261.toNat
def k0_dev14 (v2 : BitVec 32) : Nat :=
  let c0_i32_273 : BitVec 32 := 0#32
  let c1_i32_272 : BitVec 32 := 1#32
  let v262 : BitVec 32 := Scalar.muli v2 c1_i32_272
  let v263 : BitVec 32 := Scalar.addi c0_i32_273 v262
  v263.toNat
def k0_dev15 (v2 : BitVec 32) : Nat :=
  let c0_i32_308 : BitVec 32 := 0#32
  let c1_i32_307 : BitVec 32 := 1#32
  let v299 : BitVec 32 := Scalar.muli v2 c1_i32_307
  let v300 : BitVec 32 := Scalar.addi c0_i32_308 v299
  v300.toNat
def k0_dev16 (v1 : BitVec 32) : Nat :=
  let c0_i32_318 : BitVec 32 := 0#32
  let c1_i32_317 : BitVec 32 := 1#32
  let v309 : BitVec 32 := Scalar.muli v1 c1_i32_317
  let v310 : BitVec 32 := Scalar.addi c0_i32_318 v309
  v310.toNat
def k0_dev17 (v1 : BitVec 32) : Nat :=
  let c0_i32_363 : BitVec 32 := 0#32
  let c1_i32_362 : BitVec 32 := 1#32
  let v347 : BitVec 32 := Scalar.muli v1 c1_i32_362
  let v348 : BitVec 32 := Scalar.addi c0_i32_363 v347
  v348.toNat
def k0_dev18 (v2 : BitVec 32) : Nat :=
  let c0_i32_366 : BitVec 32 := 0#32
  let c1_i32_365 : BitVec 32 := 1#32
  let v349 : BitVec 32 := Scalar.muli v2 c1_i32_365
  let v350 : BitVec 32 := Scalar.addi c0_i32_366 v349
  v350.toNat
def k0_dev19 (v2 : BitVec 32) : Nat :=
  let c0_i32_401 : BitVec 32 := 0#32
  let c1_i32_400 : BitVec 32 := 1#32
  let v386 : BitVec 32 := Scalar.muli v2 c1_i32_400
  let v387 : BitVec 32 := Scalar.addi c0_i32_401 v386
  v387.toNat
def k0_dev20 (v1 : BitVec 32) : Nat :=
  let c0_i32_411 : BitVec 32 := 0#32
  let c1_i32_410 : BitVec 32 := 1#32
  let v396 : BitVec 32 := Scalar.muli v1 c1_i32_410
  let v397 : BitVec 32 := Scalar.addi c0_i32_411 v396
  v397.toNat
def k0_dev21 (v1 : BitVec 32) : Nat :=
  let c0_i32_456 : BitVec 32 := 0#32
  let c1_i32_455 : BitVec 32 := 1#32
  let v434 : BitVec 32 := Scalar.muli v1 c1_i32_455
  let v435 : BitVec 32 := Scalar.addi c0_i32_456 v434
  v435.toNat
def k0_dev22 (v2 : BitVec 32) : Nat :=
  let c0_i32_459 : BitVec 32 := 0#32
  let c1_i32_458 : BitVec 32 := 1#32
  let v436 : BitVec 32 := Scalar.muli v2 c1_i32_458
  let v437 : BitVec 32 := Scalar.addi c0_i32_459 v436
  v437.toNat
def k0_dev23 (v2 : BitVec 32) : Nat :=
  let c0_i32_494 : BitVec 32 := 0#32
  let c1_i32_493 : BitVec 32 := 1#32
  let v473 : BitVec 32 := Scalar.muli v2 c1_i32_493
  let v474 : BitVec 32 := Scalar.addi c0_i32_494 v473
  v474.toNat
def k0_dev24 (v1 : BitVec 32) : Nat :=
  let c0_i32_504 : BitVec 32 := 0#32
  let c1_i32_503 : BitVec 32 := 1#32
  let v483 : BitVec 32 := Scalar.muli v1 c1_i32_503
  let v484 : BitVec 32 := Scalar.addi c0_i32_504 v483
  v484.toNat
def k0_dev25 (v1 : BitVec 32) : Nat :=
  let c0_i32_549 : BitVec 32 := 0#32
  let c1_i32_548 : BitVec 32 := 1#32
  let v521 : BitVec 32 := Scalar.muli v1 c1_i32_548
  let v522 : BitVec 32 := Scalar.addi c0_i32_549 v521
  v522.toNat
def k0_dev26 (v2 : BitVec 32) : Nat :=
  let c0_i32_552 : BitVec 32 := 0#32
  let c1_i32_551 : BitVec 32 := 1#32
  let v523 : BitVec 32 := Scalar.muli v2 c1_i32_551
  let v524 : BitVec 32 := Scalar.addi c0_i32_552 v523
  v524.toNat
def k0_dev27 (v2 : BitVec 32) : Nat :=
  let c0_i32_587 : BitVec 32 := 0#32
  let c1_i32_586 : BitVec 32 := 1#32
  let v560 : BitVec 32 := Scalar.muli v2 c1_i32_586
  let v561 : BitVec 32 := Scalar.addi c0_i32_587 v560
  v561.toNat
def k0_dev28 (v1 : BitVec 32) : Nat :=
  let c0_i32_597 : BitVec 32 := 0#32
  let c1_i32_596 : BitVec 32 := 1#32
  let v570 : BitVec 32 := Scalar.muli v1 c1_i32_596
  let v571 : BitVec 32 := Scalar.addi c0_i32_597 v570
  v571.toNat
def k0_dev29 (v1 : BitVec 32) : Nat :=
  let c0_i32_642 : BitVec 32 := 0#32
  let c1_i32_641 : BitVec 32 := 1#32
  let v608 : BitVec 32 := Scalar.muli v1 c1_i32_641
  let v609 : BitVec 32 := Scalar.addi c0_i32_642 v608
  v609.toNat
def k0_dev30 (v2 : BitVec 32) : Nat :=
  let c0_i32_645 : BitVec 32 := 0#32
  let c1_i32_644 : BitVec 32 := 1#32
  let v610 : BitVec 32 := Scalar.muli v2 c1_i32_644
  let v611 : BitVec 32 := Scalar.addi c0_i32_645 v610
  v611.toNat
def k0_dev31 (v2 : BitVec 32) : Nat :=
  let c0_i32_680 : BitVec 32 := 0#32
  let c1_i32_679 : BitVec 32 := 1#32
  let v647 : BitVec 32 := Scalar.muli v2 c1_i32_679
  let v648 : BitVec 32 := Scalar.addi c0_i32_680 v647
  v648.toNat
def k0_dev32 (v1 : BitVec 32) : Nat :=
  let c0_i32_690 : BitVec 32 := 0#32
  let c1_i32_689 : BitVec 32 := 1#32
  let v657 : BitVec 32 := Scalar.muli v1 c1_i32_689
  let v658 : BitVec 32 := Scalar.addi c0_i32_690 v657
  v658.toNat
def k0_dev33 (v1 : BitVec 32) : Nat :=
  let c0_i32_735 : BitVec 32 := 0#32
  let c1_i32_734 : BitVec 32 := 1#32
  let v695 : BitVec 32 := Scalar.muli v1 c1_i32_734
  let v696 : BitVec 32 := Scalar.addi c0_i32_735 v695
  v696.toNat
def k0_dev34 (v2 : BitVec 32) : Nat :=
  let c0_i32_738 : BitVec 32 := 0#32
  let c1_i32_737 : BitVec 32 := 1#32
  let v697 : BitVec 32 := Scalar.muli v2 c1_i32_737
  let v698 : BitVec 32 := Scalar.addi c0_i32_738 v697
  v698.toNat
def k0_dev35 (v2 : BitVec 32) : Nat :=
  let c0_i32_773 : BitVec 32 := 0#32
  let c1_i32_772 : BitVec 32 := 1#32
  let v734 : BitVec 32 := Scalar.muli v2 c1_i32_772
  let v735 : BitVec 32 := Scalar.addi c0_i32_773 v734
  v735.toNat
def k0_dev36 (v1 : BitVec 32) : Nat :=
  let c0_i32_783 : BitVec 32 := 0#32
  let c1_i32_782 : BitVec 32 := 1#32
  let v744 : BitVec 32 := Scalar.muli v1 c1_i32_782
  let v745 : BitVec 32 := Scalar.addi c0_i32_783 v744
  v745.toNat
def k0_dev37 (v1 : BitVec 32) : Nat :=
  let c0_i32_828 : BitVec 32 := 0#32
  let c1_i32_827 : BitVec 32 := 1#32
  let v782 : BitVec 32 := Scalar.muli v1 c1_i32_827
  let v783 : BitVec 32 := Scalar.addi c0_i32_828 v782
  v783.toNat
def k0_dev38 (v2 : BitVec 32) : Nat :=
  let c0_i32_831 : BitVec 32 := 0#32
  let c1_i32_830 : BitVec 32 := 1#32
  let v784 : BitVec 32 := Scalar.muli v2 c1_i32_830
  let v785 : BitVec 32 := Scalar.addi c0_i32_831 v784
  v785.toNat
def k0_dev39 (v2 : BitVec 32) : Nat :=
  let c0_i32_866 : BitVec 32 := 0#32
  let c1_i32_865 : BitVec 32 := 1#32
  let v821 : BitVec 32 := Scalar.muli v2 c1_i32_865
  let v822 : BitVec 32 := Scalar.addi c0_i32_866 v821
  v822.toNat
def k0_dev40 (v1 : BitVec 32) : Nat :=
  let c0_i32_876 : BitVec 32 := 0#32
  let c1_i32_875 : BitVec 32 := 1#32
  let v831 : BitVec 32 := Scalar.muli v1 c1_i32_875
  let v832 : BitVec 32 := Scalar.addi c0_i32_876 v831
  v832.toNat
def k0_dev41 (v1 : BitVec 32) : Nat :=
  let c0_i32_921 : BitVec 32 := 0#32
  let c1_i32_920 : BitVec 32 := 1#32
  let v869 : BitVec 32 := Scalar.muli v1 c1_i32_920
  let v870 : BitVec 32 := Scalar.addi c0_i32_921 v869
  v870.toNat
def k0_dev42 (v2 : BitVec 32) : Nat :=
  let c0_i32_924 : BitVec 32 := 0#32
  let c1_i32_923 : BitVec 32 := 1#32
  let v871 : BitVec 32 := Scalar.muli v2 c1_i32_923
  let v872 : BitVec 32 := Scalar.addi c0_i32_924 v871
  v872.toNat
def k0_dev43 (v2 : BitVec 32) : Nat :=
  let c0_i32_959 : BitVec 32 := 0#32
  let c1_i32_958 : BitVec 32 := 1#32
  let v908 : BitVec 32 := Scalar.muli v2 c1_i32_958
  let v909 : BitVec 32 := Scalar.addi c0_i32_959 v908
  v909.toNat
def k0_dev44 (v1 : BitVec 32) : Nat :=
  let c0_i32_969 : BitVec 32 := 0#32
  let c1_i32_968 : BitVec 32 := 1#32
  let v918 : BitVec 32 := Scalar.muli v1 c1_i32_968
  let v919 : BitVec 32 := Scalar.addi c0_i32_969 v918
  v919.toNat
def k0_dev45 (v1 : BitVec 32) : Nat :=
  let c0_i32_1014 : BitVec 32 := 0#32
  let c1_i32_1013 : BitVec 32 := 1#32
  let v956 : BitVec 32 := Scalar.muli v1 c1_i32_1013
  let v957 : BitVec 32 := Scalar.addi c0_i32_1014 v956
  v957.toNat
def k0_dev46 (v2 : BitVec 32) : Nat :=
  let c0_i32_1017 : BitVec 32 := 0#32
  let c1_i32_1016 : BitVec 32 := 1#32
  let v958 : BitVec 32 := Scalar.muli v2 c1_i32_1016
  let v959 : BitVec 32 := Scalar.addi c0_i32_1017 v958
  v959.toNat
def k0_dev47 (v2 : BitVec 32) : Nat :=
  let c0_i32_1052 : BitVec 32 := 0#32
  let c1_i32_1051 : BitVec 32 := 1#32
  let v995 : BitVec 32 := Scalar.muli v2 c1_i32_1051
  let v996 : BitVec 32 := Scalar.addi c0_i32_1052 v995
  v996.toNat
def k0_dev48 (v1 : BitVec 32) : Nat :=
  let c0_i32_1062 : BitVec 32 := 0#32
  let c1_i32_1061 : BitVec 32 := 1#32
  let v1005 : BitVec 32 := Scalar.muli v1 c1_i32_1061
  let v1006 : BitVec 32 := Scalar.addi c0_i32_1062 v1005
  v1006.toNat
def k0_dev49 (v1 : BitVec 32) : Nat :=
  let c0_i32_1107 : BitVec 32 := 0#32
  let c1_i32_1106 : BitVec 32 := 1#32
  let v1043 : BitVec 32 := Scalar.muli v1 c1_i32_1106
  let v1044 : BitVec 32 := Scalar.addi c0_i32_1107 v1043
  v1044.toNat
def k0_dev50 (v2 : BitVec 32) : Nat :=
  let c0_i32_1110 : BitVec 32 := 0#32
  let c1_i32_1109 : BitVec 32 := 1#32
  let v1045 : BitVec 32 := Scalar.muli v2 c1_i32_1109
  let v1046 : BitVec 32 := Scalar.addi c0_i32_1110 v1045
  v1046.toNat
def k0_dev51 (v2 : BitVec 32) : Nat :=
  let c0_i32_1145 : BitVec 32 := 0#32
  let c1_i32_1144 : BitVec 32 := 1#32
  let v1082 : BitVec 32 := Scalar.muli v2 c1_i32_1144
  let v1083 : BitVec 32 := Scalar.addi c0_i32_1145 v1082
  v1083.toNat
def k0_dev52 (v1 : BitVec 32) : Nat :=
  let c0_i32_1155 : BitVec 32 := 0#32
  let c1_i32_1154 : BitVec 32 := 1#32
  let v1092 : BitVec 32 := Scalar.muli v1 c1_i32_1154
  let v1093 : BitVec 32 := Scalar.addi c0_i32_1155 v1092
  v1093.toNat
def k0_dev53 (v1 : BitVec 32) : Nat :=
  let c0_i32_1200 : BitVec 32 := 0#32
  let c1_i32_1199 : BitVec 32 := 1#32
  let v1130 : BitVec 32 := Scalar.muli v1 c1_i32_1199
  let v1131 : BitVec 32 := Scalar.addi c0_i32_1200 v1130
  v1131.toNat
def k0_dev54 (v2 : BitVec 32) : Nat :=
  let c0_i32_1203 : BitVec 32 := 0#32
  let c1_i32_1202 : BitVec 32 := 1#32
  let v1132 : BitVec 32 := Scalar.muli v2 c1_i32_1202
  let v1133 : BitVec 32 := Scalar.addi c0_i32_1203 v1132
  v1133.toNat
def k0_dev55 (v2 : BitVec 32) : Nat :=
  let c0_i32_1238 : BitVec 32 := 0#32
  let c1_i32_1237 : BitVec 32 := 1#32
  let v1169 : BitVec 32 := Scalar.muli v2 c1_i32_1237
  let v1170 : BitVec 32 := Scalar.addi c0_i32_1238 v1169
  v1170.toNat
def k0_dev56 (v1 : BitVec 32) : Nat :=
  let c0_i32_1248 : BitVec 32 := 0#32
  let c1_i32_1247 : BitVec 32 := 1#32
  let v1179 : BitVec 32 := Scalar.muli v1 c1_i32_1247
  let v1180 : BitVec 32 := Scalar.addi c0_i32_1248 v1179
  v1180.toNat
def k0_dev57 (v1 : BitVec 32) : Nat :=
  let c0_i32_1293 : BitVec 32 := 0#32
  let c1_i32_1292 : BitVec 32 := 1#32
  let v1217 : BitVec 32 := Scalar.muli v1 c1_i32_1292
  let v1218 : BitVec 32 := Scalar.addi c0_i32_1293 v1217
  v1218.toNat
def k0_dev58 (v2 : BitVec 32) : Nat :=
  let c0_i32_1296 : BitVec 32 := 0#32
  let c1_i32_1295 : BitVec 32 := 1#32
  let v1219 : BitVec 32 := Scalar.muli v2 c1_i32_1295
  let v1220 : BitVec 32 := Scalar.addi c0_i32_1296 v1219
  v1220.toNat
def k0_dev59 (v2 : BitVec 32) : Nat :=
  let c0_i32_1331 : BitVec 32 := 0#32
  let c1_i32_1330 : BitVec 32 := 1#32
  let v1256 : BitVec 32 := Scalar.muli v2 c1_i32_1330
  let v1257 : BitVec 32 := Scalar.addi c0_i32_1331 v1256
  v1257.toNat
def k0_dev60 (v1 : BitVec 32) : Nat :=
  let c0_i32_1341 : BitVec 32 := 0#32
  let c1_i32_1340 : BitVec 32 := 1#32
  let v1266 : BitVec 32 := Scalar.muli v1 c1_i32_1340
  let v1267 : BitVec 32 := Scalar.addi c0_i32_1341 v1266
  v1267.toNat
def k0_off3 (v0 : BitVec 32) : Fin 2 → Nat :=
  let c256_i32_1387 : BitVec 32 := 256#32
  let v1307 : BitVec 32 := Scalar.muli v0 c256_i32_1387
  let v1308 : Index := Scalar.indexCast v1307
  let c0_1388 : Index := 0#32
  ![v1308.toNat, 0]
def k0_off4 (d3 : Dev nD) : Fin 2 → Nat :=
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let v1339 : Index := Scalar.indexCast v5
  let c0_1407 : Index := 0#32
  ![v1339.toNat, 0]
def k0_off5 (d3 : Dev nD) : Fin 1 → Nat :=
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  ![v5.toNat]
def k0_off6 (d3 : Dev nD) : Fin 2 → Nat :=
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c0_i32_1413 : BitVec 32 := 0#32
  ![v5.toNat, 0]
def k0_dev61 (d3 : Dev nD) : Nat :=
  let c0_i32_1412 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c1_i32_1408 : BitVec 32 := 1#32
  let v1343 : BitVec 32 := Scalar.addi v5 c1_i32_1408
  let c16_i32_1409 : BitVec 32 := 16#32
  let v1344 : BitVec 32 := Scalar.remsi v1343 c16_i32_1409
  let c1_i32_1411 : BitVec 32 := 1#32
  let v1345 : BitVec 32 := Scalar.muli v1344 c1_i32_1411
  let v1346 : BitVec 32 := Scalar.addi c0_i32_1412 v1345
  v1346.toNat
def k0_dev62 (d3 : Dev nD) : Nat :=
  let c0_i32_1419 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c2_i32_1415 : BitVec 32 := 2#32
  let v1353 : BitVec 32 := Scalar.addi v5 c2_i32_1415
  let c16_i32_1416 : BitVec 32 := 16#32
  let v1354 : BitVec 32 := Scalar.remsi v1353 c16_i32_1416
  let c1_i32_1418 : BitVec 32 := 1#32
  let v1355 : BitVec 32 := Scalar.muli v1354 c1_i32_1418
  let v1356 : BitVec 32 := Scalar.addi c0_i32_1419 v1355
  v1356.toNat
def k0_dev63 (d3 : Dev nD) : Nat :=
  let c0_i32_1426 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c3_i32_1422 : BitVec 32 := 3#32
  let v1363 : BitVec 32 := Scalar.addi v5 c3_i32_1422
  let c16_i32_1423 : BitVec 32 := 16#32
  let v1364 : BitVec 32 := Scalar.remsi v1363 c16_i32_1423
  let c1_i32_1425 : BitVec 32 := 1#32
  let v1365 : BitVec 32 := Scalar.muli v1364 c1_i32_1425
  let v1366 : BitVec 32 := Scalar.addi c0_i32_1426 v1365
  v1366.toNat
def k0_dev64 (d3 : Dev nD) : Nat :=
  let c0_i32_1433 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c4_i32_1429 : BitVec 32 := 4#32
  let v1373 : BitVec 32 := Scalar.addi v5 c4_i32_1429
  let c16_i32_1430 : BitVec 32 := 16#32
  let v1374 : BitVec 32 := Scalar.remsi v1373 c16_i32_1430
  let c1_i32_1432 : BitVec 32 := 1#32
  let v1375 : BitVec 32 := Scalar.muli v1374 c1_i32_1432
  let v1376 : BitVec 32 := Scalar.addi c0_i32_1433 v1375
  v1376.toNat
def k0_dev65 (d3 : Dev nD) : Nat :=
  let c0_i32_1440 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c5_i32_1436 : BitVec 32 := 5#32
  let v1383 : BitVec 32 := Scalar.addi v5 c5_i32_1436
  let c16_i32_1437 : BitVec 32 := 16#32
  let v1384 : BitVec 32 := Scalar.remsi v1383 c16_i32_1437
  let c1_i32_1439 : BitVec 32 := 1#32
  let v1385 : BitVec 32 := Scalar.muli v1384 c1_i32_1439
  let v1386 : BitVec 32 := Scalar.addi c0_i32_1440 v1385
  v1386.toNat
def k0_dev66 (d3 : Dev nD) : Nat :=
  let c0_i32_1447 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c6_i32_1443 : BitVec 32 := 6#32
  let v1393 : BitVec 32 := Scalar.addi v5 c6_i32_1443
  let c16_i32_1444 : BitVec 32 := 16#32
  let v1394 : BitVec 32 := Scalar.remsi v1393 c16_i32_1444
  let c1_i32_1446 : BitVec 32 := 1#32
  let v1395 : BitVec 32 := Scalar.muli v1394 c1_i32_1446
  let v1396 : BitVec 32 := Scalar.addi c0_i32_1447 v1395
  v1396.toNat
def k0_dev67 (d3 : Dev nD) : Nat :=
  let c0_i32_1454 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c7_i32_1450 : BitVec 32 := 7#32
  let v1403 : BitVec 32 := Scalar.addi v5 c7_i32_1450
  let c16_i32_1451 : BitVec 32 := 16#32
  let v1404 : BitVec 32 := Scalar.remsi v1403 c16_i32_1451
  let c1_i32_1453 : BitVec 32 := 1#32
  let v1405 : BitVec 32 := Scalar.muli v1404 c1_i32_1453
  let v1406 : BitVec 32 := Scalar.addi c0_i32_1454 v1405
  v1406.toNat
def k0_dev68 (d3 : Dev nD) : Nat :=
  let c0_i32_1461 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c8_i32_1457 : BitVec 32 := 8#32
  let v1413 : BitVec 32 := Scalar.addi v5 c8_i32_1457
  let c16_i32_1458 : BitVec 32 := 16#32
  let v1414 : BitVec 32 := Scalar.remsi v1413 c16_i32_1458
  let c1_i32_1460 : BitVec 32 := 1#32
  let v1415 : BitVec 32 := Scalar.muli v1414 c1_i32_1460
  let v1416 : BitVec 32 := Scalar.addi c0_i32_1461 v1415
  v1416.toNat
def k0_dev69 (d3 : Dev nD) : Nat :=
  let c0_i32_1468 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c9_i32_1464 : BitVec 32 := 9#32
  let v1423 : BitVec 32 := Scalar.addi v5 c9_i32_1464
  let c16_i32_1465 : BitVec 32 := 16#32
  let v1424 : BitVec 32 := Scalar.remsi v1423 c16_i32_1465
  let c1_i32_1467 : BitVec 32 := 1#32
  let v1425 : BitVec 32 := Scalar.muli v1424 c1_i32_1467
  let v1426 : BitVec 32 := Scalar.addi c0_i32_1468 v1425
  v1426.toNat
def k0_dev70 (d3 : Dev nD) : Nat :=
  let c0_i32_1475 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c10_i32_1471 : BitVec 32 := 10#32
  let v1433 : BitVec 32 := Scalar.addi v5 c10_i32_1471
  let c16_i32_1472 : BitVec 32 := 16#32
  let v1434 : BitVec 32 := Scalar.remsi v1433 c16_i32_1472
  let c1_i32_1474 : BitVec 32 := 1#32
  let v1435 : BitVec 32 := Scalar.muli v1434 c1_i32_1474
  let v1436 : BitVec 32 := Scalar.addi c0_i32_1475 v1435
  v1436.toNat
def k0_dev71 (d3 : Dev nD) : Nat :=
  let c0_i32_1482 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c11_i32_1478 : BitVec 32 := 11#32
  let v1443 : BitVec 32 := Scalar.addi v5 c11_i32_1478
  let c16_i32_1479 : BitVec 32 := 16#32
  let v1444 : BitVec 32 := Scalar.remsi v1443 c16_i32_1479
  let c1_i32_1481 : BitVec 32 := 1#32
  let v1445 : BitVec 32 := Scalar.muli v1444 c1_i32_1481
  let v1446 : BitVec 32 := Scalar.addi c0_i32_1482 v1445
  v1446.toNat
def k0_dev72 (d3 : Dev nD) : Nat :=
  let c0_i32_1489 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c12_i32_1485 : BitVec 32 := 12#32
  let v1453 : BitVec 32 := Scalar.addi v5 c12_i32_1485
  let c16_i32_1486 : BitVec 32 := 16#32
  let v1454 : BitVec 32 := Scalar.remsi v1453 c16_i32_1486
  let c1_i32_1488 : BitVec 32 := 1#32
  let v1455 : BitVec 32 := Scalar.muli v1454 c1_i32_1488
  let v1456 : BitVec 32 := Scalar.addi c0_i32_1489 v1455
  v1456.toNat
def k0_dev73 (d3 : Dev nD) : Nat :=
  let c0_i32_1496 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c13_i32_1492 : BitVec 32 := 13#32
  let v1463 : BitVec 32 := Scalar.addi v5 c13_i32_1492
  let c16_i32_1493 : BitVec 32 := 16#32
  let v1464 : BitVec 32 := Scalar.remsi v1463 c16_i32_1493
  let c1_i32_1495 : BitVec 32 := 1#32
  let v1465 : BitVec 32 := Scalar.muli v1464 c1_i32_1495
  let v1466 : BitVec 32 := Scalar.addi c0_i32_1496 v1465
  v1466.toNat
def k0_dev74 (d3 : Dev nD) : Nat :=
  let c0_i32_1503 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c14_i32_1499 : BitVec 32 := 14#32
  let v1473 : BitVec 32 := Scalar.addi v5 c14_i32_1499
  let c16_i32_1500 : BitVec 32 := 16#32
  let v1474 : BitVec 32 := Scalar.remsi v1473 c16_i32_1500
  let c1_i32_1502 : BitVec 32 := 1#32
  let v1475 : BitVec 32 := Scalar.muli v1474 c1_i32_1502
  let v1476 : BitVec 32 := Scalar.addi c0_i32_1503 v1475
  v1476.toNat
def k0_dev75 (d3 : Dev nD) : Nat :=
  let c0_i32_1509 : BitVec 32 := 0#32
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let c15_i32 : BitVec 32 := 15#32
  let v1483 : BitVec 32 := Scalar.addi v5 c15_i32
  let c16_i32_1506 : BitVec 32 := 16#32
  let v1484 : BitVec 32 := Scalar.remsi v1483 c16_i32_1506
  let c1_i32_1508 : BitVec 32 := 1#32
  let v1485 : BitVec 32 := Scalar.muli v1484 c1_i32_1508
  let v1486 : BitVec 32 := Scalar.addi c0_i32_1509 v1485
  v1486.toNat
def k0_off7 (d3 : Dev nD) (c1_i32_1512 : BitVec 32) : Fin 1 → Nat :=
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let v1493 : BitVec 32 := Scalar.addi v5 c1_i32_1512
  let c16_i32_1513 : BitVec 32 := 16#32
  let v1494 : BitVec 32 := Scalar.remsi v1493 c16_i32_1513
  ![v1494.toNat]
def k0_off8 (d3 : Dev nD) (c1_i32_1512 : BitVec 32) : Fin 2 → Nat :=
  let v3 : BitVec 32 := Dev.word d3
  let c1_i32 : BitVec 32 := 1#32
  let v4 : BitVec 32 := Scalar.divsi v3 c1_i32
  let c16_i32 : BitVec 32 := 16#32
  let v5 : BitVec 32 := Scalar.remsi v4 c16_i32
  let v1493 : BitVec 32 := Scalar.addi v5 c1_i32_1512
  let c16_i32_1513 : BitVec 32 := 16#32
  let v1494 : BitVec 32 := Scalar.remsi v1493 c16_i32_1513
  let c0_i32_1517 : BitVec 32 := 0#32
  ![v1494.toNat, 0]
def k0_off9 (v0 : BitVec 32) : Fin 2 → Nat :=
  let c256_i32_1688 : BitVec 32 := 256#32
  let v1694 : BitVec 32 := Scalar.muli v0 c256_i32_1688
  let c0_i32_1689 : BitVec 32 := 0#32
  ![v1694.toNat, 0]
def k0_off10 (v0 : BitVec 32) (c32_i32 : BitVec 32) : Fin 2 → Nat :=
  let v1697 : BitVec 32 := Scalar.addi v0 c32_i32
  let c16_i32_1691 : BitVec 32 := 16#32
  let v1698 : BitVec 32 := Scalar.remsi v1697 c16_i32_1691
  let c256_i32_1695 : BitVec 32 := 256#32
  let v1702 : BitVec 32 := Scalar.muli v1698 c256_i32_1695
  let c0_i32_1702 : BitVec 32 := 0#32
  ![v1702.toNat, 0]
def k0_dev76 (v2 : BitVec 32) : Nat :=
  let c0_i32_1701 : BitVec 32 := 0#32
  let c1_i32_1700 : BitVec 32 := 1#32
  let v1705 : BitVec 32 := Scalar.muli v2 c1_i32_1700
  let v1706 : BitVec 32 := Scalar.addi c0_i32_1701 v1705
  v1706.toNat
def k0_off11 (v0 : BitVec 32) (c0_i32_1692 : BitVec 32) : Fin 2 → Nat :=
  let v1699 : BitVec 32 := Scalar.addi v0 c0_i32_1692
  let c16_i32_1693 : BitVec 32 := 16#32
  let v1700 : BitVec 32 := Scalar.remsi v1699 c16_i32_1693
  let c256_i32_1697 : BitVec 32 := 256#32
  let v1704 : BitVec 32 := Scalar.muli v1700 c256_i32_1697
  let c4096_i32 : BitVec 32 := 4096#32
  ![v1704.toNat, 4096]

def k0_chk3 (v0 : BitVec 32) : Prop :=
  (∀ (r : Fin 15), ∀ a, (k0_off1 v0 (BitVec.ofNat 32 (17 + r.val))) a + S256x256.size a ≤ S4096x256.size a) ∧
  (∀ (r : Fin 15), ∀ a, (k0_off2 v0 (BitVec.ofNat 32 r.val)) a + S256x256.size a ≤ S4096x256.size a) ∧
  (∀ a, (k0_off3 v0) a + S256x256.size a ≤ S4096x256.size a) ∧
  (∀ a, (k0_off9 v0) a + S256x8192.size a ≤ S4096x8192.size a) ∧
  (∀ (hinb : ∀ a, (k0_off9 v0) a + S256x8192.size a ≤ S4096x8192.size a), (Rect.unit (s := S4096x8192) (k0_off9 v0) S256x8192.size hinb).WholeWords (EltTy.packing .bf16)) ∧
  (∀ (r : Fin 15), ∀ a, (k0_off10 v0 (BitVec.ofNat 32 (18 + r.val))) a + S256x4096.size a ≤ S4096x8192.size a) ∧
  (∀ (r : Fin 15), ∀ (hinb : ∀ a, (k0_off10 v0 (BitVec.ofNat 32 (18 + r.val))) a + S256x4096.size a ≤ S4096x8192.size a), (Rect.unit (s := S4096x8192) (k0_off10 v0 (BitVec.ofNat 32 (18 + r.val))) S256x4096.size hinb).WholeWords (EltTy.packing .bf16)) ∧
  (∀ (r : Fin 15), ∀ a, (k0_off11 v0 (BitVec.ofNat 32 r.val)) a + S256x4096.size a ≤ S4096x8192.size a) ∧
  (∀ (r : Fin 15), ∀ (hinb : ∀ a, (k0_off11 v0 (BitVec.ofNat 32 r.val)) a + S256x4096.size a ≤ S4096x8192.size a), (Rect.unit (s := S4096x8192) (k0_off11 v0 (BitVec.ofNat 32 r.val)) S256x4096.size hinb).WholeWords (EltTy.packing .bf16))
theorem k0_off1_inb : ∀ (v0 : BitVec 32) (k0_hw3 : k0_chk3 v0), ∀ (r : Fin 15), ∀ a, (k0_off1 v0 (BitVec.ofNat 32 (17 + r.val))) a + S256x256.size a ≤ S4096x256.size a := fun v0 k0_hw3 r => k0_hw3.1 r
theorem k0_off2_inb : ∀ (v0 : BitVec 32) (k0_hw3 : k0_chk3 v0), ∀ (r : Fin 15), ∀ a, (k0_off2 v0 (BitVec.ofNat 32 r.val)) a + S256x256.size a ≤ S4096x256.size a := fun v0 k0_hw3 r => k0_hw3.2.1 r
theorem k0_off3_inb : ∀ (v0 : BitVec 32) (k0_hw3 : k0_chk3 v0), ∀ a, (k0_off3 v0) a + S256x256.size a ≤ S4096x256.size a := fun v0 k0_hw3 => k0_hw3.2.2.1
theorem k0_off9_inb : ∀ (v0 : BitVec 32) (k0_hw3 : k0_chk3 v0), ∀ a, (k0_off9 v0) a + S256x8192.size a ≤ S4096x8192.size a := fun v0 k0_hw3 => k0_hw3.2.2.2.1
theorem k0_off9_wordsbf16 : ∀ (v0 : BitVec 32) (k0_hw3 : k0_chk3 v0), (Rect.unit (s := S4096x8192) (k0_off9 v0) S256x8192.size (k0_off9_inb v0 k0_hw3)).WholeWords (EltTy.packing .bf16) := fun v0 k0_hw3 => k0_hw3.2.2.2.2.1 (k0_off9_inb v0 k0_hw3)
theorem k0_off10_inb : ∀ (v0 : BitVec 32) (k0_hw3 : k0_chk3 v0), ∀ (r : Fin 15), ∀ a, (k0_off10 v0 (BitVec.ofNat 32 (18 + r.val))) a + S256x4096.size a ≤ S4096x8192.size a := fun v0 k0_hw3 r => k0_hw3.2.2.2.2.2.1 r
theorem k0_off10_wordsbf16 : ∀ (v0 : BitVec 32) (k0_hw3 : k0_chk3 v0), ∀ (r : Fin 15), (Rect.unit (s := S4096x8192) (k0_off10 v0 (BitVec.ofNat 32 (18 + r.val))) S256x4096.size (k0_off10_inb v0 k0_hw3 r)).WholeWords (EltTy.packing .bf16) := fun v0 k0_hw3 r => k0_hw3.2.2.2.2.2.2.1 r (k0_off10_inb v0 k0_hw3 r)
theorem k0_off11_inb : ∀ (v0 : BitVec 32) (k0_hw3 : k0_chk3 v0), ∀ (r : Fin 15), ∀ a, (k0_off11 v0 (BitVec.ofNat 32 r.val)) a + S256x4096.size a ≤ S4096x8192.size a := fun v0 k0_hw3 r => k0_hw3.2.2.2.2.2.2.2.1 r
theorem k0_off11_wordsbf16 : ∀ (v0 : BitVec 32) (k0_hw3 : k0_chk3 v0), ∀ (r : Fin 15), (Rect.unit (s := S4096x8192) (k0_off11 v0 (BitVec.ofNat 32 r.val)) S256x4096.size (k0_off11_inb v0 k0_hw3 r)).WholeWords (EltTy.packing .bf16) := fun v0 k0_hw3 r => k0_hw3.2.2.2.2.2.2.2.2 r (k0_off11_inb v0 k0_hw3 r)

def k0_dev77 (v1 : BitVec 32) : Nat :=
  let c0_i32_1707 : BitVec 32 := 0#32
  let c1_i32_1706 : BitVec 32 := 1#32
  let v1713 : BitVec 32 := Scalar.muli v1 c1_i32_1706
  let v1714 : BitVec 32 := Scalar.addi c0_i32_1707 v1713
  v1714.toNat
def k0_dev78 (v2 : BitVec 32) : Nat :=
  let c0_i32_1742 : BitVec 32 := 0#32
  let c1_i32_1741 : BitVec 32 := 1#32
  let v1749 : BitVec 32 := Scalar.muli v2 c1_i32_1741
  let v1750 : BitVec 32 := Scalar.addi c0_i32_1742 v1749
  v1750.toNat
def k0_dev79 (v1 : BitVec 32) : Nat :=
  let c0_i32_1748 : BitVec 32 := 0#32
  let c1_i32_1747 : BitVec 32 := 1#32
  let v1757 : BitVec 32 := Scalar.muli v1 c1_i32_1747
  let v1758 : BitVec 32 := Scalar.addi c0_i32_1748 v1757
  v1758.toNat
def k0_dev80 (v2 : BitVec 32) : Nat :=
  let c0_i32_1784 : BitVec 32 := 0#32
  let c1_i32_1783 : BitVec 32 := 1#32
  let v1793 : BitVec 32 := Scalar.muli v2 c1_i32_1783
  let v1794 : BitVec 32 := Scalar.addi c0_i32_1784 v1793
  v1794.toNat
def k0_dev81 (v1 : BitVec 32) : Nat :=
  let c0_i32_1790 : BitVec 32 := 0#32
  let c1_i32_1789 : BitVec 32 := 1#32
  let v1801 : BitVec 32 := Scalar.muli v1 c1_i32_1789
  let v1802 : BitVec 32 := Scalar.addi c0_i32_1790 v1801
  v1802.toNat
def k0_dev82 (v2 : BitVec 32) : Nat :=
  let c0_i32_1826 : BitVec 32 := 0#32
  let c1_i32_1825 : BitVec 32 := 1#32
  let v1837 : BitVec 32 := Scalar.muli v2 c1_i32_1825
  let v1838 : BitVec 32 := Scalar.addi c0_i32_1826 v1837
  v1838.toNat
def k0_dev83 (v1 : BitVec 32) : Nat :=
  let c0_i32_1832 : BitVec 32 := 0#32
  let c1_i32_1831 : BitVec 32 := 1#32
  let v1845 : BitVec 32 := Scalar.muli v1 c1_i32_1831
  let v1846 : BitVec 32 := Scalar.addi c0_i32_1832 v1845
  v1846.toNat
def k0_dev84 (v2 : BitVec 32) : Nat :=
  let c0_i32_1868 : BitVec 32 := 0#32
  let c1_i32_1867 : BitVec 32 := 1#32
  let v1881 : BitVec 32 := Scalar.muli v2 c1_i32_1867
  let v1882 : BitVec 32 := Scalar.addi c0_i32_1868 v1881
  v1882.toNat
def k0_dev85 (v1 : BitVec 32) : Nat :=
  let c0_i32_1874 : BitVec 32 := 0#32
  let c1_i32_1873 : BitVec 32 := 1#32
  let v1889 : BitVec 32 := Scalar.muli v1 c1_i32_1873
  let v1890 : BitVec 32 := Scalar.addi c0_i32_1874 v1889
  v1890.toNat
def k0_dev86 (v2 : BitVec 32) : Nat :=
  let c0_i32_1910 : BitVec 32 := 0#32
  let c1_i32_1909 : BitVec 32 := 1#32
  let v1925 : BitVec 32 := Scalar.muli v2 c1_i32_1909
  let v1926 : BitVec 32 := Scalar.addi c0_i32_1910 v1925
  v1926.toNat
def k0_dev87 (v1 : BitVec 32) : Nat :=
  let c0_i32_1916 : BitVec 32 := 0#32
  let c1_i32_1915 : BitVec 32 := 1#32
  let v1933 : BitVec 32 := Scalar.muli v1 c1_i32_1915
  let v1934 : BitVec 32 := Scalar.addi c0_i32_1916 v1933
  v1934.toNat
def k0_dev88 (v2 : BitVec 32) : Nat :=
  let c0_i32_1952 : BitVec 32 := 0#32
  let c1_i32_1951 : BitVec 32 := 1#32
  let v1969 : BitVec 32 := Scalar.muli v2 c1_i32_1951
  let v1970 : BitVec 32 := Scalar.addi c0_i32_1952 v1969
  v1970.toNat
def k0_dev89 (v1 : BitVec 32) : Nat :=
  let c0_i32_1958 : BitVec 32 := 0#32
  let c1_i32_1957 : BitVec 32 := 1#32
  let v1977 : BitVec 32 := Scalar.muli v1 c1_i32_1957
  let v1978 : BitVec 32 := Scalar.addi c0_i32_1958 v1977
  v1978.toNat
def k0_dev90 (v2 : BitVec 32) : Nat :=
  let c0_i32_1994 : BitVec 32 := 0#32
  let c1_i32_1993 : BitVec 32 := 1#32
  let v2013 : BitVec 32 := Scalar.muli v2 c1_i32_1993
  let v2014 : BitVec 32 := Scalar.addi c0_i32_1994 v2013
  v2014.toNat
def k0_dev91 (v1 : BitVec 32) : Nat :=
  let c0_i32_2000 : BitVec 32 := 0#32
  let c1_i32_1999 : BitVec 32 := 1#32
  let v2021 : BitVec 32 := Scalar.muli v1 c1_i32_1999
  let v2022 : BitVec 32 := Scalar.addi c0_i32_2000 v2021
  v2022.toNat
def k0_dev92 (v2 : BitVec 32) : Nat :=
  let c0_i32_2036 : BitVec 32 := 0#32
  let c1_i32_2035 : BitVec 32 := 1#32
  let v2057 : BitVec 32 := Scalar.muli v2 c1_i32_2035
  let v2058 : BitVec 32 := Scalar.addi c0_i32_2036 v2057
  v2058.toNat
def k0_dev93 (v1 : BitVec 32) : Nat :=
  let c0_i32_2042 : BitVec 32 := 0#32
  let c1_i32_2041 : BitVec 32 := 1#32
  let v2065 : BitVec 32 := Scalar.muli v1 c1_i32_2041
  let v2066 : BitVec 32 := Scalar.addi c0_i32_2042 v2065
  v2066.toNat
def k0_dev94 (v2 : BitVec 32) : Nat :=
  let c0_i32_2078 : BitVec 32 := 0#32
  let c1_i32_2077 : BitVec 32 := 1#32
  let v2101 : BitVec 32 := Scalar.muli v2 c1_i32_2077
  let v2102 : BitVec 32 := Scalar.addi c0_i32_2078 v2101
  v2102.toNat
def k0_dev95 (v1 : BitVec 32) : Nat :=
  let c0_i32_2084 : BitVec 32 := 0#32
  let c1_i32_2083 : BitVec 32 := 1#32
  let v2109 : BitVec 32 := Scalar.muli v1 c1_i32_2083
  let v2110 : BitVec 32 := Scalar.addi c0_i32_2084 v2109
  v2110.toNat
def k0_dev96 (v2 : BitVec 32) : Nat :=
  let c0_i32_2120 : BitVec 32 := 0#32
  let c1_i32_2119 : BitVec 32 := 1#32
  let v2145 : BitVec 32 := Scalar.muli v2 c1_i32_2119
  let v2146 : BitVec 32 := Scalar.addi c0_i32_2120 v2145
  v2146.toNat
def k0_dev97 (v1 : BitVec 32) : Nat :=
  let c0_i32_2126 : BitVec 32 := 0#32
  let c1_i32_2125 : BitVec 32 := 1#32
  let v2153 : BitVec 32 := Scalar.muli v1 c1_i32_2125
  let v2154 : BitVec 32 := Scalar.addi c0_i32_2126 v2153
  v2154.toNat
def k0_dev98 (v2 : BitVec 32) : Nat :=
  let c0_i32_2162 : BitVec 32 := 0#32
  let c1_i32_2161 : BitVec 32 := 1#32
  let v2189 : BitVec 32 := Scalar.muli v2 c1_i32_2161
  let v2190 : BitVec 32 := Scalar.addi c0_i32_2162 v2189
  v2190.toNat
def k0_dev99 (v1 : BitVec 32) : Nat :=
  let c0_i32_2168 : BitVec 32 := 0#32
  let c1_i32_2167 : BitVec 32 := 1#32
  let v2197 : BitVec 32 := Scalar.muli v1 c1_i32_2167
  let v2198 : BitVec 32 := Scalar.addi c0_i32_2168 v2197
  v2198.toNat
def k0_dev100 (v2 : BitVec 32) : Nat :=
  let c0_i32_2204 : BitVec 32 := 0#32
  let c1_i32_2203 : BitVec 32 := 1#32
  let v2233 : BitVec 32 := Scalar.muli v2 c1_i32_2203
  let v2234 : BitVec 32 := Scalar.addi c0_i32_2204 v2233
  v2234.toNat
def k0_dev101 (v1 : BitVec 32) : Nat :=
  let c0_i32_2210 : BitVec 32 := 0#32
  let c1_i32_2209 : BitVec 32 := 1#32
  let v2241 : BitVec 32 := Scalar.muli v1 c1_i32_2209
  let v2242 : BitVec 32 := Scalar.addi c0_i32_2210 v2241
  v2242.toNat
def k0_dev102 (v2 : BitVec 32) : Nat :=
  let c0_i32_2246 : BitVec 32 := 0#32
  let c1_i32_2245 : BitVec 32 := 1#32
  let v2277 : BitVec 32 := Scalar.muli v2 c1_i32_2245
  let v2278 : BitVec 32 := Scalar.addi c0_i32_2246 v2277
  v2278.toNat
def k0_dev103 (v1 : BitVec 32) : Nat :=
  let c0_i32_2252 : BitVec 32 := 0#32
  let c1_i32_2251 : BitVec 32 := 1#32
  let v2285 : BitVec 32 := Scalar.muli v1 c1_i32_2251
  let v2286 : BitVec 32 := Scalar.addi c0_i32_2252 v2285
  v2286.toNat
def k0_dev104 (v2 : BitVec 32) : Nat :=
  let c0_i32_2288 : BitVec 32 := 0#32
  let c1_i32_2287 : BitVec 32 := 1#32
  let v2321 : BitVec 32 := Scalar.muli v2 c1_i32_2287
  let v2322 : BitVec 32 := Scalar.addi c0_i32_2288 v2321
  v2322.toNat

def k0_chk2_0 (v2 : BitVec 32) : Prop :=
  ((k0_dev2 v2) < nD) ∧
  ((k0_dev3 v2) < nD) ∧
  ((k0_dev6 v2) < nD) ∧
  ((k0_dev7 v2) < nD) ∧
  ((k0_dev10 v2) < nD) ∧
  ((k0_dev11 v2) < nD) ∧
  ((k0_dev14 v2) < nD) ∧
  ((k0_dev15 v2) < nD) ∧
  ((k0_dev18 v2) < nD) ∧
  ((k0_dev19 v2) < nD) ∧
  ((k0_dev22 v2) < nD) ∧
  ((k0_dev23 v2) < nD) ∧
  ((k0_dev26 v2) < nD) ∧
  ((k0_dev27 v2) < nD) ∧
  ((k0_dev30 v2) < nD) ∧
  ((k0_dev31 v2) < nD) ∧
  ((k0_dev34 v2) < nD) ∧
  ((k0_dev35 v2) < nD) ∧
  ((k0_dev38 v2) < nD) ∧
  ((k0_dev39 v2) < nD) ∧
  ((k0_dev42 v2) < nD) ∧
  ((k0_dev43 v2) < nD) ∧
  ((k0_dev46 v2) < nD) ∧
  ((k0_dev47 v2) < nD) ∧
  ((k0_dev50 v2) < nD) ∧
  ((k0_dev51 v2) < nD) ∧
  ((k0_dev54 v2) < nD) ∧
  ((k0_dev55 v2) < nD) ∧
  ((k0_dev58 v2) < nD) ∧
  ((k0_dev59 v2) < nD) ∧
  ((k0_dev76 v2) < nD) ∧
  ((k0_dev78 v2) < nD)
def k0_chk2_1 (v2 : BitVec 32) : Prop :=
  ((k0_dev80 v2) < nD) ∧
  ((k0_dev82 v2) < nD) ∧
  ((k0_dev84 v2) < nD) ∧
  ((k0_dev86 v2) < nD) ∧
  ((k0_dev88 v2) < nD) ∧
  ((k0_dev90 v2) < nD) ∧
  ((k0_dev92 v2) < nD) ∧
  ((k0_dev94 v2) < nD) ∧
  ((k0_dev96 v2) < nD) ∧
  ((k0_dev98 v2) < nD) ∧
  ((k0_dev100 v2) < nD) ∧
  ((k0_dev102 v2) < nD) ∧
  ((k0_dev104 v2) < nD)
def k0_chk2 (v2 : BitVec 32) : Prop :=
  k0_chk2_0 v2 ∧
  k0_chk2_1 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev6_lt : ∀ (v2 : BitVec 32) (k0_hw2 : k0_chk2 v2), (k0_dev6 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev10_lt : ∀ (v2 : BitVec 32) (k0_hw2 : k0_chk2 v2), (k0_dev10 v2) < nD := fun v2 k0_hw2 => k0_hw2.1.2.2.2.2.1
theorem k0_dev11_lt : ∀ (v2 : BitVec 32) (k0_hw2 : k0_chk2 v2), (k0_dev11 v2) < nD := fun v2 k0_hw2 => k0_hw2.1.2.2.2.2.2.1
theorem k0_dev14_lt : ∀ (v2 : BitVec 32) (k0_hw2 : k0_chk2 v2), (k0_dev14 v2) < nD := fun v2 k0_hw2 => k0_hw2.1.2.2.2.2.2.2.1
theorem k0_dev15_lt : ∀ (v2 : BitVec 32) (k0_hw2 : k0_chk2 v2), (k0_dev15 v2) < nD := fun v2 k0_hw2 => k0_hw2.1.2.2.2.2.2.2.2.1
theorem k0_dev18_lt : ∀ (v2 : BitVec 32) (k0_hw2 : k0_chk2 v2), (k0_dev18 v2) < nD := fun v2 k0_hw2 => k0_hw2.1.2.2.2.2.2.2.2.2.1
theorem k0_dev19_lt : ∀ (v2 : BitVec 32) (k0_hw2 : k0_chk2 v2), (k0_dev19 v2) < nD := fun v2 k0_hw2 => k0_hw2.1.2.2.2.2.2.2.2.2.2.1
theorem k0_dev22_lt : ∀ (v2 : BitVec 32) (k0_hw2 : k0_chk2 v2), (k0_dev22 v2) < nD := fun v2 k0_hw2 => k0_hw2.1.2.2.2.2.2.2.2.2.2.2.1
theorem k0_dev23_lt : ∀ (v2 : BitVec 32) (k0_hw2 : k0_chk2 v2), (k0_dev23 v2) < nD := fun v2 k0_hw2 => k0_hw2.1.2.2.2.2.2.2.2.2.2.2.2.1
theorem k0_dev26_lt : ∀ (v2 : BitVec 32) (k0_hw2 : k0_chk2 v2), (k0_dev26 v2) < nD := fun v2 k0_hw2 => k0_hw2.1.2.2.2.2.2.2.2.2.2.2.2.2.1
theorem k0_dev27_lt : ∀ (v2 : BitVec 32) (k0_hw2 : k0_chk2 v2), (k0_dev27 v2) < nD := fun v2 k0_hw2 => k0_hw2.1.2.2.2.2.2.2.2.2.2.2.2.2.2.1
theorem k0_dev30_lt : ∀ (v2 : BitVec 32) (k0_hw2 : k0_chk2 v2), (k0_dev30 v2) < nD := fun v2 k0_hw2 => k0_hw2.1.2.2.2.2.2.2.2.2.2.2.2.2.2.2.1
theorem k0_dev31_lt : ∀ (v2 : BitVec 32) (k0_hw2 : k0_chk2 v2), (k0_dev31 v2) < nD := fun v2 k0_hw2 => k0_hw2.1.2.2.2.2.2.2.2.2.2.2.2.2.2.2.2.1
theorem k0_dev34_lt : ∀ (v2 : BitVec 32) (k0_hw2 : k0_chk2 v2), (k0_dev34 v2) < nD := fun v2 k0_hw2 => k0_hw2.1.2.2.2.2.2.2.2.2.2.2.2.2.2.2.2.2.1
theorem k0_dev35_lt : ∀ (v2 : BitVec 32) (k0_hw2 : k0_chk2 v2), (k0_dev35 v2) < nD := fun v2 k0_hw2 => k0_hw2.1.2.2.2.2.2.2.2.2.2.2.2.2.2.2.2.2.2.1
theorem k0_dev38_lt : ∀ (v2 : BitVec 32) (k0_hw2 : k0_chk2 v2), (k0_dev38 v2) < nD := fun v2 k0_hw2 => k0_hw2.1.2.2.2.2.2.2.2.2.2.2.2.2.2.2.2.2.2.2.1
theorem k0_dev39_lt : ∀ (v2 : BitVec 32) (k0_hw2 : k0_chk2 v2), (k0_dev39 v2) < nD := fun v2 k0_hw2 => k0_hw2.1.2.2.2.2.2.2.2.2.2.2.2.2.2.2.2.2.2.2.2.1
theorem k0_dev42_lt : ∀ (v2 : BitVec 32) (k0_hw2 : k0_chk2 v2), (k0_dev42 v2) < nD := fun v2 k0_hw2 => k0_hw2.1.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.1.2.2.2.2.2.2.2.2.2.2.2.2.2.2.2.2.2.2.2.2.2.1
theorem k0_dev46_lt : ∀ (v2 : BitVec 32) (k0_hw2 : k0_chk2 v2), (k0_dev46 v2) < nD := fun v2 k0_hw2 => k0_hw2.1.2.2.2.2.2.2.2.2.2.2.2.2.2.2.2.2.2.2.2.2.2.2.1
theorem k0_dev47_lt : ∀ (v2 : BitVec 32) (k0_hw2 : k0_chk2 v2), (k0_dev47 v2) < nD := fun v2 k0_hw2 => k0_hw2.1.2.2.2.2.2.2.2.2.2.2.2.2.2.2.2.2.2.2.2.2.2.2.2.1
theorem k0_dev50_lt : ∀ (v2 : BitVec 32) (k0_hw2 : k0_chk2 v2), (k0_dev50 v2) < nD := fun v2 k0_hw2 => k0_hw2.1.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.1.2.2.2.2.2.2.2.2.2.2.2.2.2.2.2.2.2.2.2.2.2.2.2.2.2.1
theorem k0_dev54_lt : ∀ (v2 : BitVec 32) (k0_hw2 : k0_chk2 v2), (k0_dev54 v2) < nD := fun v2 k0_hw2 => k0_hw2.1.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.1.2.2.2.2.2.2.2.2.2.2.2.2.2.2.2.2.2.2.2.2.2.2.2.2.2.2.2.1
theorem k0_dev58_lt : ∀ (v2 : BitVec 32) (k0_hw2 : k0_chk2 v2), (k0_dev58 v2) < nD := fun v2 k0_hw2 => k0_hw2.1.2.2.2.2.2.2.2.2.2.2.2.2.2.2.2.2.2.2.2.2.2.2.2.2.2.2.2.2.1
theorem k0_dev59_lt : ∀ (v2 : BitVec 32) (k0_hw2 : k0_chk2 v2), (k0_dev59 v2) < nD := fun v2 k0_hw2 => k0_hw2.1.2.2.2.2.2.2.2.2.2.2.2.2.2.2.2.2.2.2.2.2.2.2.2.2.2.2.2.2.2.1
theorem k0_dev76_lt : ∀ (v2 : BitVec 32) (k0_hw2 : k0_chk2 v2), (k0_dev76 v2) < nD := fun v2 k0_hw2 => k0_hw2.1.2.2.2.2.2.2.2.2.2.2.2.2.2.2.2.2.2.2.2.2.2.2.2.2.2.2.2.2.2.2.1
theorem k0_dev78_lt : ∀ (v2 : BitVec 32) (k0_hw2 : k0_chk2 v2), (k0_dev78 v2) < nD := fun v2 k0_hw2 => k0_hw2.1.2.2.2.2.2.2.2.2.2.2.2.2.2.2.2.2.2.2.2.2.2.2.2.2.2.2.2.2.2.2.2
theorem k0_dev80_lt : ∀ (v2 : BitVec 32) (k0_hw2 : k0_chk2 v2), (k0_dev80 v2) < nD := fun v2 k0_hw2 => k0_hw2.2.1
theorem k0_dev82_lt : ∀ (v2 : BitVec 32) (k0_hw2 : k0_chk2 v2), (k0_dev82 v2) < nD := fun v2 k0_hw2 => k0_hw2.2.2.1
theorem k0_dev84_lt : ∀ (v2 : BitVec 32) (k0_hw2 : k0_chk2 v2), (k0_dev84 v2) < nD := fun v2 k0_hw2 => k0_hw2.2.2.2.1
theorem k0_dev86_lt : ∀ (v2 : BitVec 32) (k0_hw2 : k0_chk2 v2), (k0_dev86 v2) < nD := fun v2 k0_hw2 => k0_hw2.2.2.2.2.1
theorem k0_dev88_lt : ∀ (v2 : BitVec 32) (k0_hw2 : k0_chk2 v2), (k0_dev88 v2) < nD := fun v2 k0_hw2 => k0_hw2.2.2.2.2.2.1
theorem k0_dev90_lt : ∀ (v2 : BitVec 32) (k0_hw2 : k0_chk2 v2), (k0_dev90 v2) < nD := fun v2 k0_hw2 => k0_hw2.2.2.2.2.2.2.1
theorem k0_dev92_lt : ∀ (v2 : BitVec 32) (k0_hw2 : k0_chk2 v2), (k0_dev92 v2) < nD := fun v2 k0_hw2 => k0_hw2.2.2.2.2.2.2.2.1
theorem k0_dev94_lt : ∀ (v2 : BitVec 32) (k0_hw2 : k0_chk2 v2), (k0_dev94 v2) < nD := fun v2 k0_hw2 => k0_hw2.2.2.2.2.2.2.2.2.1
theorem k0_dev96_lt : ∀ (v2 : BitVec 32) (k0_hw2 : k0_chk2 v2), (k0_dev96 v2) < nD := fun v2 k0_hw2 => k0_hw2.2.2.2.2.2.2.2.2.2.1
theorem k0_dev98_lt : ∀ (v2 : BitVec 32) (k0_hw2 : k0_chk2 v2), (k0_dev98 v2) < nD := fun v2 k0_hw2 => k0_hw2.2.2.2.2.2.2.2.2.2.2.1
theorem k0_dev100_lt : ∀ (v2 : BitVec 32) (k0_hw2 : k0_chk2 v2), (k0_dev100 v2) < nD := fun v2 k0_hw2 => k0_hw2.2.2.2.2.2.2.2.2.2.2.2.1
theorem k0_dev102_lt : ∀ (v2 : BitVec 32) (k0_hw2 : k0_chk2 v2), (k0_dev102 v2) < nD := fun v2 k0_hw2 => k0_hw2.2.2.2.2.2.2.2.2.2.2.2.2.1
theorem k0_dev104_lt : ∀ (v2 : BitVec 32) (k0_hw2 : k0_chk2 v2), (k0_dev104 v2) < nD := fun v2 k0_hw2 => k0_hw2.2.2.2.2.2.2.2.2.2.2.2.2.2

def k0_dev105 (v1 : BitVec 32) : Nat :=
  let c0_i32_2294 : BitVec 32 := 0#32
  let c1_i32_2293 : BitVec 32 := 1#32
  let v2329 : BitVec 32 := Scalar.muli v1 c1_i32_2293
  let v2330 : BitVec 32 := Scalar.addi c0_i32_2294 v2329
  v2330.toNat

def k0_chk1_0 (v1 : BitVec 32) : Prop :=
  ((k0_dev1 v1) < nD) ∧
  ((k0_dev4 v1) < nD) ∧
  ((k0_dev5 v1) < nD) ∧
  ((k0_dev8 v1) < nD) ∧
  ((k0_dev9 v1) < nD) ∧
  ((k0_dev12 v1) < nD) ∧
  ((k0_dev13 v1) < nD) ∧
  ((k0_dev16 v1) < nD) ∧
  ((k0_dev17 v1) < nD) ∧
  ((k0_dev20 v1) < nD) ∧
  ((k0_dev21 v1) < nD) ∧
  ((k0_dev24 v1) < nD) ∧
  ((k0_dev25 v1) < nD) ∧
  ((k0_dev28 v1) < nD) ∧
  ((k0_dev29 v1) < nD) ∧
  ((k0_dev32 v1) < nD) ∧
  ((k0_dev33 v1) < nD) ∧
  ((k0_dev36 v1) < nD) ∧
  ((k0_dev37 v1) < nD) ∧
  ((k0_dev40 v1) < nD) ∧
  ((k0_dev41 v1) < nD) ∧
  ((k0_dev44 v1) < nD) ∧
  ((k0_dev45 v1) < nD) ∧
  ((k0_dev48 v1) < nD) ∧
  ((k0_dev49 v1) < nD) ∧
  ((k0_dev52 v1) < nD) ∧
  ((k0_dev53 v1) < nD) ∧
  ((k0_dev56 v1) < nD) ∧
  ((k0_dev57 v1) < nD) ∧
  ((k0_dev60 v1) < nD) ∧
  ((k0_dev77 v1) < nD) ∧
  ((k0_dev79 v1) < nD)
def k0_chk1_1 (v1 : BitVec 32) : Prop :=
  ((k0_dev81 v1) < nD) ∧
  ((k0_dev83 v1) < nD) ∧
  ((k0_dev85 v1) < nD) ∧
  ((k0_dev87 v1) < nD) ∧
  ((k0_dev89 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev5_lt : ∀ (v1 : BitVec 32) (k0_hw1 : k0_chk1 v1), (k0_dev5 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev9_lt : ∀ (v1 : BitVec 32) (k0_hw1 : k0_chk1 v1), (k0_dev9 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev13_lt : ∀ (v1 : BitVec 32) (k0_hw1 : k0_chk1 v1), (k0_dev13 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev21_lt : ∀ (v1 : BitVec 32) (k0_hw1 : k0_chk1 v1), (k0_dev21 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev37_lt : ∀ (v1 : BitVec 32) (k0_hw1 : k0_chk1 v1), (k0_dev37 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev77_lt : ∀ (v1 : BitVec 32) (k0_hw1 : k0_chk1 v1), (k0_dev77 v1) < nD := fun v1 k0_hw1 => k0_hw1.1.2.2.2.2.2.2.2.2.2.2.2.2.2.2.2.2.2.2.2.2.2.2.2.2.2.2.2.2.2.2.1
theorem k0_dev79_lt : ∀ (v1 : BitVec 32) (k0_hw1 : k0_chk1 v1), (k0_dev79 v1) < nD := fun v1 k0_hw1 => k0_hw1.1.2.2.2.2.2.2.2.2.2.2.2.2.2.2.2.2.2.2.2.2.2.2.2.2.2.2.2.2.2.2.2
theorem k0_dev81_lt : ∀ (v1 : BitVec 32) (k0_hw1 : k0_chk1 v1), (k0_dev81 v1) < nD := fun v1 k0_hw1 => k0_hw1.2.1
theorem k0_dev83_lt : ∀ (v1 : BitVec 32) (k0_hw1 : k0_chk1 v1), (k0_dev83 v1) < nD := fun v1 k0_hw1 => k0_hw1.2.2.1
theorem k0_dev85_lt : ∀ (v1 : BitVec 32) (k0_hw1 : k0_chk1 v1), (k0_dev85 v1) < nD := fun v1 k0_hw1 => k0_hw1.2.2.2.1
theorem k0_dev87_lt : ∀ (v1 : BitVec 32) (k0_hw1 : k0_chk1 v1), (k0_dev87 v1) < nD := fun v1 k0_hw1 => k0_hw1.2.2.2.2.1
theorem k0_dev89_lt : ∀ (v1 : BitVec 32) (k0_hw1 : k0_chk1 v1), (k0_dev89 v1) < nD := fun v1 k0_hw1 => k0_hw1.2.2.2.2.2.1
theorem k0_dev91_lt : ∀ (v1 : BitVec 32) (k0_hw1 : k0_chk1 v1), (k0_dev91 v1) < nD := fun v1 k0_hw1 => k0_hw1.2.2.2.2.2.2.1
theorem k0_dev93_lt : ∀ (v1 : BitVec 32) (k0_hw1 : k0_chk1 v1), (k0_dev93 v1) < nD := fun v1 k0_hw1 => k0_hw1.2.2.2.2.2.2.2.1
theorem k0_dev95_lt : ∀ (v1 : BitVec 32) (k0_hw1 : k0_chk1 v1), (k0_dev95 v1) < nD := fun v1 k0_hw1 => k0_hw1.2.2.2.2.2.2.2.2.1
theorem k0_dev97_lt : ∀ (v1 : BitVec 32) (k0_hw1 : k0_chk1 v1), (k0_dev97 v1) < nD := fun v1 k0_hw1 => k0_hw1.2.2.2.2.2.2.2.2.2.1
theorem k0_dev99_lt : ∀ (v1 : BitVec 32) (k0_hw1 : k0_chk1 v1), (k0_dev99 v1) < nD := fun v1 k0_hw1 => k0_hw1.2.2.2.2.2.2.2.2.2.2.1
theorem k0_dev101_lt : ∀ (v1 : BitVec 32) (k0_hw1 : k0_chk1 v1), (k0_dev101 v1) < nD := fun v1 k0_hw1 => k0_hw1.2.2.2.2.2.2.2.2.2.2.2.1
theorem k0_dev103_lt : ∀ (v1 : BitVec 32) (k0_hw1 : k0_chk1 v1), (k0_dev103 v1) < nD := fun v1 k0_hw1 => k0_hw1.2.2.2.2.2.2.2.2.2.2.2.2.1
theorem k0_dev105_lt : ∀ (v1 : BitVec 32) (k0_hw1 : k0_chk1 v1), (k0_dev105 v1) < nD := fun v1 k0_hw1 => k0_hw1.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Body.lean ====
module

public import proofs.«01_k».proof.Proof.Gen.KernelIdeal.Skeleton

/-! The printed body of the kernel, folded back into its loops: the fifteen hops of the reduce-scatter, the fifteen messages of the
   maximum, the fifteen steps of the gather, each as ONE program in the loop's counter. `cc0_body_eq` says that the printed body is
   this folded one. -/

@[expose] public section

noncomputable section

namespace Cert.KernelIdeal.Proof

open Idealize.ShloMosaic Idealize.SL.Sem Cert.KernelIdeal.Gen

variable {F : FTy → Type} [FloatOps F]

/-- A program of the kernel. -/
abbrev KProg (F : FTy → Type) (α : Type) : Type _ := Prog (TpuEff nD τ sig (Elt F) Λ₀ .tc) α

/-- `f 0`, then `f 1`, …, `n` of them from `i` on. -/
def loop (f : ℕ → KProg F PUnit) : ℕ → ℕ → KProg F PUnit
  | 0, _ => pure ⟨⟩
  | n + 1, i => f i >>= fun _ => loop f n (i + 1)

/-! ### The views -/

theorem inb_slot (b : Fin 2) : ∀ a, (![b.val, 0, 0] : Fin 3 → ℕ) a + S1x256x4096.size a ≤ S2x256x4096.size a := by revert b; decide
theorem inb_sem2 (b : Fin 2) : ∀ a, (![b.val] : Fin 1 → ℕ) a + S1.size a ≤ S2.size a := by revert b; decide
theorem inb_sem15 (b : Fin 15) : ∀ a, (![b.val] : Fin 1 → ℕ) a + S1.size a ≤ S15.size a := by revert b; decide

/-- Slot `b` of a receive buffer. -/
abbrev slotRect (b : Fin 2) : Rect S2x256x4096 := Rect.unit (s := S2x256x4096) ![b.val, 0, 0] S1x256x4096.size (inb_slot b)

theorem words_slot (b : Fin 2) : (slotRect b).WholeWords (EltTy.packing .bf16) := by
  fin_cases b
  · exact wordsbf16_S2x256x4096_S1x256x4096_0_0_0
  · exact wordsbf16_S2x256x4096_S1x256x4096_1_0_0
theorem packed_slot (b : Fin 2) : (slotRect b).PackedRows (EltTy.packing .bf16) := by
  fin_cases b
  · exact packedbf16_S2x256x4096_S1x256x4096_0_0_0
  · exact packedbf16_S2x256x4096_S1x256x4096_1_0_0

/-- Slot `b` of a receive buffer as the copies name it. -/
abbrev slotM (m : Memref sig .tc .vmem S2x256x4096 .bf16) (b : Fin 2) : Memref sig .tc .vmem S256x4096 .bf16 :=
  (m.slice (slotRect b) (fun _ => rfl)).squeeze S256x4096 squeezes_S1x256x4096_S256x4096

theorem slotM_words {m : Memref sig .tc .vmem S2x256x4096 .bf16} (h : m.IsWhole) (b : Fin 2) : (slotM m b).view.WordExact :=
  (h.wordExact_slice rfl _ (words_slot b)).reshape _ _

abbrev sem2 (m : DmaSems sig S2) (b : Fin 2) : DmaSem sig := ((m.slice (Rect.unit (s := S2) ![b.val] S1.size (inb_sem2 b))).squeeze S_ squeezes_S1_S_).sem
abbrev sem15 (m : DmaSems sig S15) (b : Fin 15) : DmaSem sig := ((m.slice (Rect.unit (s := S15) ![b.val] S1.size (inb_sem15 b))).squeeze S_ squeezes_S1_S_).sem

abbrev xM : Memref sig .tc .vmem S4096x256 .bf16 := Memref.whole cc0_stg1_0
abbrev wM : Memref sig .tc .vmem S256x8192 .bf16 := Memref.whole cc0_stg2_0
abbrev metaM : Memref sig .tc .smem S3 .i32 := Memref.whole cc0_stg0_0
abbrev outM : Memref sig .tc .hbm S4096x8192 .bf16 := Memref.whole main_v29
abbrev commR : Memref sig .tc .vmem S2x256x4096 .bf16 := Memref.whole cc0_scratch0
abbrev commL : Memref sig .tc .vmem S2x256x4096 .bf16 := Memref.whole cc0_scratch1
abbrev yM : Memref sig .tc .vmem S256x8192 .f32 := Memref.whole cc0_scratch2
abbrev stM : Memref sig .tc .vmem S256x8192 .bf16 := Memref.whole cc0_scratch3
abbrev amM : Memref sig .tc .vmem S16x128 .f32 := Memref.whole cc0_scratch4

/-- The slot a hop works in, and the other one. -/
def par (h : ℕ) : Fin 2 := ⟨h % 2, Nat.mod_lt _ (by decide)⟩
/-- `h` as one of the fifteen. -/
def fif (h : ℕ) : Fin 15 := ⟨h % 15, Nat.mod_lt _ (by decide)⟩
/-- The fifteen, backwards. -/
def rev (h : ℕ) : Fin 15 := ⟨(14 - h) % 15, Nat.mod_lt _ (by decide)⟩

abbrev leftRect : Rect S256x8192 := Rect.unit (s := S256x8192) ![0, 0] S256x4096.size inb_S256x8192_S256x4096_0_0
abbrev rightRect : Rect S256x8192 := Rect.unit (s := S256x8192) ![0, 4096] S256x4096.size inb_S256x8192_S256x4096_0_4096

/-! ### One hop -/

section hop
variable (v0 : Elt F .i32) (hw3 : k0_chk3 v0) (dL dR : Dev nD)

def loadXR (h : ℕ) : KProg F (Vec F S256x256 .bf16) :=
  Prog.lift (.load xM (Rect.unit (s := S4096x256) (k0_off1 v0 (BitVec.ofNat 32 (17 + (rev h).val))) S256x256.size (k0_off1_inb v0 hw3 (rev h))).toLoadRect (View.loadsAt_vmem h_S256x256))
def loadXL (h : ℕ) : KProg F (Vec F S256x256 .bf16) :=
  Prog.lift (.load xM (Rect.unit (s := S4096x256) (k0_off2 v0 (BitVec.ofNat 32 (fif h).val)) S256x256.size (k0_off2_inb v0 hw3 (fif h))).toLoadRect (View.loadsAt_vmem h_S256x256))
def loadX : KProg F (Vec F S256x256 .bf16) :=
  Prog.lift (.load xM (Rect.unit (s := S4096x256) (k0_off3 v0) S256x256.size (k0_off3_inb v0 hw3)).toLoadRect (View.loadsAt_vmem h_S256x256))
def loadW0 : KProg F (Vec F S256x4096 .bf16) := Prog.lift (.load wM leftRect.toLoadRect (View.loadsAt_vmem h_S256x4096))
def loadW1 : KProg F (Vec F S256x4096 .bf16) := Prog.lift (.load wM rightRect.toLoadRect (View.loadsAt_vmem h_S256x4096))
def loadSlot (m : Memref sig .tc .vmem S2x256x4096 .bf16) (b : Fin 2) : KProg F (Vec F S1x256x4096 .bf16) :=
  Prog.lift (.load m (slotRect b).toLoadRect (View.loadsAt_vmem h_S1x256x4096))
def storeSlot (m : Memref sig .tc .vmem S2x256x4096 .bf16) (hm : m.IsWhole) (b : Fin 2) (v : FVec F S1x256x4096 .bf16) : KProg F PUnit :=
  Prog.lift (.store m (slotRect b) v Finset.univ (View.stores_vmem h_S1x256x4096 (hm.storeExact_slice rfl _ (packed_slot b)) (fun _ => rfl)) (.inl rfl))

/-- The partial sums of hop 0. -/
def accFirst : KProg F PUnit := do
  let x ← loadXR v0 hw3 0
  let w ← loadW0
  let _ ← loadSlot commR (par 0)
  storeSlot commR (Memref.isWhole_whole _) (par 0) (k0_pay2 x w)
  let x ← loadXL v0 hw3 0
  let w ← loadW1
  let _ ← loadSlot commL (par 0)
  storeSlot commL (Memref.isWhole_whole _) (par 0) (k0_pay2 x w)

/-- The partial sums of a later hop, added to what has arrived. -/
def accNext (h : ℕ) : KProg F PUnit := do
  let x ← loadXR v0 hw3 h
  let w ← loadW0
  let a ← loadSlot commR (par h)
  let _ ← loadSlot commR (par h)
  storeSlot commR (Memref.isWhole_whole _) (par h) (k0_pay5 x w a)
  let x ← loadXL v0 hw3 h
  let w ← loadW1
  let a ← loadSlot commL (par h)
  let _ ← loadSlot commL (par h)
  storeSlot commL (Memref.isWhole_whole _) (par h) (k0_pay5 x w a)

def takeCredits : KProg F PUnit := do
  semWaitWord cc0_scratch14.sem 1#32
  semWaitWord cc0_scratch15.sem 1#32

/-- The two copies of a hop, started. -/
def hopStart (h : ℕ) : KProg F PUnit := do
  Prog.lift (.enqueueDma (slotM commR (par h)) (.remote (Dev.tc dR) (slotM commR (par (h + 1))) (.dma (sem2 cc0_scratch5 (par h)))) (.dma (sem2 cc0_scratch7 (par (h + 1)))) (slotM_words (Memref.isWhole_whole _) _) (slotM_words (Memref.isWhole_whole _) _) ⟨⟨rfl, Or.inl rfl⟩, trivial⟩)
  Prog.lift (.enqueueDma (slotM commL (par h)) (.remote (Dev.tc dL) (slotM commL (par (h + 1))) (.dma (sem2 cc0_scratch6 (par h)))) (.dma (sem2 cc0_scratch8 (par (h + 1)))) (slotM_words (Memref.isWhole_whole _) _) (slotM_words (Memref.isWhole_whole _) _) ⟨⟨rfl, Or.inl rfl⟩, trivial⟩)

/-- The four waits of a hop. -/
def hopWait (h : ℕ) : KProg F PUnit := do
  Prog.lift (.waitDma2 (sem2 cc0_scratch5 (par h)) (slotM commR (par (h + 1))) (slotM commR (par h)) (slotM_words (Memref.isWhole_whole _) _) (slotM_words (Memref.isWhole_whole _) _))
  Prog.lift (.waitDma2 (sem2 cc0_scratch7 (par (h + 1))) (slotM commR (par h)) (slotM commR (par (h + 1))) (slotM_words (Memref.isWhole_whole _) _) (slotM_words (Memref.isWhole_whole _) _))
  Prog.lift (.waitDma2 (sem2 cc0_scratch6 (par h)) (slotM commL (par (h + 1))) (slotM commL (par h)) (slotM_words (Memref.isWhole_whole _) _) (slotM_words (Memref.isWhole_whole _) _))
  Prog.lift (.waitDma2 (sem2 cc0_scratch8 (par (h + 1))) (slotM commL (par h)) (slotM commL (par (h + 1))) (slotM_words (Memref.isWhole_whole _) _) (slotM_words (Memref.isWhole_whole _) _))

def giveCredits : KProg F PUnit := do
  semSignalWord dL cc0_scratch14.sem 1#32
  semSignalWord dR cc0_scratch15.sem 1#32

def hopMid (h : ℕ) : KProg F PUnit := do
  accNext v0 hw3 h
  takeCredits
  hopStart dL dR h
  hopWait h
  giveCredits dL dR

def reduceScatter : KProg F PUnit := do
  accFirst v0 hw3
  hopStart dL dR 0
  hopWait 0
  giveCredits dL dR
  loop (hopMid v0 hw3 dL dR) 13 1
  accNext v0 hw3 14
  takeCredits
  hopStart dL dR 14
  hopWait 14

end hop

/-! ### The chunk, its maximum, and the messages of the maximum -/

section amax
variable (d : Dev nD)

abbrev wholeY : Rect S256x8192 := Rect.unit (s := S256x8192) ![0, 0] S256x8192.size inb_S256x8192_S256x8192_0_0
abbrev rowRect : Rect S16x128 := Rect.unit (s := S16x128) (k0_off4 d) S1x128.size (k0_off4_inb d)
abbrev rowM : Memref sig .tc .vmem S1x128 .f32 := amM.slice (Rect.unit (s := S16x128) (k0_off6 d) S1x128.size (k0_off6_inb d)) (fun _ => rfl)
abbrev rowMAt (t : Fin 15) : Memref sig .tc .vmem S1x128 .f32 :=
  amM.slice (Rect.unit (s := S16x128) (k0_off8 d (BitVec.ofNat 32 (1 + t.val))) S1x128.size (k0_off8_inb d t)) (fun _ => rfl)
abbrev amSem : DmaSem sig := ((cc0_scratch12.slice (Rect.unit (s := S16) (k0_off5 d) S1.size (k0_off5_inb d))).squeeze S_ squeezes_S1_S_).sem
abbrev amSemAt (t : Fin 15) : DmaSem sig :=
  ((cc0_scratch12.slice (Rect.unit (s := S16) (k0_off7 d (BitVec.ofNat 32 (1 + t.val))) S1.size (k0_off7_inb d t))).squeeze S_ squeezes_S1_S_).sem

def storeHalves (v0 : Elt F .i32) (hw3 : k0_chk3 v0) : KProg F PUnit := do
  let a ← loadSlot commR 1
  let x ← loadX v0 hw3
  let w ← loadW0
  let _ : Vec F S256x4096 .f32 ← Prog.lift (.load yM leftRect.toLoadRect (View.loadsAt_vmem h_S256x4096))
  Prog.lift (.store yM leftRect (k0_pay43 a x w) Finset.univ (View.stores_vmem_bits_univ h_S256x4096 rfl) (.inl rfl))
  let a ← loadSlot commL 1
  let x ← loadX v0 hw3
  let w ← loadW1
  let _ : Vec F S256x4096 .f32 ← Prog.lift (.load yM rightRect.toLoadRect (View.loadsAt_vmem h_S256x4096))
  Prog.lift (.store yM rightRect (k0_pay43 a x w) Finset.univ (View.stores_vmem_bits_univ h_S256x4096 rfl) (.inl rfl))

def storeMax : KProg F PUnit := do
  let y : Vec F S256x8192 .f32 ← Prog.lift (.load yM wholeY.toLoadRect (View.loadsAt_vmem h_S256x8192))
  let _ : Vec F S1x128 .f32 ← Prog.lift (.load amM (rowRect d).toLoadRect (View.loadsAt_vmem h_S1x128))
  Prog.lift (.store amM (rowRect d) (k0_pay46 y) Finset.univ (View.stores_vmem_bits_univ h_S1x128 rfl) (.inl rfl))

/-- The device `t + 1` places after `d`, in logical order. -/
def aft (t : Fin 15) : Dev nD := ⟨(d.val + t.val + 1) % 16, Nat.mod_lt _ (by decide)⟩

def sendMax (tgt : Fin 15 → Dev nD) (t : ℕ) : KProg F PUnit :=
  Prog.lift (.enqueueDma (rowM d) (.remote (Dev.tc (tgt (fif t))) (rowM d) (.dma (sem15 cc0_scratch11 (fif t)))) (.dma (amSem d)) (View.wordExact_bits rfl) (View.wordExact_bits rfl) ⟨⟨rfl, Or.inl rfl⟩, trivial⟩)

def recvMax (t : ℕ) : KProg F PUnit :=
  Prog.lift (.waitDma2 (amSemAt d (fif t)) (rowMAt d (fif t)) (rowMAt d (fif t)) (View.wordExact_bits rfl) (View.wordExact_bits rfl))

def sentMax (t : ℕ) : KProg F PUnit :=
  Prog.lift (.waitDma2 (sem15 cc0_scratch11 (fif t)) (rowM d) (rowM d) (View.wordExact_bits rfl) (View.wordExact_bits rfl))

/-- The target of message `t`, as the kernel computes it. -/
def tgtOf : Fin 15 → Dev nD := fun
  | 0 => ⟨k0_dev61 d, k0_dev61_lt d⟩ | 1 => ⟨k0_dev62 d, k0_dev62_lt d⟩ | 2 => ⟨k0_dev63 d, k0_dev63_lt d⟩ | 3 => ⟨k0_dev64 d, k0_dev64_lt d⟩
  | 4 => ⟨k0_dev65 d, k0_dev65_lt d⟩ | 5 => ⟨k0_dev66 d, k0_dev66_lt d⟩ | 6 => ⟨k0_dev67 d, k0_dev67_lt d⟩ | 7 => ⟨k0_dev68 d, k0_dev68_lt d⟩
  | 8 => ⟨k0_dev69 d, k0_dev69_lt d⟩ | 9 => ⟨k0_dev70 d, k0_dev70_lt d⟩ | 10 => ⟨k0_dev71 d, k0_dev71_lt d⟩ | 11 => ⟨k0_dev72 d, k0_dev72_lt d⟩
  | 12 => ⟨k0_dev73 d, k0_dev73_lt d⟩ | 13 => ⟨k0_dev74 d, k0_dev74_lt d⟩ | 14 => ⟨k0_dev75 d, k0_dev75_lt d⟩

def exchangeMax : KProg F PUnit := do
  loop (sendMax d (tgtOf d)) 15 0
  loop (recvMax d) 15 0
  loop (sentMax d) 15 0

end amax

/-! ### The quantised chunk, and the gather -/

section gather
variable (v0 : Elt F .i32) (hw3 : k0_chk3 v0) (dL dR : Dev nD)

abbrev ownM : Memref sig .tc .hbm S256x8192 .bf16 := outM.slice (Rect.unit (s := S4096x8192) (k0_off9 v0) S256x8192.size (k0_off9_inb v0 hw3)) (fun _ => rfl)
abbrev agRM (t : ℕ) : Memref sig .tc .hbm S256x4096 .bf16 :=
  outM.slice (Rect.unit (s := S4096x8192) (k0_off10 v0 (BitVec.ofNat 32 (18 + (rev t).val))) S256x4096.size (k0_off10_inb v0 hw3 (rev t))) (fun _ => rfl)
abbrev agLM (t : ℕ) : Memref sig .tc .hbm S256x4096 .bf16 :=
  outM.slice (Rect.unit (s := S4096x8192) (k0_off11 v0 (BitVec.ofNat 32 (fif t).val)) S256x4096.size (k0_off11_inb v0 hw3 (fif t))) (fun _ => rfl)

theorem ownM_words : (ownM v0 hw3).view.WordExact := (Memref.isWhole_whole main_v29).wordExact_slice rfl _ (k0_off9_wordsbf16 v0 hw3)
theorem agRM_words (t : ℕ) : (agRM v0 hw3 t).view.WordExact := (Memref.isWhole_whole main_v29).wordExact_slice rfl _ (k0_off10_wordsbf16 v0 hw3 (rev t))
theorem agLM_words (t : ℕ) : (agLM v0 hw3 t).view.WordExact := (Memref.isWhole_whole main_v29).wordExact_slice rfl _ (k0_off11_wordsbf16 v0 hw3 (fif t))

def quantise : KProg F PUnit := do
  let m : Vec F S16x128 .f32 ← Prog.lift (.load amM (Rect.unit (s := S16x128) ![0, 0] S16x128.size inb_S16x128_S16x128_0_0).toLoadRect (View.loadsAt_vmem h_S16x128))
  let y : Vec F S256x8192 .f32 ← Prog.lift (.load yM wholeY.toLoadRect (View.loadsAt_vmem h_S256x8192))
  let _ : Vec F S256x8192 .bf16 ← Prog.lift (.load stM wholeY.toLoadRect (View.loadsAt_vmem h_S256x8192))
  Prog.lift (.store stM wholeY (k0_pay47 m y) Finset.univ (View.stores_vmem h_S256x8192 ((Memref.isWhole_whole cc0_scratch3).storeExact_slice rfl _ packedbf16_S256x8192_S256x8192_0_0) (fun _ => rfl)) (.inl rfl))

def copyOut : KProg F PUnit := do
  Prog.lift (.enqueueDma stM (.here (ownM v0 hw3)) (.dma cc0_scratch13.sem) (Memref.isWhole_whole cc0_scratch3).wordExact (ownM_words v0 hw3) ⟨Or.inl rfl, trivial⟩)
  Prog.lift (.waitDma2 cc0_scratch13.sem stM (ownM v0 hw3) (Memref.isWhole_whole cc0_scratch3).wordExact (ownM_words v0 hw3))

def gatherStep (t : ℕ) : KProg F PUnit := do
  Prog.lift (.enqueueDma (agRM v0 hw3 t) (.remote (Dev.tc dR) (agRM v0 hw3 t) (.dma (sem2 cc0_scratch5 (par t)))) (.dma (sem15 cc0_scratch9 (fif t))) (agRM_words v0 hw3 t) (agRM_words v0 hw3 t) ⟨⟨rfl, Or.inl rfl⟩, trivial⟩)
  Prog.lift (.enqueueDma (agLM v0 hw3 t) (.remote (Dev.tc dL) (agLM v0 hw3 t) (.dma (sem2 cc0_scratch6 (par t)))) (.dma (sem15 cc0_scratch10 (fif t))) (agLM_words v0 hw3 t) (agLM_words v0 hw3 t) ⟨⟨rfl, Or.inl rfl⟩, trivial⟩)
  Prog.lift (.waitDma2 (sem2 cc0_scratch5 (par t)) (agRM v0 hw3 t) (agRM v0 hw3 t) (agRM_words v0 hw3 t) (agRM_words v0 hw3 t))
  Prog.lift (.waitDma2 (sem15 cc0_scratch9 (fif t)) (agRM v0 hw3 t) (agRM v0 hw3 t) (agRM_words v0 hw3 t) (agRM_words v0 hw3 t))
  Prog.lift (.waitDma2 (sem2 cc0_scratch6 (par t)) (agLM v0 hw3 t) (agLM v0 hw3 t) (agLM_words v0 hw3 t) (agLM_words v0 hw3 t))
  Prog.lift (.waitDma2 (sem15 cc0_scratch10 (fif t)) (agLM v0 hw3 t) (agLM v0 hw3 t) (agLM_words v0 hw3 t) (agLM_words v0 hw3 t))

def gather : KProg F PUnit := loop (gatherStep v0 hw3 dL dR) 15 0

end gather

/-- The kernel after it has read its three words and its device. -/
def bodyRest (v0 : Elt F .i32) (hw3 : k0_chk3 v0) (dL dR d : Dev nD) : KProg F PUnit := do
  semSignalWord dL (sig.barrier 0 rfl) 1#32
  semSignalWord dR (sig.barrier 0 rfl) 1#32
  semWaitWord (sig.barrier 0 rfl) 2#32
  reduceScatter v0 hw3 dL dR
  storeHalves v0 hw3
  storeMax d
  exchangeMax d
  quantise
  copyOut v0 hw3
  gather v0 hw3 dL dR

/-- The kernel. -/
def body : KProg F PUnit := do
  let v0 : Elt F .i32 ← smemLoad metaM (Rect.unit (s := S3) ![0] S1.size inb_S3_S1_0) numel1_S1 rfl
  let hw3 : k0_chk3 v0 := (← Prog.lift (TpuEff.assume (k0_chk3 v0) (k0_chk3.dec v0))).down
  let v1 : Elt F .i32 ← smemLoad metaM (Rect.unit (s := S3) ![1] S1.size inb_S3_S1_1) numel1_S1 rfl
  let hw1 : k0_chk1 v1 := (← Prog.lift (TpuEff.assume (k0_chk1 v1) (k0_chk1.dec v1))).down
  let v2 : Elt F .i32 ← smemLoad metaM (Rect.unit (s := S3) ![2] S1.size inb_S3_S1_2) numel1_S1 rfl
  let hw2 : k0_chk2 v2 := (← Prog.lift (TpuEff.assume (k0_chk2 v2) (k0_chk2.dec v2))).down
  let d ← Prog.lift .deviceId
  bodyRest v0 hw3 ⟨k0_dev1 v1, k0_dev1_lt v1 hw1⟩ ⟨k0_dev2 v2, k0_dev2_lt v2 hw2⟩ d

end Cert.KernelIdeal.Proof

end
-- ==== Proof.Ring.lean ====
module

public import proofs.«01_k».proof.Proof.Body
public import Idealize.ShloMosaic.Lib.Decide

/-! The ring the kernel walks: each device's place, its two neighbours, the words it is handed, and the closed forms of every offset it
   computes from its place. The views of the copies, named by the block of rows they hold. -/

@[expose] public section

set_option Elab.async false

noncomputable section

namespace Cert.KernelIdeal.Proof

open Idealize.ShloMosaic Idealize.SL.Sem Cert.KernelIdeal.Gen

variable {F : FTy → Type} [FloatOps F]

/-- The place of a device on the ring. -/
def pos : Dev nD → Fin 16 := ![0, 1, 2, 3, 4, 5, 6, 15, 14, 7, 8, 9, 10, 11, 12, 13]
/-- The device at a place. -/
def ring : Fin 16 → Dev nD := ![0, 1, 2, 3, 4, 5, 6, 9, 10, 11, 12, 13, 14, 15, 8, 7]

theorem pos_ring (k : Fin 16) : pos (ring k) = k := by revert k; decide
theorem ring_pos (d : Dev nD) : ring (pos d) = d := by revert d; decide

/-- The device after, and the device before. -/
def nxt (d : Dev nD) : Dev nD := ring (pos d + 1)
def prv (d : Dev nD) : Dev nD := ring (pos d - 1)

/-- The neighbour on one side. The copies of ring `true` go to the device after, those of ring `false` to the device before. -/
def peer : Bool → Dev nD → Dev nD
  | true => nxt
  | false => prv

@[simp] theorem peer_peer (S : Bool) (d : Dev nD) : peer S (peer (!S) d) = d := by revert S d; decide
@[simp] theorem peer_peer' (S : Bool) (d : Dev nD) : peer (!S) (peer S d) = d := by revert S d; decide

/-- The word that tells a device its place, and the words that name its neighbours. -/
def wordR (d : Dev nD) : BitVec 32 := BitVec.ofNat 32 (pos d).val
def wordOf (d : Dev nD) : BitVec 32 := BitVec.ofNat 32 d.val

/-- The block of the reduce-scatter that device `d` works on in hop `h`. -/
def hopBlk : Bool → Dev nD → ℕ → Fin 16
  | true, d, h => ⟨((pos d).val + 31 - h % 15) % 16, Nat.mod_lt _ (by decide)⟩
  | false, d, h => ⟨((pos d).val + 1 + h % 15) % 16, Nat.mod_lt _ (by decide)⟩

/-- The block that device `d` passes on in step `t` of the gather. -/
def agBlk : Bool → Dev nD → ℕ → Fin 16
  | true, d, t => ⟨((pos d).val + 32 - t % 15) % 16, Nat.mod_lt _ (by decide)⟩
  | false, d, t => ⟨((pos d).val + t % 15) % 16, Nat.mod_lt _ (by decide)⟩

/-! ### The offsets -/

theorem rev_val {h : ℕ} (hh : h < 15) : (rev h).val = 14 - h := Nat.mod_eq_of_lt (by omega)
theorem fif_val {h : ℕ} (hh : h < 15) : (fif h).val = h := Nat.mod_eq_of_lt hh

theorem off1_eq (d : Dev nD) {h : ℕ} (hh : h < 15) : k0_off1 (wordR d) (BitVec.ofNat 32 (17 + (rev h).val)) = ![(hopBlk true d h).val * 256, 0] := by
  have key : ∀ (d : Dev nD) (h : Fin 15), k0_off1 (wordR d) (BitVec.ofNat 32 (17 + h.val)) = ![(((pos d).val + 17 + h.val) % 16) * 256, 0] := by decide +kernel
  have e : (hopBlk true d h).val = ((pos d).val + 17 + (rev h).val) % 16 := by
    rw [rev_val hh]; show ((pos d).val + 31 - h % 15) % 16 = _
    rw [Nat.mod_eq_of_lt hh]; congr 1; omega
  rw [key, e]

theorem off2_eq (d : Dev nD) {h : ℕ} (hh : h < 15) : k0_off2 (wordR d) (BitVec.ofNat 32 (fif h).val) = ![(hopBlk false d h).val * 256, 0] := by
  have key : ∀ (d : Dev nD) (h : Fin 15), k0_off2 (wordR d) (BitVec.ofNat 32 h.val) = ![(((pos d).val + 1 + h.val) % 16) * 256, 0] := by decide +kernel
  rw [key, fif_val hh]; show _ = ![(((pos d).val + 1 + h % 15) % 16) * 256, 0]; rw [Nat.mod_eq_of_lt hh]

theorem off3_eq (d : Dev nD) : k0_off3 (wordR d) = ![(pos d).val * 256, 0] := by revert d; decide +kernel
theorem off9_eq (d : Dev nD) : k0_off9 (wordR d) = ![(pos d).val * 256, 0] := by revert d; decide +kernel

theorem off10_eq (d : Dev nD) {t : ℕ} (ht : t < 15) : k0_off10 (wordR d) (BitVec.ofNat 32 (18 + (rev t).val)) = ![(agBlk true d t).val * 256, 0] := by
  have key : ∀ (d : Dev nD) (h : Fin 15), k0_off10 (wordR d) (BitVec.ofNat 32 (18 + h.val)) = ![(((pos d).val + 18 + h.val) % 16) * 256, 0] := by decide +kernel
  have e : (agBlk true d t).val = ((pos d).val + 18 + (rev t).val) % 16 := by
    rw [rev_val ht]; show ((pos d).val + 32 - t % 15) % 16 = _
    rw [Nat.mod_eq_of_lt ht]; congr 1; omega
  rw [key, e]

theorem off11_eq (d : Dev nD) {t : ℕ} (ht : t < 15) : k0_off11 (wordR d) (BitVec.ofNat 32 (fif t).val) = ![(agBlk false d t).val * 256, 4096] := by
  have key : ∀ (d : Dev nD) (h : Fin 15), k0_off11 (wordR d) (BitVec.ofNat 32 h.val) = ![(((pos d).val + h.val) % 16) * 256, 4096] := by decide +kernel
  rw [key, fif_val ht]; show _ = ![(((pos d).val + t % 15) % 16) * 256, 4096]; rw [Nat.mod_eq_of_lt ht]

theorem off4_eq (d : Dev nD) : k0_off4 d = ![d.val, 0] := by revert d; decide +kernel
theorem off6_eq (d : Dev nD) : k0_off6 d = ![d.val, 0] := by revert d; decide +kernel
theorem off8_eq (d : Dev nD) (t : Fin 15) : k0_off8 d (BitVec.ofNat 32 (1 + t.val)) = ![(aft d t).val, 0] := by revert d t; decide +kernel

theorem tgtOf_eq (d : Dev nD) (t : Fin 15) : tgtOf d t = aft d t := by revert d t; decide +kernel

theorem dev1_eq (d e : Dev nD) (h : k0_dev1 (wordOf e) < nD) : (⟨k0_dev1 (wordOf e), h⟩ : Dev nD) = e :=
  Fin.ext ((by decide +kernel : ∀ e : Dev nD, k0_dev1 (wordOf e) = e.val) e)
theorem dev2_eq (d e : Dev nD) (h : k0_dev2 (wordOf e) < nD) : (⟨k0_dev2 (wordOf e), h⟩ : Dev nD) = e :=
  Fin.ext ((by decide +kernel : ∀ e : Dev nD, k0_dev2 (wordOf e) = e.val) e)

/-! ### What the kernel assumes of the words it reads -/

theorem chk1 (e : Dev nD) : k0_chk1 (wordOf e) := by revert e; decide +kernel
theorem chk2 (e : Dev nD) : k0_chk2 (wordOf e) := by revert e; decide +kernel

theorem inb_x (k : Fin 16) : ∀ a, (![k.val * 256, 0] : Fin 2 → ℕ) a + S256x256.size a ≤ S4096x256.size a := by revert k; decide
theorem inb_own (k : Fin 16) : ∀ a, (![k.val * 256, 0] : Fin 2 → ℕ) a + S256x8192.size a ≤ S4096x8192.size a := by revert k; decide
/-- The first column of a ring's half. -/
def col : Bool → ℕ | true => 0 | false => 4096
theorem inb_chunk (S : Bool) (k : Fin 16) : ∀ a, (![k.val * 256, col S] : Fin 2 → ℕ) a + S256x4096.size a ≤ S4096x8192.size a := by revert S k; decide
theorem inb_row (w : Fin 16) : ∀ a, (![w.val, 0] : Fin 2 → ℕ) a + S1x128.size a ≤ S16x128.size a := by revert w; decide

theorem words_own (k : Fin 16) : (Rect.unit (s := S4096x8192) ![k.val * 256, 0] S256x8192.size (inb_own k)).WholeWords (EltTy.packing .bf16) := by
  revert k; decide +kernel
theorem words_chunk (S : Bool) (k : Fin 16) : (Rect.unit (s := S4096x8192) ![k.val * 256, col S] S256x4096.size (inb_chunk S k)).WholeWords (EltTy.packing .bf16) := by
  revert S k; decide +kernel

theorem chk3 (d : Dev nD) : k0_chk3 (wordR d) := by
  have r15 : ∀ r : Fin 15, rev (14 - r.val) = r := fun r => Fin.ext (by rw [rev_val (by omega)]; omega)
  have f15 : ∀ r : Fin 15, fif r.val = r := fun r => Fin.ext (fif_val r.isLt)
  have e1 : ∀ r : Fin 15, k0_off1 (wordR d) (BitVec.ofNat 32 (17 + r.val)) = ![(hopBlk true d (14 - r.val)).val * 256, 0] := fun r => by
    rw [← off1_eq d (by omega), r15]
  have e2 : ∀ r : Fin 15, k0_off2 (wordR d) (BitVec.ofNat 32 r.val) = ![(hopBlk false d r.val).val * 256, 0] := fun r => by
    rw [← off2_eq d r.isLt, f15]
  have e10 : ∀ r : Fin 15, k0_off10 (wordR d) (BitVec.ofNat 32 (18 + r.val)) = ![(agBlk true d (14 - r.val)).val * 256, 0] := fun r => by
    rw [← off10_eq d (by omega), r15]
  have e11 : ∀ r : Fin 15, k0_off11 (wordR d) (BitVec.ofNat 32 r.val) = ![(agBlk false d r.val).val * 256, 4096] := fun r => by
    rw [← off11_eq d r.isLt, f15]
  unfold k0_chk3
  simp only [e1, e2, e10, e11, off3_eq, off9_eq]
  exact ⟨fun _ => inb_x _, fun _ => inb_x _, inb_x _, inb_own _, fun _ => words_own _, fun _ => inb_chunk true _, fun _ _ => words_chunk true _,
    fun _ => inb_chunk false _, fun _ _ => words_chunk false _⟩

/-! ### The views, by what they hold -/

/-- Half of a block of the result: its rows, in the columns of ring `S`. -/
abbrev chunkM (S : Bool) (k : Fin 16) : Memref sig .tc .hbm S256x4096 .bf16 :=
  outM.slice (Rect.unit (s := S4096x8192) ![k.val * 256, col S] S256x4096.size (inb_chunk S k)) (fun _ => rfl)
/-- A block of the result. -/
abbrev blkM (k : Fin 16) : Memref sig .tc .hbm S256x8192 .bf16 :=
  outM.slice (Rect.unit (s := S4096x8192) ![k.val * 256, 0] S256x8192.size (inb_own k)) (fun _ => rfl)
abbrev rowRectW (w : Fin 16) : Rect S16x128 := Rect.unit (s := S16x128) ![w.val, 0] S1x128.size (inb_row w)
/-- The row of the maxima that device `w` fills. -/
abbrev rowW (w : Fin 16) : Memref sig .tc .vmem S1x128 .f32 := amM.slice (rowRectW w) (fun _ => rfl)
/-- The block of rows of the left operand. -/
abbrev xRect (k : Fin 16) : Rect S4096x256 := Rect.unit (s := S4096x256) ![k.val * 256, 0] S256x256.size (inb_x k)

theorem slice_unit_congr {sp : Space} {s : Shape} {e : EltTy} (m : Memref sig .tc sp s e) {off off' size : Fin s.rank → ℕ} (h : off = off')
    (i : ∀ a, off a + size a ≤ s.size a) (i' : ∀ a, off' a + size a ≤ s.size a) :
    m.slice (Rect.unit off size i) (fun _ => rfl) = m.slice (Rect.unit off' size i') (fun _ => rfl) := by subst h; rfl

theorem ownM_eq (d : Dev nD) (h3 : k0_chk3 (wordR d)) : ownM (F := F) (wordR d) h3 = blkM (pos d) := slice_unit_congr outM (off9_eq d) _ _
theorem agRM_eq (d : Dev nD) (h3 : k0_chk3 (wordR d)) {t : ℕ} (ht : t < 15) : agRM (F := F) (wordR d) h3 t = chunkM true (agBlk true d t) := slice_unit_congr outM (off10_eq d ht) _ _
theorem agLM_eq (d : Dev nD) (h3 : k0_chk3 (wordR d)) {t : ℕ} (ht : t < 15) : agLM (F := F) (wordR d) h3 t = chunkM false (agBlk false d t) := slice_unit_congr outM (off11_eq d ht) _ _
theorem rowM_eq (d : Dev nD) : rowM d = rowW d := slice_unit_congr amM (off6_eq d) _ _
theorem rowMAt_eq (d : Dev nD) (t : Fin 15) : rowMAt d t = rowW (aft d t) := slice_unit_congr amM (off8_eq d t) _ _

/-- The semaphore of device `w`'s maximum. -/
def amC (w : Fin 16) : DmaSem sig := ⟨56 + w.val, by have := w.isLt; show 56 + w.val < 73; omega⟩
theorem amSem_eq (d : Dev nD) : amSem d = amC d := by revert d; decide +kernel
theorem amSemAt_eq (d : Dev nD) (t : Fin 15) : amSemAt d t = amC (aft d t) := by revert d t; decide +kernel

end Cert.KernelIdeal.Proof

end
-- ==== Proof.Protocol.lean ====
module

public import proofs.«01_k».proof.Proof.Ring
public import Idealize.ShloMosaic.Lib.Rounds
public import Idealize.ShloMosaic.Lib.Memref
public import Idealize.ShloMosaic.Lib.Transfers
public import Idealize.ShloMosaic.Lib.Tactic
public import Idealize.ShloMosaic.Lib.Pipeline.Regions
public import Mathlib.Tactic.DeriveFintype

/-! The protocol of the kernel: every unit that lands on a semaphore is a DUE. A device pays each due once, to a cell of one device, in one
   round of that cell; what the due hands over is named with its contents. -/

@[expose] public section

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-! ### The dues -/

/-- The dues of one device: the two signals of the barrier; per hop of the reduce-scatter the source given back, the block delivered and the
    room granted; per message of the maximum the source given back and the row delivered; per step of the gather the source given back
    and the half block delivered; the local copy. -/
inductive Due : Type
  | bar (S : Bool)
  | snd (S : Bool) (h : Fin 15)
  | rcv (S : Bool) (h : Fin 15)
  | crd (S : Bool) (k : Fin 14)
  | amS (i : Fin 15)
  | am (i : Fin 15)
  | agS (S : Bool) (t : Fin 15)
  | ag (S : Bool) (t : Fin 15)
  | cp
  deriving DecidableEq, Fintype

/-- The receive buffer of a ring, and its semaphores. -/
def cm : Bool → Memref sig .tc .vmem S2x256x4096 .bf16 | true => commR | false => commL
theorem cm_whole (S : Bool) : (cm S).IsWhole := by cases S <;> exact Memref.isWhole_whole _
def sS : Bool → DmaSems sig S2 | true => cc0_scratch5 | false => cc0_scratch6
def rS : Bool → DmaSems sig S2 | true => cc0_scratch7 | false => cc0_scratch8
def gS : Bool → DmaSems sig S15 | true => cc0_scratch9 | false => cc0_scratch10
def cS : Bool → Sem sig | true => cc0_scratch14.sem | false => cc0_scratch15.sem

/-- The device `i + 1` places before `d`, in logical order. -/
def bef (d : Dev nD) (i : Fin 15) : Dev nD := ⟨(d.val + 15 - i.val) % 16, Nat.mod_lt _ (by decide)⟩

/-- Whom a due is paid to, and who pays it. -/
def tgt : Due → Dev nD → Dev nD
  | .bar S, d | .rcv S _, d | .ag S _, d => peer S d
  | .crd S _, d => peer (!S) d
  | .am i, d => aft d i
  | .snd _ _, d | .amS _, d | .agS _ _, d | .cp, d => d
def src : Due → Dev nD → Dev nD
  | .bar S, d | .rcv S _, d | .ag S _, d => peer (!S) d
  | .crd S _, d => peer S d
  | .am i, d => bef d i
  | .snd _ _, d | .amS _, d | .agS _ _, d | .cp, d => d

theorem aft_bef (d : Dev nD) (i : Fin 15) : aft (bef d i) i = d := by revert d i; decide
theorem bef_aft (d : Dev nD) (i : Fin 15) : bef (aft d i) i = d := by revert d i; decide

theorem aft_inj {d : Dev nD} {i j : Fin 15} : aft d i = aft d j → i = j := by revert d i j; decide +kernel

theorem tgt_src (i : Due) (d : Dev nD) : tgt i (src i d) = d := by
  cases i <;> simp only [tgt, src, peer_peer, peer_peer', aft_bef]
theorem src_tgt (i : Due) (d : Dev nD) : src i (tgt i d) = d := by
  cases i <;> simp only [tgt, src, peer_peer, peer_peer', bef_aft]

/-- The semaphore a due lands on. -/
def semOf : Due → Dev nD → SemLoc sig
  | .bar _, _ => .reg (sig.barrier 0 rfl)
  | .snd S h, _ => .dma (sem2 (sS S) (par h.val))
  | .rcv S h, _ => .dma (sem2 (rS S) (par (h.val + 1)))
  | .crd S _, _ => .reg (cS S)
  | .amS i, _ => .dma (sem15 cc0_scratch11 i)
  | .am _, d => .dma (amC d)
  | .agS S t, _ => .dma (sem2 (sS S) (par t.val))
  | .ag S t, _ => .dma (sem15 (gS S) t)
  | .cp, _ => .dma cc0_scratch13.sem

abbrev cell (i : Due) (d : Dev nD) : GSem nD τ sig := (Dev.tc (tgt i d), semOf i d)

/-- The round it lands in. -/
def rnd : Due → ℕ
  | .snd _ h | .rcv _ h => h.val / 2
  | .crd _ k => k.val
  | .agS _ t => (16 + t.val) / 2 - t.val % 2
  | _ => 0

/-- Its level: a wait is for a due below all that the waiter still owes. -/
def lvl : Due → ℕ
  | .bar _ => 1
  | .rcv _ h => 10 + 4 * h.val
  | .crd _ k => 12 + 4 * k.val
  | .am _ => 100
  | .ag _ t => 200 + t.val
  | _ => 0

/-- Its units. -/
def amt : Due → ℕ
  | .bar _ | .crd _ _ => 1
  | .snd _ _ | .rcv _ _ => (slotM commR 0).view.dmaCredit
  | .amS _ | .am _ => (rowW 0).view.dmaCredit
  | .agS _ _ | .ag _ _ => (chunkM true 0).view.dmaCredit
  | .cp => (blkM 0).view.dmaCredit

theorem amt_slot (S : Bool) (b : Fin 2) : (slotM (cm S) b).view.dmaCredit = (slotM commR 0).view.dmaCredit := by cases S <;> rfl
theorem amt_row (w : Fin 16) : (rowW w).view.dmaCredit = (rowW 0).view.dmaCredit := by rfl
theorem amt_chunk (S : Bool) (k : Fin 16) : (chunkM S k).view.dmaCredit = (chunkM true 0).view.dmaCredit := by rfl
theorem amt_blk (k : Fin 16) : (blkM k).view.dmaCredit = (blkM 0).view.dmaCredit := by rfl

theorem amt_pos (i : Due) : 0 < amt i := by
  cases i <;> first | exact Nat.one_pos | exact View.dmaCredit_pos _ (by decide)

/-! ### No two dues land in one round of one cell, but the two signals of the barrier -/

/-- The semaphores, numbered. -/
def num : SemLoc sig → ℕ
  | .dma s => s.val
  | .reg s => 100 + s.val

/-- The number of a due's semaphore. -/
def code : Due → Dev nD → ℕ
  | .bar _, _ => 102
  | .snd true h, _ => 3 + h.val % 2
  | .snd false h, _ => 5 + h.val % 2
  | .rcv true h, _ => 7 + (h.val + 1) % 2
  | .rcv false h, _ => 9 + (h.val + 1) % 2
  | .crd true _, _ => 100
  | .crd false _, _ => 101
  | .amS i, _ => 41 + i.val
  | .am _, d => 56 + d.val
  | .agS true t, _ => 3 + t.val % 2
  | .agS false t, _ => 5 + t.val % 2
  | .ag true t, _ => 11 + t.val
  | .ag false t, _ => 26 + t.val
  | .cp, _ => 72

theorem num_sem2 (b : Fin 2) : (sem2 cc0_scratch5 b).val = 3 + b.val ∧ (sem2 cc0_scratch6 b).val = 5 + b.val
    ∧ (sem2 cc0_scratch7 b).val = 7 + b.val ∧ (sem2 cc0_scratch8 b).val = 9 + b.val := by revert b; decide +kernel
theorem num_sem15 (b : Fin 15) : (sem15 cc0_scratch9 b).val = 11 + b.val ∧ (sem15 cc0_scratch10 b).val = 26 + b.val
    ∧ (sem15 cc0_scratch11 b).val = 41 + b.val := by revert b; decide +kernel

theorem num_semOf (i : Due) (d : Dev nD) : num (semOf i d) = code i d := by
  cases i with
  | bar S => rfl
  | snd S h => cases S; exacts [(num_sem2 _).2.1, (num_sem2 _).1]
  | rcv S h => cases S; exacts [(num_sem2 _).2.2.2, (num_sem2 _).2.2.1]
  | crd S k => cases S <;> rfl
  | amS i => exact (num_sem15 i).2.2
  | am i => rfl
  | agS S t => cases S; exacts [(num_sem2 _).2.1, (num_sem2 _).1]
  | ag S t => cases S; exacts [(num_sem15 _).2.1, (num_sem15 _).1]
  | cp => rfl

theorem due_eq {i j : Due} {d e : Dev nD} (hc : code i d = code j e) (hr : rnd i = rnd j) (ht : tgt i d = tgt j e) :
    (i = j ∧ d = e) ∨ ∃ S S', i = .bar S ∧ j = .bar S' := by
  have hde : i = j → d = e := fun h => by subst h; rw [← src_tgt i d, ht, src_tgt]
  have hd16 : d.val < 16 := d.isLt
  have he16 : e.val < 16 := e.isLt
  suffices h : i = j ∨ ∃ S S', i = .bar S ∧ j = .bar S' from h.imp (fun h => ⟨h, hde h⟩) id
  rcases i with S | ⟨S, h⟩ | ⟨S, h⟩ | ⟨S, h⟩ | h | h | ⟨S, h⟩ | ⟨S, h⟩ | _ <;> try cases S
  all_goals rcases j with S | ⟨S, h'⟩ | ⟨S, h'⟩ | ⟨S, h'⟩ | h' | h' | ⟨S, h'⟩ | ⟨S, h'⟩ | _ <;> try cases S
  all_goals simp only [code, rnd] at hc hr
  all_goals first
    | exact .inr ⟨_, _, rfl, rfl⟩
    | exact .inl rfl
    | (exfalso; omega)
    | (left; have hd : d.val = e.val := (Nat.add_left_cancel hc)
       obtain rfl : d = e := Fin.ext hd
       obtain rfl : h = h' := aft_inj ht
       rfl)
    | (left; obtain rfl : h = h' := Fin.ext (by omega); rfl)

end Cert.KernelIdeal.Proof

end
-- ==== Proof.Sched.lean ====
module

public import proofs.«01_k».proof.Proof.Protocol
public import Idealize.ShloMosaic.Lib.Ring

/-! What the kernel computes at each point, device by device; what each due hands over, with those contents; the schedule of rounds; and the
   rules a device steps by: pay a due with a signal, with a copy to another device or with a copy of its own, and wait for a due. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The contents -/

/-- The columns of ring `S`. -/
theorem inb_half (S : Bool) : ∀ a, (![0, col S] : Fin 2 → ℕ) a + S256x4096.size a ≤ S256x8192.size a := by revert S; decide
abbrev halfRect (S : Bool) : Rect S256x8192 := Rect.unit (s := S256x8192) ![0, col S] S256x4096.size (inb_half S)

theorem slotCast : S256x4096.ShapeCasts S1x256x4096 := by decide
theorem slotCast' : S1x256x4096.ShapeCasts S256x4096 := by decide
/-- A block as a slot of a receive buffer shows it, and back. -/
abbrev toSlot {α : Type} (A : S256x4096.Idx → α) : S1x256x4096.Idx → α := fun x => A (Shape.reshapeEquiv slotCast x)
abbrev ofSlot {α : Type} (A : S1x256x4096.Idx → α) : S256x4096.Idx → α := fun x => A (Shape.reshapeEquiv slotCast' x)

section contents
variable (X : Dev nD → Vec F S4096x256 .bf16) (Wt : Dev nD → Vec F S256x8192 .bf16)

/-- A block of rows of a device's left operand; half the columns of its right operand. -/
def xB (d : Dev nD) (k : Fin 16) : Vec F S256x256 .bf16 := fun x => X d ((xRect k).emb x)
def wB (S : Bool) (d : Dev nD) : Vec F S256x4096 .bf16 := fun x => Wt d ((halfRect S).emb x)

/-- The partial sums device `d` sends in hop `h` of ring `S`: its own product, added to what its neighbour sent it the hop before. -/
def acc (S : Bool) : ℕ → Dev nD → Vec F S256x4096 .bf16
  | 0, d => ofSlot (k0_pay2 (xB X d (hopBlk S d 0)) (wB Wt S d))
  | h + 1, d => ofSlot (k0_pay5 (xB X d (hopBlk S d (h + 1))) (wB Wt S d) (toSlot (acc S h (peer (!S) d))))

/-- The half chunk device `d` ends the reduce-scatter with, the chunk, its row of maxima, all the rows, the quantised chunk, its halves. -/
def yH (S : Bool) (d : Dev nD) : Vec F S256x4096 .f32 := k0_pay43 (toSlot (acc X Wt S 14 (peer (!S) d))) (xB X d (pos d)) (wB Wt S d)
def yC (d : Dev nD) : Vec F S256x8192 .f32 := fun i =>
  if h : (i 1).val < 4096 then yH X Wt true d (fun | 0 => ⟨(i 0).val, (i 0).isLt⟩ | 1 => ⟨(i 1).val, h⟩)
  else yH X Wt false d (fun | 0 => ⟨(i 0).val, (i 0).isLt⟩ | 1 => ⟨(i 1).val - 4096, by have h2 : (i 1).val < 8192 := (i 1).isLt; show _ < 4096; omega⟩)
def amR (d : Dev nD) : Vec F S1x128 .f32 := k0_pay46 (yC X Wt d)
def amA : Vec F S16x128 .f32 := fun i => amR X Wt ⟨(i 0).val, (i 0).isLt⟩ (fun | 0 => ⟨0, Nat.one_pos⟩ | 1 => ⟨(i 1).val, (i 1).isLt⟩)
def qC (d : Dev nD) : Vec F S256x8192 .bf16 := k0_pay47 (amA X Wt) (yC X Wt d)
/-- The half block of the result, at a block's place. -/
def oH (S : Bool) (k : Fin 16) : Vec F S256x4096 .bf16 := fun x => qC X Wt (ring k) ((halfRect S).emb x)

end contents

/-! ### The resource algebra, and the payloads -/

abbrev UU : Type := UR sig nD τ × URounds (GSem nD τ sig) (Due × Dev nD)

local notation "𝕄" => MT nD τ sig ℕ (Elt F) ℕ UU ℕ

abbrev ER : Emb (URounds (GSem nD τ sig) (Due × Dev nD)) (MT nD τ sig ℕ (Elt F) ℕ UU ℕ) := embR

/-- A memref of device `d`, held at what it reads. -/
abbrev own (d : Dev nD) {sp : Space} {sh : Shape} {e : EltTy} (m : Memref sig .tc sp sh e) (q : PosShare TreeShare) (A : sh.Idx → Elt F e) : sProp 𝕄 :=
  owns (Dev.tc d) m q A
abbrev ownAny (d : Dev nD) {sp : Space} {sh : Shape} {e : EltTy} (m : Memref sig .tc sp sh e) : sProp 𝕄 := iprop(∃ A, own d m fullShare A)

abbrev sndC (S : Bool) (b : Fin 2) (d : Dev nD) : GSem nD τ sig := (Dev.tc d, .dma (sem2 (sS S) b))
abbrev rcvC (S : Bool) (b : Fin 2) (d : Dev nD) : GSem nD τ sig := (Dev.tc d, .dma (sem2 (rS S) b))
abbrev crdC (S : Bool) (d : Dev nD) : GSem nD τ sig := (Dev.tc d, .reg (cS S))
abbrev agC (S : Bool) (t : Fin 15) (d : Dev nD) : GSem nD τ sig := (Dev.tc d, .dma (sem15 (gS S) t))
abbrev amsC (i : Fin 15) (d : Dev nD) : GSem nD τ sig := (Dev.tc d, .dma (sem15 cc0_scratch11 i))
abbrev amwC (w : Fin 16) (d : Dev nD) : GSem nD τ sig := (Dev.tc d, .dma (amC w))
abbrev cpC (d : Dev nD) : GSem nD τ sig := (Dev.tc d, .dma cc0_scratch13.sem)
abbrev barC (d : Dev nD) : GSem nD τ sig := (Dev.tc d, .reg (sig.barrier 0 rfl))

/-- Room on device `d` for hop `h` of ring `S`. -/
def room (S : Bool) (d : Dev nD) (h : ℕ) : sProp 𝕄 :=
  iprop(ownAny d (slotM (cm S) (par (h + 1))) ∗ reached ER (rcvC S (par (h + 1)) d) (h / 2))
/-- Room on device `d` for step `t` of the gather of ring `S`, the copy coming from device `e`. -/
def agRoom (S : Bool) (d e : Dev nD) (t : Fin 15) : sProp 𝕄 :=
  iprop(ownAny d (chunkM S (agBlk S e t.val)) ∗ reached ER (agC S t d) 0)
/-- Room on device `e` for the maximum of device `w`. -/
def rowRoom (e w : Dev nD) : sProp 𝕄 := iprop(ownAny e (rowW w) ∗ reached ER (amwC w e) 0)
/-- The rooms for the maxima on the device `h` places before `d` that travel on past `d`. -/
def rows (d : Dev nD) (h : ℕ) : sProp 𝕄 :=
  bigSep (Ring.rangeSet 15 h 15) (fun j => rowRoom (ring (pos d - Fin.ofNat 16 h)) (ring (pos d - Fin.ofNat 16 h + Fin.ofNat 16 (j.val + 1))))
/-- Only ring `true` carries the rooms for the maxima. -/
def rowsIf (S : Bool) (d : Dev nD) (h : ℕ) : sProp 𝕄 := if S then rows d h else iprop(emp)

section pay
variable (X : Dev nD → Vec F S4096x256 .bf16) (Wt : Dev nD → Vec F S256x8192 .bf16)

def pay : Due → Dev nD → sProp 𝕄
  | .bar S, d => iprop(room (!S) d 0 ∗ bigSep Finset.univ (agRoom (!S) d (peer S d)))
  | .snd S h, d => own d (slotM (cm S) (par h.val)) fullShare (acc X Wt S h.val d)
  | .rcv S h, d => iprop(own (peer S d) (slotM (cm S) (par (h.val + 1))) fullShare (acc X Wt S h.val d)
      ∗ reached ER (crdC S d) h.val ∗ rowsIf S d h.val)
  | .crd S k, d => room S d (k.val + 1)
  | .amS i, d => own d (rowW d) (Transfers.shareTokN fullShare i.val) (amR X Wt d)
  | .am i, d => own (aft d i) (rowW d) fullShare (amR X Wt d)
  | .agS S t, d => own d (chunkM S (agBlk S d t.val)) fullShare (oH X Wt S (agBlk S d t.val))
  | .ag S t, d => own (peer S d) (chunkM S (agBlk S d t.val)) fullShare (oH X Wt S (agBlk S d t.val))
  | .cp, d => iprop(own d (blkM (pos d)) fullShare (qC X Wt d) ∗ own d stM fullShare (qC X Wt d))

/-- The schedule: the duties of a round are the dues that land in it. -/
def Rd : Rounds.Schedule (GSem nD τ sig) (Due × Dev nD) 𝕄 where
  duties g r := Finset.univ.filter fun p => cell p.1 p.2 = g ∧ rnd p.1 = r
  unitless _ := False
  amount _ _ p := amt p.1
  payload _ _ p := pay X Wt p.1 p.2
  amount_pos _ _ p _ := amt_pos p.1

instance room_storable (S : Bool) (d : Dev nD) (h : ℕ) : BI.Storable (upEmb : UEmb _ 𝕄) (room (F := F) S d h) := by unfold room; infer_instance
instance agRoom_storable (S : Bool) (d e : Dev nD) (t : Fin 15) : BI.Storable (upEmb : UEmb _ 𝕄) (agRoom (F := F) S d e t) := by unfold agRoom; infer_instance
instance rowRoom_storable (d e : Dev nD) : BI.Storable (upEmb : UEmb _ 𝕄) (rowRoom (F := F) d e) := by unfold rowRoom; infer_instance
instance rows_storable (d : Dev nD) (h : ℕ) : BI.Storable (upEmb : UEmb _ 𝕄) (rows (F := F) d h) := by unfold rows; infer_instance
instance rowsIf_storable (S : Bool) (d : Dev nD) (h : ℕ) : BI.Storable (upEmb : UEmb _ 𝕄) (rowsIf (F := F) S d h) := by
  unfold rowsIf; split <;> infer_instance
instance pay_storable (i : Due) (d : Dev nD) : BI.Storable (upEmb : UEmb _ 𝕄) (pay X Wt i d) := by
  cases i <;> unfold pay <;> infer_instance
instance Rd_storable (g : GSem nD τ sig) (r : ℕ) (p : Due × Dev nD) : BI.Storable (upEmb : UEmb _ 𝕄) ((Rd X Wt).payload g r p) :=
  pay_storable X Wt p.1 p.2

theorem mem_duties (i : Due) (d : Dev nD) : (i, d) ∈ (Rd X Wt).duties (cell i d) (rnd i) :=
  Finset.mem_filter.mpr ⟨Finset.mem_univ _, rfl, rfl⟩

theorem duties_eq {i : Due} (hi : ∀ S, i ≠ .bar S) (d : Dev nD) : (Rd X Wt).duties (cell i d) (rnd i) = {(i, d)} := by
  refine Finset.eq_singleton_iff_unique_mem.mpr ⟨mem_duties X Wt i d, fun p hp => ?_⟩
  obtain ⟨-, hg, hr⟩ := Finset.mem_filter.mp hp
  rcases due_eq (by rw [← num_semOf, ← num_semOf]; exact congrArg (fun g => num g.2) hg) hr (congrArg (fun g => g.1.1) hg) with ⟨h, h'⟩ | ⟨S, S', -, h⟩
  · exact Prod.ext h h'
  · exact absurd h (hi S')

theorem bar_cell (S : Bool) (c : Dev nD) : cell (.bar S) (peer (!S) c) = barC c := by
  show (Dev.tc (peer S (peer (!S) c)), _) = barC c; rw [peer_peer]; rfl

theorem payload_eq (g : GSem nD τ sig) (r : ℕ) (i : Due) (d : Dev nD) : (Rd X Wt).payload g r (i, d) = pay X Wt i d := rfl

theorem duties_bar (c : Dev nD) : (Rd X Wt).duties (barC c) 0 = {(.bar true, peer false c), (.bar false, peer true c)} := by
  ext ⟨i, d⟩
  rw [Finset.mem_insert, Finset.mem_singleton]
  constructor
  · intro hp
    obtain ⟨-, hg, hr⟩ := Finset.mem_filter.mp hp
    have hg' : cell i d = cell (.bar true) (peer false c) := hg.trans (bar_cell true c).symm
    rcases due_eq (i := i) (j := .bar true) (d := d) (e := peer false c) (by rw [← num_semOf, ← num_semOf]; exact congrArg (fun g => num g.2) hg') hr
      (congrArg (fun g => g.1.1) hg') with ⟨h, h'⟩ | ⟨S, S', h, -⟩
    · exact .inl (Prod.ext h h')
    · subst h
      have ht : peer S d = c := congrArg (fun g => g.1.1) hg
      cases S
      · right; rw [← ht]; exact Prod.ext rfl (peer_peer true d).symm
      · left; rw [← ht]; exact Prod.ext rfl (peer_peer false d).symm
  · rintro (h | h) <;> cases h <;> refine Finset.mem_filter.mpr ⟨Finset.mem_univ _, ?_, rfl⟩
    · exact bar_cell true c
    · exact bar_cell false c

end pay

/-! ### What a device owes; the levels -/

/-- The dues a device has still to pay, in the order it pays them. -/
def owed : List Due → Dev nD → CellTallies nD τ sig ℕ
  | [], _ => 0
  | i :: l, c => owed l c + tallyAt (cell i c) (lvl i) (amt i)

theorem owed_cons (i : Due) (l : List Due) (c : Dev nD) : owed (i :: l) c = owed l c + tallyAt (cell i c) (lvl i) (amt i) := rfl

def L (g : GSem nD τ sig) : Finset ℕ := if g.1.2 = .tc then Finset.range 300 else ∅
def lv (_ : GSem nD τ sig) (ι : ℕ) : ℕ := ι

theorem L_of_ne (g : GSem nD τ sig) (h : g.1.2 ≠ .tc) : L g = ∅ := if_neg h
theorem mem_L (c : Dev nD) (sm : SemLoc sig) {ι : ℕ} (h : ι < 300) : ι ∈ L (Dev.tc c, sm) := by
  rw [L, if_pos rfl]; exact Finset.mem_range.mpr h

theorem lvl_lt (i : Due) : lvl i < 300 := by cases i <;> simp only [lvl] <;> omega

theorem owed_pos {l : List Due} {c : Dev nD} {g : GSem nD τ sig} {ι : ℕ} (h : 0 < owed l c g ι) : ∃ j ∈ l, g = cell j c ∧ ι = lvl j := by
  induction l with
  | nil => exact absurd h (Nat.lt_irrefl 0)
  | cons i l ih =>
    have h' : 0 < owed l c g ι + tallyAt (cell i c) (lvl i) (amt i) g ι := h
    rw [tallyAt_apply] at h'
    by_cases hg : g = cell i c ∧ ι = lvl i
    · exact ⟨i, List.mem_cons_self, hg⟩
    · rw [if_neg hg, Nat.add_zero] at h'
      obtain ⟨j, hj, h⟩ := ih h'; exact ⟨j, List.mem_cons_of_mem _ hj, h⟩

theorem mayWait {l : List Due} {c : Dev nD} (sm : SemLoc sig) {ι : ℕ} (hι : ι < 300) (h : ∀ j ∈ l, ι < lvl j) :
    (levAts L lv : sProp 𝕄) ⊢ MayWait (Dev.tc c) sm ι (owed l c) :=
  MayOwe.of_cut (L := L) (lev := lv) ι (fun p hp => by rw [Finset.mem_singleton.mp hp]; exact mem_L c sm hι)
    (fun g u hg => by obtain ⟨j, -, rfl, rfl⟩ := owed_pos hg; exact mem_L _ _ (lvl_lt j))
    (fun p hp => by rw [Finset.mem_singleton.mp hp]; exact le_refl _)
    (fun g u hg => by obtain ⟨j, hj, rfl, rfl⟩ := owed_pos hg; exact h j hj)

/-! ### The rules -/

section rules
variable (X : Dev nD → Vec F S4096x256 .bf16) (Wt : Dev nD → Vec F S256x8192 .bf16) (K : GSem nD τ sig → ℕ)

/-- What every device knows throughout: the invariant of every cell that a due lands on, and the levels. -/
def known : sProp 𝕄 :=
  iprop((bigSep Finset.univ fun p : Due × Dev nD => cellInv ER (Rd X Wt) (K (cell p.1 p.2)) (cell p.1 p.2)) ∗ levAts L lv)

instance known_persistent : BI.Persistent (known X Wt K) := by unfold known; infer_instance

theorem known_inv (i : Due) (d : Dev nD) : known X Wt K ⊢ cellInv ER (Rd X Wt) (K (cell i d)) (cell i d) := by
  have h : (bigSep Finset.univ fun p : Due × Dev nD => cellInv ER (Rd X Wt) (K (cell p.1 p.2)) (cell p.1 p.2) : sProp 𝕄)
      ⊢ cellInv ER (Rd X Wt) (K (cell i d)) (cell i d) := BI.bigSep_elim (Finset.mem_univ (i, d))
  unfold known; iintro ⟨H, -⟩
  iapply h; iexact H
theorem known_wait {l : List Due} {c : Dev nD} (sm : SemLoc sig) {ι : ℕ} (hι : ι < 300) (h : ∀ j ∈ l, ι < lvl j) :
    known X Wt K ⊢ MayWait (Dev.tc c) sm ι (owed l c) := by
  have h := mayWait (F := F) (c := c) sm hι h
  unfold known; iintro ⟨-, H⟩; iapply h; iexact H

/-- The dues `l` are owed, whatever has been waited for. -/
def owing (c : Dev nD) (l : List Due) : sProp 𝕄 := iprop(∃ W, owes (Dev.tc c) (owed l c) W)
/-- The right to pay a due. -/
abbrev tok (i : Due) (c : Dev nD) : sProp 𝕄 := dutyTok ER (cell i c) (rnd i) (i, c)
/-- The credit that a wait for a due takes. -/
abbrev due (i : Due) (d : Dev nD) : sProp 𝕄 := cred (tallyAt (cell i d) (lvl i) (amt i))

abbrev 𝒱₀ : Variants := Variants.none
/-- A program of device `c`. -/
abbrev run (c : Dev nD) {α : Type} (p : KProg F α) (Q : α → sProp 𝕄) : sProp 𝕄 :=
  wp frame (wpE (defs₀ (F := F)) 𝒱₀ (Dev.tc c) none) Set.univ p Q

variable {α : Type}

theorem pay_signal (c : Dev nD) (i : Due) {d : Dev nD} {s : Sem sig} {l : List Due} {k : PUnit → KProg F α} {Q : α → sProp 𝕄}
    (hg : cell i c = (Dev.tc d, .reg s)) (ha : amt i = 1) :
    iprop(known X Wt K ∗ owing c (i :: l) ∗ tok i c ∗ pay X Wt i c ∗ reached ER (Dev.tc d, .reg s) (rnd i))
      ⊢ iprop((owing c l -∗ run c (k ⟨⟩) Q) -∗ run c (.op (.semSignal (Dev.tc d) s 1) k) Q) := by
  unfold owing
  iintro ⟨#HK, ⟨%W, HO⟩, Ht, Hp, #Hr⟩ Hk
  iapply (Rounds.wp_signal 𝒱₀ ER (Rd X Wt) (Dev.tc c) none (dst := Dev.tc d) (sem := s) (r := rnd i) (d := (i, c)) (κ := K (cell i c))
    (by rw [← hg]; exact mem_duties X Wt i c) ha (lvl i) (O₀ := owed (i :: l) c) (owed l c) (by rw [owed_cons, hg, ha])) $$ [HO Ht Hp]
  · isplitr; · rw [← hg]; iapply (known_inv X Wt K i c); iexact HK
    isplitl [HO]; · iexact HO
    isplitl [Ht]; · rw [← hg]; iexact Ht
    isplitl [Hp]; · rw [payload_eq]; iexact Hp
    iexact Hr
  iintro HO
  iapply Hk
  iexists W; iexact HO

theorem pay_send (c : Dev nD) (i j : Due) {d : Dev nD} {sp sp' : Space} {s : Shape} {e : EltTy} {src : Memref sig .tc sp s e} {dst : Memref sig .tc sp' s e}
    {sS sR : SemLoc sig} {hsc : dst.view.ref.isScScratch = false} {hsrc : src.view.WordExact} {hdst : dst.view.WordExact}
    {hsem : DmaTarget.Typed sp sR (.remote (Dev.tc d) dst sS hsc)} {q : PosShare TreeShare} {A : s.Idx → Elt F e} {Fr : sProp 𝕄} {l : List Due} {k : PUnit → KProg F α} {Q : α → sProp 𝕄}
    (hgi : cell i c = (Dev.tc c, sS)) (hgj : cell j c = (Dev.tc d, sR)) (hN : dst.view.amount sR = amt j) (ha : amt i = amt j)
    (hpi : own c src q A ⊢ pay X Wt i c) (hpj : iprop(own d dst fullShare A ∗ Fr) ⊢ pay X Wt j c) {ri rj : ℕ} (hri : rnd i = ri) (hrj : rnd j = rj) :
    iprop(known X Wt K ∗ own c src q A ∗ ownAny d dst ∗ Fr ∗ owing c (j :: l) ∗ tok i c ∗ reached ER (Dev.tc c, sS) ri
        ∗ tok j c ∗ reached ER (Dev.tc d, sR) rj)
      ⊢ iprop((due i c ∗ owing c l -∗ run c (k ⟨⟩) Q)
          -∗ run c (.op (.enqueueDma src (.remote (Dev.tc d) dst sS hsc) sR hsrc hdst hsem) k) Q) := by
  subst hri hrj
  unfold owing
  iintro ⟨#HK, Hs, ⟨%B, Hd⟩, HF, ⟨%W, HO⟩, Hti, #Hri, Htj, #Hrj⟩ Hk
  unfold own owns at *
  icases Hs with ⟨%fs, %hfs, Hs⟩
  icases Hd with ⟨%fd, -, Hd⟩
  iapply (Rounds.wp_send_pointsTo_with 𝒱₀ ER (Rd X Wt) (Dev.tc c) none (c' := Dev.tc d) (src := src) (dst := dst) (sS := sS) (sem := sR) (q := q)
    (fs := fs) (fd := fd) (F := Fr) (κ₁ := K (cell i c)) (κ₂ := K (cell j c)) (r₁ := rnd i) (r₂ := rnd j) (d₁ := (i, c)) (d₂ := (j, c))
    (by rw [← hgi]; exact mem_duties X Wt i c) (by rw [← hgj]; exact mem_duties X Wt j c) (lvl j) (lvl i) (amt j) hN ha rfl
    (O₀ := owed (j :: l) c) (owed l c) (by rw [owed_cons, hgj]) (W := W)
    (by
      refine .trans ?_ hpi
      iintro H; iexists fs; isplitr; · ipureintro; exact hfs
      iexact H)
    (by
      refine .trans ?_ hpj
      iintro ⟨H, HF⟩; isplitl [H]
      · iexists _; isplitr; rotate_left; · iexact H
        ipureintro; rw [View.read_write_univ]; exact hfs
      iexact HF)) $$ [Hs Hd HF HO Hti Htj]
  · isplitr; · rw [← hgi]; iapply (known_inv X Wt K i c); iexact HK
    isplitr; · rw [← hgj]; iapply (known_inv X Wt K j c); iexact HK
    isplitl [Hs]; · iexact Hs
    isplitl [Hd HF]
    · isplitl [Hd]; · iexact Hd
      iexact HF
    isplitl [HO]; · iexact HO
    isplitl [Hti]; · rw [← hgi]; iexact Hti
    isplitr; · iexact Hri
    isplitl [Htj]; · rw [← hgj]; iexact Htj
    iexact Hrj
  iintro ⟨Hc, HO⟩
  iapply Hk
  isplitl [Hc]; · unfold due; rw [hgi, ha]; iexact Hc
  iexists W; iexact HO

theorem pay_copy (c : Dev nD) (i : Due) {sp sp' : Space} {s : Shape} {e : EltTy} {src : Memref sig .tc sp s e} {dst : Memref sig .tc sp' s e}
    {sm : SemLoc sig} {hsrc : src.view.WordExact} {hdst : dst.view.WordExact} {hsem : DmaTarget.Typed (nD := nD) (p := (.tc : Proc τ)) sp sm (.here dst)}
    {q : PosShare TreeShare} {A : s.Idx → Elt F e} {k : PUnit → KProg F α} {Q : α → sProp 𝕄}
    (hg : cell i c = (Dev.tc c, sm)) (hN : dst.view.amount sm = amt i)
    (hp : iprop(own c dst fullShare A ∗ own c src q A) ⊢ pay X Wt i c) {r : ℕ} (hr : rnd i = r) :
    iprop(known X Wt K ∗ own c src q A ∗ ownAny c dst ∗ tok i c ∗ reached ER (Dev.tc c, sm) r)
      ⊢ iprop((due i c -∗ run c (k ⟨⟩) Q) -∗ run c (.op (.enqueueDma src (.here dst) sm hsrc hdst hsem) k) Q) := by
  subst hr
  iintro ⟨#HK, Hs, ⟨%B, Hd⟩, Ht, #Hr⟩ Hk
  unfold own owns at *
  icases Hs with ⟨%fs, %hfs, Hs⟩
  icases Hd with ⟨%fd, -, Hd⟩
  iapply (Rounds.wp_copy_pointsTo 𝒱₀ ER (Rd X Wt) (Dev.tc c) none (src := src) (dst := dst) (sem := sm) (q := q) (fs := fs) (fd := fd) (r := rnd i)
    (d := (i, c)) (κ := K (cell i c)) (by rw [← hg]; exact mem_duties X Wt i c) (lvl i) (amt i) hN rfl
    (by
      refine .trans ?_ hp
      iintro ⟨H, H'⟩; isplitl [H]
      · iexists _; isplitr; rotate_left; · iexact H
        ipureintro; rw [View.read_write_univ]; exact hfs
      iexists fs; isplitr; · ipureintro; exact hfs
      iexact H')) $$ [Hs Hd Ht]
  · isplitr; · rw [← hg]; iapply (known_inv X Wt K i c); iexact HK
    isplitl [Hs]; · iexact Hs
    isplitl [Hd]; · iexact Hd
    isplitl [Ht]; · rw [← hg]; iexact Ht
    iexact Hr
  iintro Hc
  iapply Hk
  unfold due; rw [hg]; iexact Hc

theorem take (c : Dev nD) (i : Due) (d : Dev nD) (hi : ∀ S, i ≠ .bar S) {sm : SemLoc sig} {r : ℕ} {l : List Due} {w : TpuEff nD τ sig (Elt F) Λ₀ .tc PUnit}
    {k : PUnit → KProg F α} {Q : α → sProp 𝕄} (hg : cell i d = (Dev.tc c, sm)) (hr : rnd i = r)
    (hw : ∀ P : PUnit → sProp 𝕄, wpE (defs₀ (F := F)) 𝒱₀ (Dev.tc c) none Set.univ w P = waitSpec (Dev.tc c) Set.univ sm (amt i) P)
    (hl : ∀ j ∈ l, lvl i < lvl j) :
    iprop(known X Wt K ∗ due i d ∗ owing c l ∗ atPos ER (Dev.tc c, sm) r ∅ 0)
      ⊢ iprop((owing c l ∗ atPos ER (Dev.tc c, sm) (r + 1) ∅ 0 ∗ reached ER (Dev.tc c, sm) (r + 1) ∗ pay X Wt i d -∗ run c (k ⟨⟩) Q)
          -∗ run c (.op w k) Q) := by
  subst hr
  unfold owing
  iintro ⟨#HK, Hc, ⟨%W, HO⟩, Ha⟩ Hk
  have hd := duties_eq X Wt hi d
  iapply (Rounds.wp_wait_rest_token 𝒱₀ ER (Rd X Wt) (Dev.tc c) none (κ := K (cell i d)) (k' := amt i) hw (Set.mem_univ _) (lvl i) (O := owed l c) (W := W)
    (R := rnd i) (m := 0) (T := ∅) (by
      rw [Nat.zero_add, ← hg]; show amt i = ∑ p ∈ (Rd X Wt).duties (cell i d) (rnd i), amt p.1
      rw [hd, Finset.sum_singleton])) $$ [Hc HO Ha]
  · isplitr; · rw [← hg]; iapply (known_inv X Wt K i d); iexact HK
    isplitl [Hc]; · rw [← hg]; iexact Hc
    isplitl [HO]; · iexact HO
    isplitr; · iapply (known_wait X Wt K sm (lvl_lt i) hl); iexact HK
    iexact Ha
  iintro ⟨HO, Ha, Hr, Hp⟩
  iapply Hk
  isplitl [HO]; · iexists _; iexact HO
  isplitl [Ha]; · iexact Ha
  isplitl [Hr]; · iexact Hr
  ihave Hp := (Entails.of_eq (show _ = pay X Wt i d by rw [← hg, Finset.sdiff_empty, hd, bigSep_singleton, payload_eq])) $$ Hp
  iexact Hp

/-- The wait of the barrier takes both of its dues. -/
theorem take_bar (c : Dev nD) {l : List Due} {k : PUnit → KProg F α} {Q : α → sProp 𝕄} (hl : ∀ j ∈ l, 1 < lvl j) :
    iprop(known X Wt K ∗ cred (tallyAt (barC c) 1 2) ∗ owing c l ∗ atPos ER (barC c) 0 ∅ 0)
      ⊢ iprop((owing c l ∗ atPos ER (barC c) 1 ∅ 0 ∗ pay X Wt (.bar true) (peer false c) ∗ pay X Wt (.bar false) (peer true c) -∗ run c (k ⟨⟩) Q)
          -∗ run c (.op (.semWait (sig.barrier 0 rfl) 2) k) Q) := by
  unfold owing
  iintro ⟨#HK, Hc, ⟨%W, HO⟩, Ha⟩ Hk
  have hd := duties_bar X Wt c
  have hne : ((Due.bar true, peer false c) : Due × Dev nD) ∉ ({(.bar false, peer true c)} : Finset (Due × Dev nD)) := by
    rw [Finset.mem_singleton]; intro h; cases congrArg Prod.fst h
  have hg : cell (.bar true) (peer false c) = barC c := bar_cell true c
  have hI := known_inv X Wt K (.bar true) (peer false c)
  rw [hg] at hI
  iapply (Rounds.wp_wait_rest_token 𝒱₀ ER (Rd X Wt) (Dev.tc c) none (κ := K (barC c)) (k' := 2) (wpE_semWait_eq 𝒱₀ (Dev.tc c) none Set.univ) (Set.mem_univ _)
    1 (O := owed l c) (W := W) (R := 0) (m := 0) (T := ∅) (by
      show _ = ∑ p ∈ (Rd X Wt).duties (barC c) 0, amt p.1
      rw [hd, Finset.sum_insert hne, Finset.sum_singleton]; rfl)) $$ [Hc HO Ha]
  · isplitr; · iapply hI; iexact HK
    isplitl [Hc]; · iexact Hc
    isplitl [HO]; · iexact HO
    isplitr; · iapply (known_wait X Wt K _ (by decide) hl); iexact HK
    iexact Ha
  iintro ⟨HO, Ha, -, Hp⟩
  iapply Hk
  isplitl [HO]; · iexists _; iexact HO
  isplitl [Ha]; · iexact Ha
  ihave Hp := (Entails.of_eq (show _ = iprop(pay X Wt (.bar true) (peer false c) ∗ pay X Wt (.bar false) (peer true c)) by
    rw [Finset.sdiff_empty, hd, bigSep_insert hne, bigSep_singleton, payload_eq, payload_eq]; rfl)) $$ Hp
  iexact Hp

end rules

end Cert.KernelIdeal.Proof

end
-- ==== Proof.Steps.lean ====
module

public import proofs.«01_k».proof.Proof.Sched

/-! Loads and stores of a memref, of a slice of it and of a slot of a receive buffer, held at what they read; programs in sequence; the loop. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem ofSlot_toSlot {α : Type} (A : S256x4096.Idx → α) : ofSlot (toSlot A) = A := by
  funext x; show A (Shape.reshapeEquiv _ (Shape.reshapeEquiv _ x)) = A x
  rw [Shape.reshapeEquiv_reshapeEquiv, Shape.reshapeEquiv_self]
theorem toSlot_ofSlot {α : Type} (A : S1x256x4096.Idx → α) : toSlot (ofSlot A) = A := by
  funext x; show A (Shape.reshapeEquiv _ (Shape.reshapeEquiv _ x)) = A x
  rw [Shape.reshapeEquiv_reshapeEquiv, Shape.reshapeEquiv_self]

section steps
variable {α : Type} (c : Dev nD)

/-- A load of a held memref. -/
theorem own_load {cs : CoreSpace} {s : Shape} {e : EltTy} (m : Memref sig .tc cs s e) (r : Rect s) {hl : m.view.LoadsAt r.toLoadRect}
    {q : PosShare TreeShare} {A : s.Idx → Elt F e} {k : (r.shape.Idx → Elt F e) → KProg F α} {Q : α → sProp 𝕄} :
    own c m q A ⊢ iprop((own c m q A -∗ run c (k (fun x => A (r.emb x))) Q) -∗ run c (.op (.load m r.toLoadRect hl) k) Q) := by
  unfold own owns
  iintro ⟨%f, %hf, H⟩ Hk
  subst hf
  iapply (wp_load 𝒱₀ (Dev.tc c) none Set.univ (m := m) (r := r.toLoadRect) (f := f) (S := m.view.set) (q := q)
    (show m.view.setOn r.set ⊆ m.view.set from Finset.map_subset_map.mpr (Finset.subset_univ _))) $$ H
  iintro H
  iapply Hk
  iexists f; isplitr; · ipureintro; rfl
  iexact H

/-- A store into a held memref. -/
theorem own_store {cs : CoreSpace} {s : Shape} {e : EltTy} (m : Memref sig .tc cs s e) (r : Rect s) {v : r.shape.Idx → Elt F e}
    {hx : (m.access r).Stores Finset.univ} {hm : (Finset.univ : Finset r.shape.Idx) = Finset.univ ∨ ∀ a, r.stride a = 1}
    {A : s.Idx → Elt F e} {k : PUnit → KProg F α} {Q : α → sProp 𝕄} :
    own c m fullShare A ⊢ iprop((own c m fullShare (r.overlay A v) -∗ run c (k ⟨⟩) Q) -∗ run c (.op (.store m r v Finset.univ hx hm) k) Q) := by
  unfold own owns
  iintro ⟨%f, %hf, H⟩ Hk
  subst hf
  iapply (wp_store 𝒱₀ (Dev.tc c) none Set.univ (m := m) (r := r) (w := v) (Mk := Finset.univ) (f := f)
    (by exact View.set_slice_subset m.view r)) $$ H
  iintro H
  iapply Hk
  iexists _; isplitr; rotate_left; · iexact H
  ipureintro
  funext y
  by_cases hy : y ∈ r.set
  · rw [← Rect.map_emb_univ] at hy
    obtain ⟨x, -, rfl⟩ := Finset.mem_map.mp hy
    rw [Rect.overlay_emb]; exact View.read_slice_write_emb (v := m.view) r f v (Finset.mem_univ x)
  · rw [Rect.overlay_of_not_mem _ _ _ hy]
    exact View.read_slice_write_of_not_mem (v := m.view) r f v _ (by rw [Rect.map_emb_univ]; exact hy)

/-- A store into a held slice. -/
theorem slice_store {cs : CoreSpace} {s : Shape} {e : EltTy} (m : Memref sig .tc cs s e) (r : Rect s) (hr : ∀ a, r.stride a = 1) {v : r.shape.Idx → Elt F e}
    {hx : (m.access r).Stores Finset.univ} {hm : (Finset.univ : Finset r.shape.Idx) = Finset.univ ∨ ∀ a, r.stride a = 1}
    {k : PUnit → KProg F α} {Q : α → sProp 𝕄} :
    ownAny c (m.slice r hr) ⊢ iprop((own c (m.slice r hr) fullShare v -∗ run c (k ⟨⟩) Q) -∗ run c (.op (.store m r v Finset.univ hx hm) k) Q) := by
  unfold ownAny own owns
  iintro ⟨%A, %f, -, H⟩ Hk
  iapply (wp_store 𝒱₀ (Dev.tc c) none Set.univ (m := m) (r := r) (w := v) (Mk := Finset.univ) (f := f)
    (by exact Finset.Subset.refl (m.view.slice r).set)) $$ H
  iintro H
  iapply Hk
  iexists _; isplitr; rotate_left; · iexact H
  ipureintro
  exact View.read_write_univ _ _

/-- A load of a held slice. -/
theorem slice_load {cs : CoreSpace} {s : Shape} {e : EltTy} (m : Memref sig .tc cs s e) (r : Rect s) (hr : ∀ a, r.stride a = 1) {hl : m.view.LoadsAt r.toLoadRect}
    {q : PosShare TreeShare} {A : r.shape.Idx → Elt F e} {k : (r.shape.Idx → Elt F e) → KProg F α} {Q : α → sProp 𝕄} :
    own c (m.slice r hr) q A ⊢ iprop((own c (m.slice r hr) q A -∗ run c (k A) Q) -∗ run c (.op (.load m r.toLoadRect hl) k) Q) := by
  unfold own owns
  iintro ⟨%f, %hf, H⟩ Hk
  subst hf
  iapply (wp_load_rect 𝒱₀ (Dev.tc c) none Set.univ (m := m) (r := r) (f := f) (q := q) (by exact Finset.Subset.refl (m.view.slice r).set)) $$ H
  iintro H
  iapply Hk
  iexists f; isplitr; · ipureintro; rfl
  iexact H

theorem slot_read (m : Memref sig .tc .vmem S2x256x4096 .bf16) (b : Fin 2) (f : m.view.ty.Contents (Elt F)) :
    (slotM m b).view.read (Elt F) f = ofSlot ((m.slice (slotRect b) (fun _ => rfl)).view.read (Elt F) f) := by
  funext x; rfl

theorem slot_slice (m : Memref sig .tc .vmem S2x256x4096 .bf16) (b : Fin 2) (q : PosShare TreeShare) (A : S256x4096.Idx → Elt F .bf16) :
    own c (slotM m b) q A ⊢ own c (m.slice (slotRect b) (fun _ => rfl)) q (toSlot A) := by
  unfold own owns
  iintro ⟨%f, %hf, H⟩
  subst hf
  iexists f; isplitr
  · ipureintro
    rw [slot_read, toSlot_ofSlot]
  · rw [show (slotM m b).view.set = (m.slice (slotRect b) (fun _ => rfl)).view.set from View.set_reshape _ _]; iexact H

theorem slice_slot (m : Memref sig .tc .vmem S2x256x4096 .bf16) (b : Fin 2) (q : PosShare TreeShare) (A : S1x256x4096.Idx → Elt F .bf16) :
    own c (m.slice (slotRect b) (fun _ => rfl)) q A ⊢ own c (slotM m b) q (ofSlot A) := by
  unfold own owns
  iintro ⟨%f, %hf, H⟩
  subst hf
  iexists f; isplitr
  · ipureintro; exact slot_read m b f
  · rw [show (slotM m b).view.set = (m.slice (slotRect b) (fun _ => rfl)).view.set from View.set_reshape _ _]; iexact H

/-- A load, and a store, of a slot of a receive buffer. -/
theorem slot_load (m : Memref sig .tc .vmem S2x256x4096 .bf16) (b : Fin 2) {hl : m.view.LoadsAt (slotRect b).toLoadRect}
    {q : PosShare TreeShare} {A : S256x4096.Idx → Elt F .bf16} {k : (S1x256x4096.Idx → Elt F .bf16) → KProg F α} {Q : α → sProp 𝕄} :
    own c (slotM m b) q A ⊢ iprop((own c (slotM m b) q A -∗ run c (k (toSlot A)) Q) -∗ run c (.op (.load m (slotRect b).toLoadRect hl) k) Q) := by
  iintro H Hk
  ihave H := (slot_slice c m b q A) $$ H
  iapply (slice_load c m (slotRect b) (fun _ => rfl) (A := toSlot A)) $$ H
  iintro H
  iapply Hk
  ihave H := (slice_slot c m b q (toSlot A)) $$ H
  rw [ofSlot_toSlot]; iexact H

theorem slot_store (m : Memref sig .tc .vmem S2x256x4096 .bf16) (b : Fin 2) {v : S1x256x4096.Idx → Elt F .bf16}
    {hx : (m.access (slotRect b)).Stores Finset.univ} {hm : (Finset.univ : Finset (slotRect b).shape.Idx) = Finset.univ ∨ ∀ a, (slotRect b).stride a = 1}
    {k : PUnit → KProg F α} {Q : α → sProp 𝕄} :
    ownAny c (slotM m b)
      ⊢ iprop((own c (slotM m b) fullShare (ofSlot v) -∗ run c (k ⟨⟩) Q) -∗ run c (.op (.store m (slotRect b) v Finset.univ hx hm) k) Q) := by
  iintro ⟨%A, H⟩ Hk
  ihave H := (slot_slice c m b fullShare A) $$ H
  iapply (slice_store c m (slotRect b) (fun _ => rfl) (v := v)) $$ [H]
  · iexists _; iexact H
  iintro H
  iapply Hk
  iapply (slice_slot c m b fullShare v); iexact H

/-- One program, then another. -/
theorem run_bind {β : Type} {p : KProg F β} {k : β → KProg F α} {Q : α → sProp 𝕄} :
    run c p (fun b => run c (k b) Q) ⊢ run c (p >>= k) Q := Entails.of_eq (wp_bind _ _ _ _ _ _).symm

theorem run_mono {p : KProg F α} {Q Q' : α → sProp 𝕄} (h : ∀ a, Q a ⊢ Q' a) : run c p Q ⊢ run c p Q' := wp_mono _ _ _ h

theorem run_pure {a : α} {Q : α → sProp 𝕄} : Q a ⊢ run c (pure a : KProg F α) Q := by
  show _ ⊢ wp _ _ _ (.ret a) Q
  rw [wp_ret]; exact fupd_intro

/-- A loop that keeps an invariant. -/
theorem run_loop {f : ℕ → KProg F PUnit} (I : ℕ → sProp 𝕄) : ∀ (n i : ℕ), (∀ j, i ≤ j → j < i + n → I j ⊢ run c (f j) (fun _ => I (j + 1))) →
    I i ⊢ run c (loop f n i) (fun _ => I (i + n))
  | 0, i, _ => run_pure c
  | n + 1, i, h => by
    show I i ⊢ run c (f i >>= fun _ => loop f n (i + 1)) _
    refine (h i (le_refl _) (by omega)).trans (.trans (run_mono c fun _ => ?_) (run_bind c))
    refine (run_loop I n (i + 1) fun j h1 h2 => h j (by omega) (by omega)).trans (run_mono c fun _ => ?_)
    rw [show i + 1 + n = i + (n + 1) by omega]

end steps

end Cert.KernelIdeal.Proof

end
-- ==== Proof.Hop.lean ====
module

public import proofs.«01_k».proof.Proof.Steps

/-! The reduce-scatter: each part of a hop, on one ring, at any device; a hop; the fifteen hops. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The rules, for a program of one operation -/

/-- A device stands at round `r` of a cell of its own. -/
def at_ (g : GSem nD τ sig) (r : ℕ) : sProp 𝕄 := iprop(atPos ER g r ∅ 0 ∗ reached ER g r)

section rules
variable (X : Dev nD → Vec F S4096x256 .bf16) (Wt : Dev nD → Vec F S256x8192 .bf16) (K : GSem nD τ sig → ℕ) (c : Dev nD)

theorem take1 (i : Due) (d : Dev nD) (hi : ∀ S, i ≠ .bar S) {sm : SemLoc sig} {r : ℕ} {l : List Due} {w : TpuEff nD τ sig (Elt F) Λ₀ .tc PUnit}
    {Q : PUnit → sProp 𝕄} (hg : cell i d = (Dev.tc c, sm)) (hr : rnd i = r)
    (hw : ∀ P : PUnit → sProp 𝕄, wpE (defs₀ (F := F)) 𝒱₀ (Dev.tc c) none Set.univ w P = waitSpec (Dev.tc c) Set.univ sm (amt i) P)
    (hl : ∀ j ∈ l, lvl i < lvl j) :
    iprop(known X Wt K ∗ due i d ∗ owing c l ∗ at_ (Dev.tc c, sm) r)
      ⊢ iprop((owing c l ∗ at_ (Dev.tc c, sm) (r + 1) ∗ pay X Wt i d -∗ Q ⟨⟩) -∗ run c (.op w .ret) Q) := by
  unfold at_
  iintro ⟨#HK, Hd, HO, Ha, -⟩ Hk
  iapply (take X Wt K c i d hi hg hr hw hl) $$ [Hd HO Ha]
  · isplitr; · iexact HK
    isplitl [Hd]; · iexact Hd
    isplitl [HO]; · iexact HO
    iexact Ha
  iintro ⟨HO, Ha, Hr, Hp⟩
  iapply (run_pure c)
  iapply Hk
  isplitl [HO]; · iexact HO
  isplitl [Ha Hr]
  · isplitl [Ha]; · iexact Ha
    iexact Hr
  iexact Hp

theorem par_add_two (h : ℕ) : par (h + 2) = par h := Fin.ext (by show (h + 2) % 2 = h % 2; omega)
theorem half_add_two (h : ℕ) : (h + 2) / 2 = h / 2 + 1 := by omega

/-! ### The state of one ring before hop `h` -/

/-- The slot of hop `h`: what the neighbour sent the hop before. -/
def slotH (S : Bool) : ℕ → sProp 𝕄
  | 0 => ownAny c (slotM (cm S) (par 0))
  | h + 1 => own c (slotM (cm S) (par (h + 1))) fullShare (acc X Wt S h (peer (!S) c))

theorem slotH_succ (S : Bool) (h : ℕ) : slotH X Wt c S (h + 1) = own c (slotM (cm S) (par (h + 1))) fullShare (acc X Wt S h (peer (!S) c)) := rfl

theorem rowsIf_true (d : Dev nD) (h : ℕ) : rowsIf (F := F) true d h = rows d h := if_pos rfl
theorem rowsIf_false (d : Dev nD) (h : ℕ) : rowsIf (F := F) false d h = iprop(emp) := if_neg Bool.false_ne_true

/-- Where the device stands on the cells of a ring. -/
def poss (S : Bool) (h : ℕ) : sProp 𝕄 :=
  iprop(at_ (sndC S (par h) c) (h / 2) ∗ at_ (sndC S (par (h + 1)) c) ((h + 1) / 2) ∗ at_ (rcvC S (par (h + 1)) c) (h / 2) ∗ at_ (rcvC S (par h) c) ((h + 1) / 2))

/-- The rights to pay the dues of the hops still to come, and the credits for those of the neighbour. -/
def toks (S : Bool) (h : ℕ) : sProp 𝕄 :=
  bigSep (Ring.rangeSet 15 h 15) (fun j => iprop(tok (.snd S j) c ∗ tok (.rcv S j) c ∗ due (.rcv S j) (peer (!S) c)))
def giveT (S : Bool) (h : ℕ) : sProp 𝕄 := bigSep (Ring.rangeSet 14 h 14) (fun j => tok (.crd S j) c)
def takeT (S : Bool) (h : ℕ) : sProp 𝕄 := bigSep (Ring.rangeSet 14 h 14) (fun j => due (.crd S j) (peer S c))

theorem toks_head (S : Bool) {h : ℕ} (hh : h < 15) :
    toks (F := F) c S h = iprop((tok (.snd S ⟨h, hh⟩) c ∗ tok (.rcv S ⟨h, hh⟩) c ∗ due (.rcv S ⟨h, hh⟩) (peer (!S) c)) ∗ toks c S (h + 1)) :=
  Ring.bigSep_rangeSet_head (NB := 15) hh hh
theorem giveT_head (S : Bool) {h : ℕ} (hh : h < 14) : giveT (F := F) c S h = iprop(tok (.crd S ⟨h, hh⟩) c ∗ giveT c S (h + 1)) :=
  Ring.bigSep_rangeSet_head (NB := 14) hh hh
theorem takeT_head (S : Bool) {h : ℕ} (hh : h < 14) : takeT (F := F) c S h = iprop(due (.crd S ⟨h, hh⟩) (peer S c) ∗ takeT c S (h + 1)) :=
  Ring.bigSep_rangeSet_head (NB := 14) hh hh

/-! ### The parts of a hop, on one ring -/

theorem send_hop (S : Bool) {h : ℕ} (hh : h < 15) {l : List Due} {hsc : (slotM (cm S) (par (h + 1))).view.ref.isScScratch = false}
    {hsrc : (slotM (cm S) (par h)).view.WordExact} {hdst : (slotM (cm S) (par (h + 1))).view.WordExact}
    {hsem : DmaTarget.Typed .vmem (.dma (sem2 (rS S) (par (h + 1)))) (.remote (Dev.tc (peer S c)) (slotM (cm S) (par (h + 1))) (.dma (sem2 (sS S) (par h))) hsc)} {Q : PUnit → sProp 𝕄} :
    iprop(known X Wt K ∗ own c (slotM (cm S) (par h)) fullShare (acc X Wt S h c) ∗ room S (peer S c) h ∗ rowsIf S c h ∗ reached ER (crdC S c) h
        ∗ poss c S h ∗ toks c S h ∗ owing c (.rcv S ⟨h, hh⟩ :: l))
      ⊢ iprop((due (.snd S ⟨h, hh⟩) c ∗ due (.rcv S ⟨h, hh⟩) (peer (!S) c) ∗ poss c S h ∗ toks c S (h + 1) ∗ owing c l -∗ Q ⟨⟩)
          -∗ run c (.op (.enqueueDma (slotM (cm S) (par h)) (.remote (Dev.tc (peer S c)) (slotM (cm S) (par (h + 1))) (.dma (sem2 (sS S) (par h))) hsc)
              (.dma (sem2 (rS S) (par (h + 1)))) hsrc hdst hsem) .ret) Q) := by
  rw [toks_head c S hh]
  unfold poss at_ room
  iintro ⟨#HK, Hs, ⟨Hd, Hrr⟩, Hrow, Hcr, ⟨⟨H1, #Hr1⟩, H2, H3, H4⟩, ⟨⟨Ht1, Ht2, Hdue⟩, Htk⟩, HO⟩ Hk
  iapply (pay_send X Wt K c (.snd S ⟨h, hh⟩) (.rcv S ⟨h, hh⟩) (Fr := iprop(reached ER (crdC S c) h ∗ rowsIf S c h)) rfl rfl (amt_slot S _) rfl
    (by unfold pay; exact .rfl) (by unfold pay; exact .rfl) rfl rfl) $$ [Hs Hd Hrr Hrow Hcr Ht1 Ht2 HO]
  · isplitr; · iexact HK
    isplitl [Hs]; · iexact Hs
    isplitl [Hd]; · iexact Hd
    isplitl [Hcr Hrow]
    · isplitl [Hcr]; · iexact Hcr
      iexact Hrow
    isplitl [HO]; · iexact HO
    isplitl [Ht1]; · iexact Ht1
    isplitr; · iexact Hr1
    isplitl [Ht2]; · iexact Ht2
    iexact Hrr
  iintro ⟨Hc, HO⟩
  iapply (run_pure c)
  iapply Hk
  isplitl [Hc]; · iexact Hc
  isplitl [Hdue]; · iexact Hdue
  isplitl [H1 H2 H3 H4]
  · isplitl [H1]
    · isplitl [H1]; · iexact H1
      iexact Hr1
    isplitl [H2]; · iexact H2
    isplitl [H3]; · iexact H3
    iexact H4
  isplitl [Htk]; · iexact Htk
  iexact HO

theorem wait_hop (S : Bool) {h : ℕ} (hh : h < 15) {l : List Due} (hl : ∀ j ∈ l, 10 + 4 * h < lvl j)
    {hs1 : (slotM (cm S) (par (h + 1))).view.WordExact} {hd1 : (slotM (cm S) (par h)).view.WordExact}
    {hs2 : (slotM (cm S) (par h)).view.WordExact} {hd2 : (slotM (cm S) (par (h + 1))).view.WordExact} {Q : PUnit → sProp 𝕄} :
    iprop(known X Wt K ∗ due (.snd S ⟨h, hh⟩) c ∗ due (.rcv S ⟨h, hh⟩) (peer (!S) c) ∗ poss c S h ∗ owing c l)
      ⊢ iprop((own c (slotM (cm S) (par h)) fullShare (acc X Wt S h c) ∗ slotH X Wt c S (h + 1) ∗ reached ER (crdC S (peer (!S) c)) h
            ∗ rowsIf S (peer (!S) c) h ∗ poss c S (h + 1) ∗ owing c l -∗ Q ⟨⟩)
          -∗ run c ((Prog.lift (.waitDma2 (sem2 (sS S) (par h)) (slotM (cm S) (par (h + 1))) (slotM (cm S) (par h)) hs1 hd1) : KProg F PUnit) >>= fun _ =>
              Prog.lift (.waitDma2 (sem2 (rS S) (par (h + 1))) (slotM (cm S) (par h)) (slotM (cm S) (par (h + 1))) hs2 hd2)) Q) := by
  unfold poss
  iintro ⟨#HK, Hd1, Hd2, ⟨H1, H2, H3, H4⟩, HO⟩ Hk
  iapply (run_bind c)
  iapply (take1 X Wt K c (.snd S ⟨h, hh⟩) c (fun _ => by intro h; cases h) (sm := .dma (sem2 (sS S) (par h))) rfl rfl (fun P => (wpE_waitDma2_eq 𝒱₀ (Dev.tc c) none Set.univ P).trans (by rw [amt_slot]; rfl))
    (fun j hj => lt_of_le_of_lt (Nat.zero_le _) (hl j hj))) $$ [Hd1 HO H1]
  · isplitr; · iexact HK
    isplitl [Hd1]; · iexact Hd1
    isplitl [HO]; · iexact HO
    iexact H1
  iintro ⟨HO, H1, Hp⟩
  have hg : cell (.rcv S ⟨h, hh⟩) (peer (!S) c) = (Dev.tc c, .dma (sem2 (rS S) (par (h + 1)))) := by
    show (Dev.tc (peer S (peer (!S) c)), _) = _; rw [peer_peer]; rfl
  iapply (take1 X Wt K c (.rcv S ⟨h, hh⟩) (peer (!S) c) (fun _ => by intro h; cases h) (sm := .dma (sem2 (rS S) (par (h + 1)))) hg rfl (fun P => (wpE_waitDma2_eq 𝒱₀ (Dev.tc c) none Set.univ P).trans (by rw [amt_slot]; rfl))
    hl) $$ [Hd2 HO H3]
  · isplitr; · iexact HK
    isplitl [Hd2]; · iexact Hd2
    isplitl [HO]; · iexact HO
    iexact H3
  iintro ⟨HO, H3, Hp'⟩
  ihave Hp' := (Entails.of_eq (show _ = iprop(slotH X Wt c S (h + 1) ∗ reached ER (crdC S (peer (!S) c)) h ∗ rowsIf S (peer (!S) c) h) by
    show iprop(own (peer S (peer (!S) c)) _ _ _ ∗ _) = _; rw [peer_peer]; rfl)) $$ Hp'
  icases Hp' with ⟨Hsl, Hr, Hrow⟩
  iapply Hk
  isplitl [Hp]; · unfold pay; iexact Hp
  isplitl [Hsl]; · iexact Hsl
  isplitl [Hr]; · iexact Hr
  isplitl [Hrow]; · iexact Hrow
  isplitl [H1 H2 H3 H4]
  · rw [show h + 1 + 1 = h + 2 from rfl, par_add_two, half_add_two]
    isplitl [H2]; · iexact H2
    isplitl [H1]; · iexact H1
    isplitl [H4]; · iexact H4
    iexact H3
  iexact HO

theorem give_credit (S : Bool) {k : ℕ} (hk : k < 14) {l : List Due} {Q : PUnit → sProp 𝕄} :
    iprop(known X Wt K ∗ owing c (.crd S ⟨k, hk⟩ :: l) ∗ giveT c S k ∗ own c (slotM (cm S) (par k)) fullShare (acc X Wt S k c)
        ∗ reached ER (crdC S (peer (!S) c)) k ∗ poss c S (k + 1))
      ⊢ iprop((owing c l ∗ giveT c S (k + 1) ∗ poss c S (k + 1) -∗ Q ⟨⟩) -∗ run c (.op (.semSignal (Dev.tc (peer (!S) c)) (cS S) 1) .ret) Q) := by
  rw [giveT_head c S hk]
  unfold poss at_
  iintro ⟨#HK, HO, ⟨Ht, HT⟩, Hs, #Hr, ⟨H1, H2, ⟨H3, #Hr3⟩, H4⟩⟩ Hk
  iapply (pay_signal X Wt K c (.crd S ⟨k, hk⟩) (d := peer (!S) c) (s := cS S) rfl rfl) $$ [HO Ht Hs]
  · isplitr; · iexact HK
    isplitl [HO]; · iexact HO
    isplitl [Ht]; · iexact Ht
    isplitl [Hs]
    · unfold pay room
      isplitl [Hs]
      · iexists _; rw [show k + 1 + 1 = k + 2 from rfl, par_add_two]; iexact Hs
      iexact Hr3
    iexact Hr
  iintro HO
  iapply (run_pure c)
  iapply Hk
  isplitl [HO]; · iexact HO
  isplitl [HT]; · iexact HT
  isplitl [H1]; · iexact H1
  isplitl [H2]; · iexact H2
  isplitl [H3]
  · isplitl [H3]; · iexact H3
    iexact Hr3
  iexact H4

theorem take_credit (S : Bool) {k : ℕ} (hk : k < 14) {l : List Due} (hl : ∀ j ∈ l, 12 + 4 * k < lvl j) {Q : PUnit → sProp 𝕄} :
    iprop(known X Wt K ∗ owing c l ∗ takeT c S k ∗ at_ (crdC S c) k)
      ⊢ iprop((owing c l ∗ takeT c S (k + 1) ∗ at_ (crdC S c) (k + 1) ∗ room S (peer S c) (k + 1) -∗ Q ⟨⟩) -∗ run c (.op (.semWait (cS S) 1) .ret) Q) := by
  rw [takeT_head c S hk]
  iintro ⟨#HK, HO, ⟨Hd, HT⟩, Ha⟩ Hk
  have hg : cell (.crd S ⟨k, hk⟩) (peer S c) = (Dev.tc c, .reg (cS S)) := by
    show (Dev.tc (peer (!S) (peer S c)), _) = _; rw [peer_peer']; rfl
  iapply (take1 X Wt K c (.crd S ⟨k, hk⟩) (peer S c) (fun _ => by intro h; cases h) (sm := .reg (cS S)) hg rfl (wpE_semWait_eq 𝒱₀ (Dev.tc c) none Set.univ) hl) $$ [Hd HO Ha]
  · isplitr; · iexact HK
    isplitl [Hd]; · iexact Hd
    isplitl [HO]; · iexact HO
    iexact Ha
  iintro ⟨HO, Ha, Hp⟩
  iapply Hk
  isplitl [HO]; · iexact HO
  isplitl [HT]; · iexact HT
  isplitl [Ha]; · iexact Ha
  unfold pay; iexact Hp

end rules

end Cert.KernelIdeal.Proof

end
-- ==== Proof.Scatter.lean ====
module

public import proofs.«01_k».proof.Proof.Hop

/-! The reduce-scatter, put together: the partial sums of a hop, a whole hop, the fifteen hops; and the chunk that each device is left with. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section rules
variable (X : Dev nD → Vec F S4096x256 .bf16) (Wt : Dev nD → Vec F S256x8192 .bf16) (K : GSem nD τ sig → ℕ) (c : Dev nD)

/-! ### Loads -/

/-- With `R`, the program `p` returns `v` and leaves `R`. -/
def Reads {α : Type} (R : sProp 𝕄) (p : KProg F α) (v : α) : Prop := ∀ Q : α → sProp 𝕄, R ⊢ iprop((R -∗ Q v) -∗ run c p Q)

theorem own_load1 {cs : CoreSpace} {s : Shape} {e : EltTy} (m : Memref sig .tc cs s e) (r : Rect s) {hl : m.view.LoadsAt r.toLoadRect}
    {q : PosShare TreeShare} {A : s.Idx → Elt F e} {v : r.shape.Idx → Elt F e} (hv : (fun x => A (r.emb x)) = v) :
    Reads c (own c m q A) (Prog.lift (.load m r.toLoadRect hl)) v := by
  subst hv
  intro Q
  iintro H Hk
  iapply (own_load c m r) $$ H
  iintro H
  iapply (run_pure c); iapply Hk; iexact H

theorem slot_load1 (m : Memref sig .tc .vmem S2x256x4096 .bf16) (b : Fin 2) {q : PosShare TreeShare} {A : S256x4096.Idx → Elt F .bf16} :
    Reads c (own c (slotM m b) q A) (loadSlot m b) (toSlot A) := by
  intro Q
  iintro H Hk
  iapply (slot_load c m b) $$ H
  iintro H
  iapply (run_pure c); iapply Hk; iexact H

theorem emb_congr {s : Shape} {α : Type} (A : s.Idx → α) {off off' size : Fin s.rank → ℕ} (h : off = off')
    (i : ∀ a, off a + size a ≤ s.size a) (i' : ∀ a, off' a + size a ≤ s.size a) :
    (fun x => A ((Rect.unit off size i).emb x)) = fun x => A ((Rect.unit off' size i').emb x) := by subst h; rfl

variable (hw3 : k0_chk3 (wordR c))

theorem load_xR {q : PosShare TreeShare} {h : ℕ} (hh : h < 15) : Reads c (own c xM q (X c)) (loadXR (wordR c) hw3 h) (xB X c (hopBlk true c h)) :=
  own_load1 c xM _ (emb_congr (X c) (off1_eq c hh) _ _)
theorem load_xL {q : PosShare TreeShare} {h : ℕ} (hh : h < 15) : Reads c (own c xM q (X c)) (loadXL (wordR c) hw3 h) (xB X c (hopBlk false c h)) :=
  own_load1 c xM _ (emb_congr (X c) (off2_eq c hh) _ _)
theorem load_x {q : PosShare TreeShare} : Reads c (own c xM q (X c)) (loadX (wordR c) hw3) (xB X c (pos c)) :=
  own_load1 c xM _ (emb_congr (X c) (off3_eq c) _ _)
theorem load_w0 {q : PosShare TreeShare} : Reads c (own c wM q (Wt c)) loadW0 (wB Wt true c) := own_load1 c wM _ rfl
theorem load_w1 {q : PosShare TreeShare} : Reads c (own c wM q (Wt c)) loadW1 (wB Wt false c) := own_load1 c wM _ rfl

/-! ### The partial sums -/

variable {Rx Rw : sProp (MT nD τ sig ℕ (Elt F) ℕ UU ℕ)} {px : KProg F (Vec F S256x256 .bf16)} {pw : KProg F (Vec F S256x4096 .bf16)}
  {xv : Vec F S256x256 .bf16} {wv : Vec F S256x4096 .bf16}

theorem first_half (hx : Reads c Rx px xv) (hw : Reads c Rw pw wv) (m : Memref sig .tc .vmem S2x256x4096 .bf16) (hm : m.IsWhole) (b : Fin 2) {Q : PUnit → sProp 𝕄} :
    iprop(Rx ∗ Rw ∗ ownAny c (slotM m b))
      ⊢ iprop((Rx ∗ Rw ∗ own c (slotM m b) fullShare (ofSlot (k0_pay2 xv wv)) -∗ Q ⟨⟩)
          -∗ run c (px >>= fun x => pw >>= fun w => loadSlot m b >>= fun _ => storeSlot m hm b (k0_pay2 x w)) Q) := by
  iintro ⟨Hx, Hw, ⟨%A, Hs⟩⟩ Hk
  iapply (run_bind c); iapply (hx _) $$ Hx; iintro Hx
  iapply (run_bind c); iapply (hw _) $$ Hw; iintro Hw
  iapply (run_bind c); iapply (slot_load1 c m b _) $$ Hs; iintro Hs
  iapply (slot_store c m b) $$ [Hs]
  · iexists _; iexact Hs
  iintro Hs
  iapply (run_pure c); iapply Hk
  isplitl [Hx]; · iexact Hx
  isplitl [Hw]; · iexact Hw
  iexact Hs

theorem next_half (hx : Reads c Rx px xv) (hw : Reads c Rw pw wv) (m : Memref sig .tc .vmem S2x256x4096 .bf16) (hm : m.IsWhole) (b : Fin 2)
    {A : Vec F S256x4096 .bf16} {Q : PUnit → sProp 𝕄} :
    iprop(Rx ∗ Rw ∗ own c (slotM m b) fullShare A)
      ⊢ iprop((Rx ∗ Rw ∗ own c (slotM m b) fullShare (ofSlot (k0_pay5 xv wv (toSlot A))) -∗ Q ⟨⟩)
          -∗ run c (px >>= fun x => pw >>= fun w => loadSlot m b >>= fun a => loadSlot m b >>= fun _ => storeSlot m hm b (k0_pay5 x w a)) Q) := by
  iintro ⟨Hx, Hw, Hs⟩ Hk
  iapply (run_bind c); iapply (hx _) $$ Hx; iintro Hx
  iapply (run_bind c); iapply (hw _) $$ Hw; iintro Hw
  iapply (run_bind c); iapply (slot_load1 c m b _) $$ Hs; iintro Hs
  iapply (run_bind c); iapply (slot_load1 c m b _) $$ Hs; iintro Hs
  iapply (slot_store c m b) $$ [Hs]
  · iexists _; iexact Hs
  iintro Hs
  iapply (run_pure c); iapply Hk
  isplitl [Hx]; · iexact Hx
  isplitl [Hw]; · iexact Hw
  iexact Hs

/-- The two operands, held. -/
def ins : sProp 𝕄 := iprop(own c xM fullShare (X c) ∗ own c wM fullShare (Wt c))

theorem acc_first {Q : PUnit → sProp 𝕄} :
    iprop(ins X Wt c ∗ ownAny c (slotM commR (par 0)) ∗ ownAny c (slotM commL (par 0)))
      ⊢ iprop((ins X Wt c ∗ own c (slotM commR (par 0)) fullShare (acc X Wt true 0 c) ∗ own c (slotM commL (par 0)) fullShare (acc X Wt false 0 c) -∗ Q ⟨⟩)
          -∗ run c (accFirst (wordR c) hw3) Q) := by
  have e : accFirst (F := F) (wordR c) hw3
      = (loadXR (wordR c) hw3 0 >>= fun x => loadW0 >>= fun w => loadSlot commR (par 0) >>= fun _ => storeSlot commR (Memref.isWhole_whole _) (par 0) (k0_pay2 x w))
        >>= fun _ => (loadXL (wordR c) hw3 0 >>= fun x => loadW1 >>= fun w => loadSlot commL (par 0) >>= fun _ => storeSlot commL (Memref.isWhole_whole _) (par 0) (k0_pay2 x w)) := by
    simp only [accFirst, bind_assoc]
  rw [e]
  unfold ins
  iintro ⟨⟨Hx, Hw⟩, H1, H2⟩ Hk
  iapply (run_bind c)
  iapply (first_half c (load_xR X c hw3 (by decide)) (load_w0 Wt c) commR _ (par 0)) $$ [Hx Hw H1]
  · isplitl [Hx]; · iexact Hx
    isplitl [Hw]; · iexact Hw
    iexact H1
  iintro ⟨Hx, Hw, H1⟩
  iapply (first_half c (load_xL X c hw3 (by decide)) (load_w1 Wt c) commL _ (par 0)) $$ [Hx Hw H2]
  · isplitl [Hx]; · iexact Hx
    isplitl [Hw]; · iexact Hw
    iexact H2
  iintro ⟨Hx, Hw, H2⟩
  iapply Hk
  isplitl [Hx Hw]
  · isplitl [Hx]; · iexact Hx
    iexact Hw
  isplitl [H1]; · iexact H1
  iexact H2

theorem acc_next {h : ℕ} (hh : h + 1 < 15) {Q : PUnit → sProp 𝕄} :
    iprop(ins X Wt c ∗ slotH X Wt c true (h + 1) ∗ slotH X Wt c false (h + 1))
      ⊢ iprop((ins X Wt c ∗ own c (slotM commR (par (h + 1))) fullShare (acc X Wt true (h + 1) c) ∗ own c (slotM commL (par (h + 1))) fullShare (acc X Wt false (h + 1) c) -∗ Q ⟨⟩)
          -∗ run c (accNext (wordR c) hw3 (h + 1)) Q) := by
  have e : accNext (F := F) (wordR c) hw3 (h + 1)
      = (loadXR (wordR c) hw3 (h + 1) >>= fun x => loadW0 >>= fun w => loadSlot commR (par (h + 1)) >>= fun a => loadSlot commR (par (h + 1)) >>= fun _ =>
          storeSlot commR (Memref.isWhole_whole _) (par (h + 1)) (k0_pay5 x w a))
        >>= fun _ => (loadXL (wordR c) hw3 (h + 1) >>= fun x => loadW1 >>= fun w => loadSlot commL (par (h + 1)) >>= fun a => loadSlot commL (par (h + 1)) >>= fun _ =>
          storeSlot commL (Memref.isWhole_whole _) (par (h + 1)) (k0_pay5 x w a)) := by
    simp only [accNext, bind_assoc]
  rw [e, slotH_succ, slotH_succ]
  unfold ins
  iintro ⟨⟨Hx, Hw⟩, H1, H2⟩ Hk
  iapply (run_bind c)
  iapply (next_half c (load_xR X c hw3 hh) (load_w0 Wt c) commR _ (par (h + 1)) (A := acc X Wt true h (peer false c))) $$ [Hx Hw H1]
  · isplitl [Hx]; · iexact Hx
    isplitl [Hw]; · iexact Hw
    iexact H1
  iintro ⟨Hx, Hw, H1⟩
  iapply (next_half c (load_xL X c hw3 hh) (load_w1 Wt c) commL _ (par (h + 1)) (A := acc X Wt false h (peer true c))) $$ [Hx Hw H2]
  · isplitl [Hx]; · iexact Hx
    isplitl [Hw]; · iexact Hw
    iexact H2
  iintro ⟨Hx, Hw, H2⟩
  iapply Hk
  isplitl [Hx Hw]
  · isplitl [Hx]; · iexact Hx
    iexact Hw
  isplitl [H1]; · iexact H1
  iexact H2

/-! ### What is owed, hop by hop -/

/-- `h` as one of the fourteen. -/
def fou (h : ℕ) : Fin 14 := ⟨h % 14, Nat.mod_lt _ (by decide)⟩

def agDues : ℕ → ℕ → List Due
  | 0, _ => []
  | n + 1, t => .ag true (fif t) :: .ag false (fif t) :: agDues n (t + 1)
def amDues : ℕ → ℕ → List Due
  | 0, _ => agDues 15 0
  | n + 1, i => .am (fif i) :: amDues n (i + 1)
def rsDues : ℕ → ℕ → List Due
  | 0, _ => .rcv true 14 :: .rcv false 14 :: amDues 15 0
  | n + 1, h => .rcv true (fif h) :: .rcv false (fif h) :: .crd true (fou h) :: .crd false (fou h) :: rsDues n (h + 1)

theorem fif_eq {h : ℕ} (hh : h < 15) : fif h = ⟨h, hh⟩ := Fin.ext (Nat.mod_eq_of_lt hh)
theorem fou_eq {h : ℕ} (hh : h < 14) : fou h = ⟨h, hh⟩ := Fin.ext (Nat.mod_eq_of_lt hh)

theorem ag_lvl : ∀ (n t : ℕ), t + n ≤ 15 → ∀ j ∈ agDues n t, 200 + t ≤ lvl j
  | 0, _, _, j, hj => absurd hj List.not_mem_nil
  | n + 1, t, h, j, hj => by
    have ht : t < 15 := by omega
    simp only [agDues, fif_eq ht, List.mem_cons] at hj
    rcases hj with rfl | rfl | hj
    · exact le_refl _
    · exact le_refl _
    · exact le_trans (by omega) (ag_lvl n (t + 1) (by omega) j hj)

theorem am_lvl : ∀ (n i : ℕ), ∀ j ∈ amDues n i, 100 ≤ lvl j
  | 0, _, j, hj => le_trans (by omega) (ag_lvl 15 0 (by omega) j hj)
  | n + 1, i, j, hj => by
    simp only [amDues, List.mem_cons] at hj
    rcases hj with rfl | hj
    · exact le_refl _
    · exact am_lvl n (i + 1) j hj

theorem rs_lvl : ∀ (n h : ℕ), h + n = 14 → ∀ j ∈ rsDues n h, 10 + 4 * h ≤ lvl j
  | 0, h, e, j, hj => by
    obtain rfl : h = 14 := by omega
    simp only [rsDues, List.mem_cons] at hj
    rcases hj with rfl | rfl | hj
    · exact le_refl _
    · exact le_refl _
    · exact le_trans (by omega) (am_lvl 15 0 j hj)
  | n + 1, h, e, j, hj => by
    have h1 : h < 15 := by omega
    have h2 : h < 14 := by omega
    simp only [rsDues, fif_eq h1, fou_eq h2, List.mem_cons] at hj
    rcases hj with rfl | rfl | rfl | rfl | hj
    · exact le_refl _
    · exact le_refl _
    · show 10 + 4 * h ≤ 12 + 4 * h; omega
    · show 10 + 4 * h ≤ 12 + 4 * h; omega
    · exact le_trans (by omega) (rs_lvl n (h + 1) (by omega) j hj)

/-! ### The rooms for the maxima, on their way round -/

/-- The room for this device's maximum on the device `j + 1` places before it. -/
def gotRoom (j : Fin 15) : sProp 𝕄 := rowRoom (ring (pos (prv c) - Fin.ofNat 16 j.val)) c
def got (h : ℕ) : sProp 𝕄 := bigSep (Ring.rangeSet 15 0 h) (gotRoom (F := F) c)

theorem rows_take {h : ℕ} (hh : h < 15) : iprop(rows (F := F) (prv c) h ∗ got c h) ⊢ iprop(rows c (h + 1) ∗ got c (h + 1)) := by
  have e1 : rows (F := F) (prv c) h = iprop(gotRoom c ⟨h, hh⟩ ∗ rows c (h + 1)) := by
    unfold rows gotRoom
    rw [Ring.bigSep_rangeSet_head (NB := 15) hh hh]
    have a : ring (pos (prv c) - Fin.ofNat 16 h + Fin.ofNat 16 (h + 1)) = c := by
      have : ∀ (c : Dev nD) (h : Fin 15), ring (pos (prv c) - Fin.ofNat 16 h.val + Fin.ofNat 16 (h.val + 1)) = c := by decide +kernel
      exact this c ⟨h, hh⟩
    have b : pos (prv c) - Fin.ofNat 16 h = pos c - Fin.ofNat 16 (h + 1) := by
      have : ∀ (c : Dev nD) (h : Fin 15), pos (prv c) - Fin.ofNat 16 h.val = pos c - Fin.ofNat 16 (h.val + 1) := by decide +kernel
      exact this c ⟨h, hh⟩
    dsimp only
    rw [a, b]
  have e2 : got (F := F) c (h + 1) = iprop(gotRoom c ⟨h, hh⟩ ∗ got c h) :=
    Ring.bigSep_rangeSet_last (NB := 15) (Nat.succ_pos h) hh
  rw [e1, e2]
  iintro ⟨⟨H1, H2⟩, H3⟩
  isplitl [H2]; · iexact H2
  isplitl [H1]; · iexact H1
  iexact H3

/-! ### A hop -/

/-- One ring, ready to send hop `h`; after it. -/
def ready (S : Bool) (h : ℕ) : sProp 𝕄 :=
  iprop(own c (slotM (cm S) (par h)) fullShare (acc X Wt S h c) ∗ room S (peer S c) h ∗ reached ER (crdC S c) h ∗ poss c S h ∗ toks c S h)
def swept (S : Bool) (h : ℕ) : sProp 𝕄 :=
  iprop(own c (slotM (cm S) (par h)) fullShare (acc X Wt S h c) ∗ slotH X Wt c S (h + 1) ∗ reached ER (crdC S (peer (!S) c)) h ∗ poss c S (h + 1) ∗ toks c S (h + 1))

theorem hop_core {h : ℕ} (hh : h < 15) {l : List Due} (hl : ∀ j ∈ l, 10 + 4 * h < lvl j) {k : PUnit → KProg F PUnit} {Q : PUnit → sProp 𝕄} :
    iprop(known X Wt K ∗ ready X Wt c true h ∗ ready X Wt c false h ∗ rows c h ∗ got c h ∗ owing c (.rcv true ⟨h, hh⟩ :: .rcv false ⟨h, hh⟩ :: l))
      ⊢ iprop((swept X Wt c true h ∗ swept X Wt c false h ∗ rows c (h + 1) ∗ got c (h + 1) ∗ owing c l -∗ run c (k ⟨⟩) Q)
          -∗ run c (hopStart (peer false c) (peer true c) h >>= fun _ => hopWait h >>= k) Q) := by
  have e1 : hopWait (F := F) h = ((Prog.lift (.waitDma2 (sem2 cc0_scratch5 (par h)) (slotM commR (par (h + 1))) (slotM commR (par h)) (slotM_words (Memref.isWhole_whole _) _) (slotM_words (Memref.isWhole_whole _) _)) : KProg F PUnit)
        >>= fun _ => Prog.lift (.waitDma2 (sem2 cc0_scratch7 (par (h + 1))) (slotM commR (par h)) (slotM commR (par (h + 1))) (slotM_words (Memref.isWhole_whole _) _) (slotM_words (Memref.isWhole_whole _) _)))
      >>= fun _ => ((Prog.lift (.waitDma2 (sem2 cc0_scratch6 (par h)) (slotM commL (par (h + 1))) (slotM commL (par h)) (slotM_words (Memref.isWhole_whole _) _) (slotM_words (Memref.isWhole_whole _) _)) : KProg F PUnit)
        >>= fun _ => Prog.lift (.waitDma2 (sem2 cc0_scratch8 (par (h + 1))) (slotM commL (par h)) (slotM commL (par (h + 1))) (slotM_words (Memref.isWhole_whole _) _) (slotM_words (Memref.isWhole_whole _) _))) := by
    simp only [hopWait, bind_assoc]
  rw [e1]
  unfold ready swept hopStart
  iintro ⟨#HK, ⟨A1, A2, A3, A4, A5⟩, ⟨B1, B2, B3, B4, B5⟩, Hrow, Hgot, HO⟩ Hk
  iapply (run_bind c)
  iapply (run_bind c)
  iapply (send_hop X Wt K c true hh) $$ [A1 A2 A3 A4 A5 Hrow HO]
  · isplitr; · iexact HK
    isplitl [A1]; · iexact A1
    isplitl [A2]; · iexact A2
    isplitl [Hrow]; · rw [rowsIf_true]; iexact Hrow
    isplitl [A3]; · iexact A3
    isplitl [A4]; · iexact A4
    isplitl [A5]; · iexact A5
    iexact HO
  iintro ⟨A1, A2, A4, A5, HO⟩
  iapply (send_hop X Wt K c false hh) $$ [B1 B2 B3 B4 B5 HO]
  · isplitr; · iexact HK
    isplitl [B1]; · iexact B1
    isplitl [B2]; · iexact B2
    isplitr; · rw [rowsIf_false]; iempintro
    isplitl [B3]; · iexact B3
    isplitl [B4]; · iexact B4
    isplitl [B5]; · iexact B5
    iexact HO
  iintro ⟨B1, B2, B4, B5, HO⟩
  iapply (run_bind c)
  iapply (run_bind c)
  iapply (wait_hop X Wt K c true hh hl) $$ [A1 A2 A4 HO]
  · isplitr; · iexact HK
    isplitl [A1]; · iexact A1
    isplitl [A2]; · iexact A2
    isplitl [A4]; · iexact A4
    iexact HO
  iintro ⟨A1, A2, A3, Hrow, A4, HO⟩
  iapply (wait_hop X Wt K c false hh hl) $$ [B1 B2 B4 HO]
  · isplitr; · iexact HK
    isplitl [B1]; · iexact B1
    isplitl [B2]; · iexact B2
    isplitl [B4]; · iexact B4
    iexact HO
  iintro ⟨B1, B2, B3, -, B4, HO⟩
  ihave Hrow := (Entails.of_eq (rowsIf_true (F := F) (peer (!true) c) h)) $$ Hrow
  ihave Hr := (rows_take (F := F) c hh) $$ [Hrow Hgot]
  · isplitl [Hrow]; · iexact Hrow
    iexact Hgot
  icases Hr with ⟨Hrow, Hgot⟩
  iapply Hk
  isplitl [A1 A2 A3 A4 A5]
  · isplitl [A1]; · iexact A1
    isplitl [A2]; · iexact A2
    isplitl [A3]; · iexact A3
    isplitl [A4]; · iexact A4
    iexact A5
  isplitl [B1 B2 B3 B4 B5]
  · isplitl [B1]; · iexact B1
    isplitl [B2]; · iexact B2
    isplitl [B3]; · iexact B3
    isplitl [B4]; · iexact B4
    iexact B5
  isplitl [Hrow]; · iexact Hrow
  isplitl [Hgot]; · iexact Hgot
  iexact HO

end rules

end Cert.KernelIdeal.Proof

end
-- ==== Proof.Reduce.lean ====
module

public import proofs.«01_k».proof.Proof.Scatter

/-! The whole reduce-scatter at any device, and the chunk it leaves. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x256 .bf16) (Wt : Dev nD → Vec F S256x8192 .bf16) (K : GSem nD τ sig → ℕ) (c : Dev nD)

/-- One ring between hop `k` and hop `k + 1`, all but what the credit takes; and what it takes. -/
def between (S : Bool) (k : ℕ) : sProp 𝕄 := iprop(slotH X Wt c S (k + 1) ∗ poss c S (k + 1) ∗ toks c S (k + 1) ∗ giveT c S (k + 1))
def credits (S : Bool) (k : ℕ) : sProp 𝕄 := iprop(at_ (crdC S c) k ∗ takeT c S k)

/-- A device between hop `k` and hop `k + 1`. -/
def inv (k : ℕ) : sProp 𝕄 :=
  iprop(known X Wt K ∗ ins X Wt c ∗ owing c (rsDues (13 - k) (k + 1)) ∗ (rows c (k + 1) ∗ got c (k + 1)) ∗ (between X Wt c true k ∗ credits c true k)
    ∗ (between X Wt c false k ∗ credits c false k))

theorem give_credits {k : ℕ} (hk : k < 14) {l : List Due} {Q : PUnit → sProp 𝕄} :
    iprop(known X Wt K ∗ owing c (.crd true ⟨k, hk⟩ :: .crd false ⟨k, hk⟩ :: l) ∗ (swept X Wt c true k ∗ giveT c true k) ∗ (swept X Wt c false k ∗ giveT c false k))
      ⊢ iprop((owing c l ∗ between X Wt c true k ∗ between X Wt c false k -∗ Q ⟨⟩) -∗ run c (giveCredits (peer false c) (peer true c)) Q) := by
  unfold swept between giveCredits
  iintro ⟨#HK, HO, ⟨⟨A1, A2, A3, A4, A5⟩, A6⟩, ⟨⟨B1, B2, B3, B4, B5⟩, B6⟩⟩ Hk
  iapply (run_bind c)
  iapply (give_credit X Wt K c true hk (l := .crd false ⟨k, hk⟩ :: l)) $$ [HO A1 A3 A4 A6]
  · isplitr; · iexact HK
    isplitl [HO]; · iexact HO
    isplitl [A6]; · iexact A6
    isplitl [A1]; · iexact A1
    isplitl [A3]; · iexact A3
    iexact A4
  iintro ⟨HO, A6, A4⟩
  iapply (give_credit X Wt K c false hk (l := l)) $$ [HO B1 B3 B4 B6]
  · isplitr; · iexact HK
    isplitl [HO]; · iexact HO
    isplitl [B6]; · iexact B6
    isplitl [B1]; · iexact B1
    isplitl [B3]; · iexact B3
    iexact B4
  iintro ⟨HO, B6, B4⟩
  iapply Hk
  isplitl [HO]; · iexact HO
  isplitl [A2 A4 A5 A6]
  · isplitl [A2]; · iexact A2
    isplitl [A4]; · iexact A4
    isplitl [A5]; · iexact A5
    iexact A6
  isplitl [B2]; · iexact B2
  isplitl [B4]; · iexact B4
  isplitl [B5]; · iexact B5
  iexact B6

theorem take_credits {k : ℕ} (hk : k < 14) {l : List Due} (hl : ∀ j ∈ l, 12 + 4 * k < lvl j) {Q : PUnit → sProp 𝕄} :
    iprop(known X Wt K ∗ owing c l ∗ credits c true k ∗ credits c false k)
      ⊢ iprop((owing c l ∗ (credits c true (k + 1) ∗ room true (peer true c) (k + 1)) ∗ (credits c false (k + 1) ∗ room false (peer false c) (k + 1)) -∗ Q ⟨⟩)
          -∗ run c takeCredits Q) := by
  unfold credits takeCredits
  iintro ⟨#HK, HO, ⟨A1, A2⟩, ⟨B1, B2⟩⟩ Hk
  iapply (run_bind c)
  iapply (take_credit X Wt K c true hk hl) $$ [HO A1 A2]
  · isplitr; · iexact HK
    isplitl [HO]; · iexact HO
    isplitl [A2]; · iexact A2
    iexact A1
  iintro ⟨HO, A2, A1, A3⟩
  iapply (take_credit X Wt K c false hk hl) $$ [HO B1 B2]
  · isplitr; · iexact HK
    isplitl [HO]; · iexact HO
    isplitl [B2]; · iexact B2
    iexact B1
  iintro ⟨HO, B2, B1, B3⟩
  iapply Hk
  isplitl [HO]; · iexact HO
  isplitl [A1 A2 A3]
  · isplitl [A1 A2]
    · isplitl [A1]; · iexact A1
      iexact A2
    iexact A3
  isplitl [B1 B2]
  · isplitl [B1]; · iexact B1
    iexact B2
  iexact B3

variable (hw3 : k0_chk3 (wordR c))

/-- What a device has on one ring before hop 0. -/
def ring0 (S : Bool) : sProp 𝕄 := iprop(ownAny c (slotM (cm S) (par 0)) ∗ room S (peer S c) 0 ∗ poss c S 0 ∗ toks c S 0 ∗ giveT c S 0 ∗ credits c S 0)

theorem credits_split (S : Bool) (k : ℕ) : credits (F := F) c S k ⊢ iprop(reached ER (crdC S c) k ∗ credits c S k) := by
  unfold credits at_
  iintro ⟨⟨H1, #H2⟩, H3⟩
  isplitr; · iexact H2
  isplitl [H1]
  · isplitl [H1]; · iexact H1
    iexact H2
  iexact H3

/-- Hop 0. -/
theorem hop_zero {k : PUnit → KProg F PUnit} {Q : PUnit → sProp 𝕄} :
    iprop(known X Wt K ∗ ins X Wt c ∗ owing c (rsDues 14 0) ∗ (rows c 0 ∗ got c 0) ∗ ring0 c true ∗ ring0 c false)
      ⊢ iprop((inv X Wt K c 0 -∗ run c (k ⟨⟩) Q)
          -∗ run c (accFirst (wordR c) hw3 >>= fun _ => hopStart (peer false c) (peer true c) 0 >>= fun _ => hopWait 0 >>= fun _ => giveCredits (peer false c) (peer true c) >>= k) Q) := by
  unfold ring0 inv
  rw [show rsDues 14 0 = .rcv true ⟨0, by decide⟩ :: .rcv false ⟨0, by decide⟩ :: .crd true ⟨0, by decide⟩ :: .crd false ⟨0, by decide⟩ :: rsDues (13 - 0) (0 + 1) from rfl]
  iintro ⟨#HK, Hin, HO, ⟨Hrow, Hgot⟩, ⟨A1, A2, A3, A4, A5, A6⟩, ⟨B1, B2, B3, B4, B5, B6⟩⟩ Hk
  ihave A6 := (credits_split (F := F) c true 0) $$ A6
  icases A6 with ⟨A7, A6⟩
  ihave B6 := (credits_split (F := F) c false 0) $$ B6
  icases B6 with ⟨B7, B6⟩
  iapply (run_bind c)
  iapply (acc_first X Wt c hw3) $$ [Hin A1 B1]
  · isplitl [Hin]; · iexact Hin
    isplitl [A1]; · iexact A1
    iexact B1
  iintro ⟨Hin, A1, B1⟩
  iapply (hop_core X Wt K c (h := 0) (by decide) (l := .crd true ⟨0, by decide⟩ :: .crd false ⟨0, by decide⟩ :: rsDues (13 - 0) (0 + 1)) (by
    intro j hj
    simp only [List.mem_cons] at hj
    rcases hj with rfl | rfl | hj
    · decide
    · decide
    · exact lt_of_lt_of_le (by omega) (rs_lvl _ _ (by omega) j hj))) $$ [A1 A2 A3 A4 A7 B1 B2 B3 B4 B7 Hrow Hgot HO]
  · unfold ready
    isplitr; · iexact HK
    isplitl [A1 A2 A3 A4 A7]
    · isplitl [A1]; · iexact A1
      isplitl [A2]; · iexact A2
      isplitl [A7]; · iexact A7
      isplitl [A3]; · iexact A3
      iexact A4
    isplitl [B1 B2 B3 B4 B7]
    · isplitl [B1]; · iexact B1
      isplitl [B2]; · iexact B2
      isplitl [B7]; · iexact B7
      isplitl [B3]; · iexact B3
      iexact B4
    isplitl [Hrow]; · iexact Hrow
    isplitl [Hgot]; · iexact Hgot
    iexact HO
  iintro ⟨A1, B1, Hrow, Hgot, HO⟩
  iapply (run_bind c)
  iapply (give_credits X Wt K c (k := 0) (by decide)) $$ [HO A1 A5 B1 B5]
  · isplitr; · iexact HK
    isplitl [HO]; · iexact HO
    isplitl [A1 A5]
    · isplitl [A1]; · iexact A1
      iexact A5
    isplitl [B1]; · iexact B1
    iexact B5
  iintro ⟨HO, A1, B1⟩
  iapply Hk
  isplitr; · iexact HK
  isplitl [Hin]; · iexact Hin
  isplitl [HO]; · iexact HO
  isplitl [Hrow Hgot]
  · isplitl [Hrow]; · iexact Hrow
    iexact Hgot
  isplitl [A1 A6]
  · isplitl [A1]; · iexact A1
    iexact A6
  isplitl [B1]; · iexact B1
  iexact B6

/-- The partial sums of a later hop, its credits and its copies. -/
theorem hop_next {n : ℕ} (hn : n + 1 < 15) {l : List Due} (hl : ∀ j ∈ l, 10 + 4 * (n + 1) < lvl j) {k : PUnit → KProg F PUnit} {Q : PUnit → sProp 𝕄} :
    iprop(known X Wt K ∗ ins X Wt c ∗ owing c (.rcv true ⟨n + 1, hn⟩ :: .rcv false ⟨n + 1, hn⟩ :: l) ∗ (rows c (n + 1) ∗ got c (n + 1))
        ∗ (between X Wt c true n ∗ credits c true n) ∗ (between X Wt c false n ∗ credits c false n))
      ⊢ iprop((ins X Wt c ∗ owing c l ∗ (rows c (n + 2) ∗ got c (n + 2))
            ∗ ((swept X Wt c true (n + 1) ∗ giveT c true (n + 1)) ∗ credits c true (n + 1)) ∗ ((swept X Wt c false (n + 1) ∗ giveT c false (n + 1)) ∗ credits c false (n + 1)) -∗ run c (k ⟨⟩) Q)
          -∗ run c (accNext (wordR c) hw3 (n + 1) >>= fun _ => takeCredits >>= fun _ => hopStart (peer false c) (peer true c) (n + 1) >>= fun _ => hopWait (n + 1) >>= k) Q) := by
  unfold between
  iintro ⟨#HK, Hin, HO, ⟨Hrow, Hgot⟩, ⟨⟨A1, A3, A4, A5⟩, A6⟩, ⟨⟨B1, B3, B4, B5⟩, B6⟩⟩ Hk
  iapply (run_bind c)
  iapply (acc_next X Wt c hw3 hn) $$ [Hin A1 B1]
  · isplitl [Hin]; · iexact Hin
    isplitl [A1]; · iexact A1
    iexact B1
  iintro ⟨Hin, A1, B1⟩
  iapply (run_bind c)
  iapply (take_credits X Wt K c (k := n) (by omega) (l := .rcv true ⟨n + 1, hn⟩ :: .rcv false ⟨n + 1, hn⟩ :: l) (by
    intro j hj
    simp only [List.mem_cons] at hj
    rcases hj with rfl | rfl | hj
    · show 12 + 4 * n < 10 + 4 * (n + 1); omega
    · show 12 + 4 * n < 10 + 4 * (n + 1); omega
    · exact lt_trans (by omega) (hl j hj))) $$ [HO A6 B6]
  · isplitr; · iexact HK
    isplitl [HO]; · iexact HO
    isplitl [A6]; · iexact A6
    iexact B6
  iintro ⟨HO, ⟨A6, A2⟩, ⟨B6, B2⟩⟩
  ihave A6 := (credits_split (F := F) c true (n + 1)) $$ A6
  icases A6 with ⟨A7, A6⟩
  ihave B6 := (credits_split (F := F) c false (n + 1)) $$ B6
  icases B6 with ⟨B7, B6⟩
  iapply (hop_core X Wt K c (h := n + 1) hn (l := l) hl) $$ [A1 A2 A3 A4 A7 B1 B2 B3 B4 B7 Hrow Hgot HO]
  · unfold ready
    isplitr; · iexact HK
    isplitl [A1 A2 A3 A4 A7]
    · isplitl [A1]; · iexact A1
      isplitl [A2]; · iexact A2
      isplitl [A7]; · iexact A7
      isplitl [A3]; · iexact A3
      iexact A4
    isplitl [B1 B2 B3 B4 B7]
    · isplitl [B1]; · iexact B1
      isplitl [B2]; · iexact B2
      isplitl [B7]; · iexact B7
      isplitl [B3]; · iexact B3
      iexact B4
    isplitl [Hrow]; · iexact Hrow
    isplitl [Hgot]; · iexact Hgot
    iexact HO
  iintro ⟨A1, B1, Hrow, Hgot, HO⟩
  iapply Hk
  isplitl [Hin]; · iexact Hin
  isplitl [HO]; · iexact HO
  isplitl [Hrow Hgot]
  · isplitl [Hrow]; · iexact Hrow
    iexact Hgot
  isplitl [A1 A5 A6]
  · isplitl [A1 A5]
    · isplitl [A1]; · iexact A1
      iexact A5
    iexact A6
  isplitl [B1 B5]
  · isplitl [B1]; · iexact B1
    iexact B5
  iexact B6

/-- A hop of the loop. -/
theorem hop_mid {n : ℕ} (hn : n < 13) : inv X Wt K c n ⊢ run c (hopMid (wordR c) hw3 (peer false c) (peer true c) (n + 1)) (fun _ => inv X Wt K c (n + 1)) := by
  have e : rsDues (13 - n) (n + 1) = .rcv true ⟨n + 1, by omega⟩ :: .rcv false ⟨n + 1, by omega⟩ :: .crd true ⟨n + 1, by omega⟩ :: .crd false ⟨n + 1, by omega⟩
      :: rsDues (13 - (n + 1)) (n + 1 + 1) := by
    rw [show 13 - n = 13 - (n + 1) + 1 by omega, rsDues, fif_eq (show n + 1 < 15 by omega), fou_eq (show n + 1 < 14 by omega)]
  unfold inv hopMid
  rw [e]
  iintro ⟨#HK, H⟩
  iapply (hop_next X Wt K c hw3 (n := n) (by omega) (l := .crd true ⟨n + 1, by omega⟩ :: .crd false ⟨n + 1, by omega⟩ :: rsDues (13 - (n + 1)) (n + 1 + 1)) (by
    intro j hj
    simp only [List.mem_cons] at hj
    rcases hj with rfl | rfl | hj
    · show 10 + 4 * (n + 1) < 12 + 4 * (n + 1); omega
    · show 10 + 4 * (n + 1) < 12 + 4 * (n + 1); omega
    · exact lt_of_lt_of_le (by omega) (rs_lvl _ _ (by omega) j hj))) $$ [H]
  · isplitr; · iexact HK
    iexact H
  iintro ⟨Hin, HO, Hr, ⟨A1, A6⟩, ⟨B1, B6⟩⟩
  iapply (give_credits X Wt K c (k := n + 1) (by omega)) $$ [HO A1 B1]
  · isplitr; · iexact HK
    isplitl [HO]; · iexact HO
    isplitl [A1]; · iexact A1
    iexact B1
  iintro ⟨HO, A1, B1⟩
  isplitr; · iexact HK
  isplitl [Hin]; · iexact Hin
  isplitl [HO]; · iexact HO
  isplitl [Hr]; · iexact Hr
  isplitl [A1 A6]
  · isplitl [A1]; · iexact A1
    iexact A6
  isplitl [B1]; · iexact B1
  iexact B6

/-- One ring after the last hop. -/
def ringN (S : Bool) : sProp 𝕄 :=
  iprop(own c (slotM (cm S) (par 14)) fullShare (acc X Wt S 14 c) ∗ slotH X Wt c S 15 ∗ poss c S 15 ∗ at_ (crdC S c) 14)

theorem reduce_scatter {Q : PUnit → sProp 𝕄} :
    iprop(known X Wt K ∗ ins X Wt c ∗ owing c (rsDues 14 0) ∗ (rows c 0 ∗ got c 0) ∗ ring0 c true ∗ ring0 c false)
      ⊢ iprop((ins X Wt c ∗ owing c (amDues 15 0) ∗ got c 15 ∗ ringN X Wt c true ∗ ringN X Wt c false -∗ Q ⟨⟩)
          -∗ run c (reduceScatter (wordR c) hw3 (peer false c) (peer true c)) Q) := by
  unfold reduceScatter
  iintro H Hk
  iapply (hop_zero X Wt K c hw3) $$ H
  iintro H
  iapply (run_bind c)
  have hloop := run_loop c (f := hopMid (wordR c) hw3 (peer false c) (peer true c)) (fun j => inv X Wt K c (j - 1)) 13 1 (fun j h1 h2 => by
    obtain ⟨n, rfl⟩ : ∃ n, j = n + 1 := ⟨j - 1, by omega⟩
    exact hop_mid X Wt K c hw3 (by omega))
  ihave H := hloop $$ H
  iapply (wp_wand _ _ _) $$ H
  iintro %_ H
  rw [show 1 + 13 - 1 = 13 from rfl, ← bind_pure (hopWait (F := F) 14)]
  unfold inv
  icases H with ⟨#HK, H⟩
  iapply (hop_next X Wt K c hw3 (n := 13) (by decide) (l := amDues 15 0) (fun j hj => lt_of_lt_of_le (by omega) (am_lvl _ _ j hj))) $$ [H]
  · isplitr; · iexact HK
    iexact H
  unfold swept credits ringN
  iintro ⟨Hin, HO, ⟨-, Hgot⟩, ⟨⟨⟨A1, A2, -, A3, -⟩, -⟩, ⟨A6, -⟩⟩, ⟨⟨⟨B1, B2, -, B3, -⟩, -⟩, ⟨B6, -⟩⟩⟩
  iapply (run_pure c)
  iapply Hk
  isplitl [Hin]; · iexact Hin
  isplitl [HO]; · iexact HO
  isplitl [Hgot]; · iexact Hgot
  isplitl [A1 A2 A3 A6]
  · isplitl [A1]; · iexact A1
    isplitl [A2]; · iexact A2
    isplitl [A3]; · iexact A3
    iexact A6
  isplitl [B1]; · iexact B1
  isplitl [B2]; · iexact B2
  isplitl [B3]; · iexact B3
  iexact B6

end Cert.KernelIdeal.Proof

end
-- ==== Proof.Max.lean ====
module

public import proofs.«01_k».proof.Proof.Reduce
public import Idealize.ShloMosaic.Lib.MemrefSat

/-! The chunk, its row of maxima, and the exchange of the rows. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### A loop that goes through a family -/

/-- A loop of fifteen that turns one member of a family a turn into what it is after. -/
theorem run_sweep (c : Dev nD) {f : ℕ → KProg F PUnit} (J : ℕ → sProp 𝕄) (Φ Ψ : Fin 15 → sProp 𝕄)
    (h : ∀ (j : ℕ) (hj : j < 15), iprop(J j ∗ Φ ⟨j, hj⟩) ⊢ run c (f j) (fun _ => iprop(J (j + 1) ∗ Ψ ⟨j, hj⟩))) :
    iprop(J 0 ∗ bigSep Finset.univ Φ) ⊢ run c (loop f 15 0) (fun _ => iprop(J 15 ∗ bigSep Finset.univ Ψ)) := by
  have hl := run_loop c (f := f) (fun j => iprop(J j ∗ bigSep (Ring.rangeSet 15 j 15) Φ ∗ bigSep (Ring.rangeSet 15 0 j) Ψ)) 15 0 (fun j _ hj => by
    have hj : j < 15 := by omega
    have e : bigSep (Ring.rangeSet 15 0 (j + 1)) Ψ = iprop(Ψ ⟨j, hj⟩ ∗ bigSep (Ring.rangeSet 15 0 j) Ψ) := Ring.bigSep_rangeSet_last (NB := 15) (Nat.succ_pos j) hj
    rw [Ring.bigSep_rangeSet_head (NB := 15) hj hj, e]
    iintro ⟨HJ, ⟨Hh, Ht⟩, Hd⟩
    ihave H := (h j hj) $$ [HJ Hh]
    · isplitl [HJ]; · iexact HJ
      iexact Hh
    iapply (wp_wand _ _ _) $$ H
    iintro %_ ⟨HJ, Hh⟩
    isplitl [HJ]; · iexact HJ
    isplitl [Ht]; · iexact Ht
    isplitl [Hh]; · iexact Hh
    iexact Hd)
  refine BIBase.Entails.trans ?_ (hl.trans (run_mono c fun _ => ?_))
  · rw [Ring.rangeSet_univ, Ring.bigSep_rangeSet_empty (NB := 15) (le_refl 0)]
    iintro ⟨HJ, H⟩
    isplitl [HJ]; · iexact HJ
    isplitl [H]; · iexact H
    iempintro
  · rw [show 0 + 15 = 15 from rfl, Ring.rangeSet_univ]
    iintro ⟨HJ, -, H⟩
    isplitl [HJ]; · iexact HJ
    iexact H

theorem two_families {I : Type} [Fintype I] (Φ Ψ : I → sProp 𝕄) :
    bigSep Finset.univ (fun j => iprop(Φ j ∗ Ψ j)) ⊢ iprop(bigSep Finset.univ Φ ∗ bigSep Finset.univ Ψ) := Entails.of_eq (bigSep_sep _ _ _)

/-! ### The other devices, in three orders -/

def aftE (c : Dev nD) : Fin 15 ↪ Dev nD := ⟨aft c, fun _ _ h => aft_inj h⟩
def onE (c : Dev nD) : Fin 15 ↪ Dev nD := ⟨fun j => ring (pos c - Fin.ofNat 16 0 + Fin.ofNat 16 (j.val + 1)), by revert c; unfold Function.Injective; decide +kernel⟩
def backE (c : Dev nD) : Fin 15 ↪ Dev nD := ⟨fun j => ring (pos (prv c) - Fin.ofNat 16 j.val), by revert c; unfold Function.Injective; decide +kernel⟩
theorem onE_univ (c : Dev nD) : Finset.univ.map (onE c) = Finset.univ.map (aftE c) := by revert c; decide +kernel
theorem backE_univ (c : Dev nD) : Finset.univ.map (backE c) = Finset.univ.map (aftE c) := by revert c; decide +kernel
theorem not_mem_aftE (c : Dev nD) : c ∉ Finset.univ.map (aftE c) := by revert c; decide +kernel
theorem insert_aftE (c : Dev nD) : insert c (Finset.univ.map (aftE c)) = Finset.univ := by revert c; decide +kernel

/-- A family over the devices: this device's member, and the others'. -/
theorem all_devices (c : Dev nD) (Φ : Dev nD → sProp 𝕄) : bigSep Finset.univ Φ = iprop(Φ c ∗ bigSep Finset.univ (fun j : Fin 15 => Φ (aft c j))) := by
  rw [← insert_aftE c, bigSep_insert (not_mem_aftE c), bigSep_map]; rfl

theorem rows_zero (c : Dev nD) : bigSep Finset.univ (fun j : Fin 15 => rowRoom (F := F) c (aft c j)) = rows c 0 := by
  unfold rows
  rw [Ring.rangeSet_univ]
  have e : ring (pos c - Fin.ofNat 16 0) = c := by
    have : ∀ c : Dev nD, ring (pos c - Fin.ofNat 16 0) = c := by decide +kernel
    exact this c
  rw [e]
  have h1 := bigSep_map (s := Finset.univ) (aftE c) (Φ := fun w => rowRoom (F := F) c w)
  have h2 := bigSep_map (s := Finset.univ) (onE c) (Φ := fun w => rowRoom (F := F) c w)
  exact h1.symm.trans ((congrArg (fun s => bigSep s fun w => rowRoom (F := F) c w) (onE_univ c).symm).trans h2)

theorem got_all (c : Dev nD) : got (F := F) c 15 = bigSep Finset.univ (fun j : Fin 15 => rowRoom (F := F) (aft c j) c) := by
  unfold got gotRoom
  rw [Ring.rangeSet_univ]
  have h1 := bigSep_map (s := Finset.univ) (aftE c) (Φ := fun w => rowRoom (F := F) w c)
  have h2 := bigSep_map (s := Finset.univ) (backE c) (Φ := fun w => rowRoom (F := F) w c)
  exact h2.symm.trans ((congrArg (fun s => bigSep s fun w => rowRoom (F := F) w c) (backE_univ c)).trans h1)

section rules
variable (X : Dev nD → Vec F S4096x256 .bf16) (Wt : Dev nD → Vec F S256x8192 .bf16) (K : GSem nD τ sig → ℕ) (c : Dev nD) (hw3 : k0_chk3 (wordR c))

/-! ### The chunk -/

theorem emb_val {s : Shape} {off size : Fin s.rank → ℕ} (i : ∀ a, off a + size a ≤ s.size a) (x : (Rect.unit off size i).shape.Idx) (a : Fin s.rank) :
    ((Rect.unit off size i).emb x a).val = off a + (x a).val := by rw [Rect.emb_apply]; show off a + 1 * _ = _; rw [Nat.one_mul]

theorem mem_unit {s : Shape} {off size : Fin s.rank → ℕ} (i : ∀ a, off a + size a ≤ s.size a) {y : s.Idx}
    (h : y ∈ (Rect.unit off size i).set) (a : Fin s.rank) : off a ≤ (y a).val ∧ (y a).val < off a + size a := by
  rw [← Rect.map_emb_univ] at h
  obtain ⟨x, -, rfl⟩ := Finset.mem_map.mp h
  have hx : (x a).val < size a := (x a).isLt
  rw [emb_val]; omega

/-- The two halves put one over the other are the chunk. -/
theorem halves (A : Vec F S256x8192 .f32) : rightRect.overlay (leftRect.overlay A (yH X Wt true c)) (yH X Wt false c) = yC X Wt c := by
  funext y
  by_cases h : (y 1).val < 4096
  · have hn : y ∉ rightRect.set := fun hy => by
      have := (mem_unit _ hy 1).1
      have : 4096 ≤ (y 1).val := this
      omega
    rw [Rect.overlay_of_not_mem _ _ _ hn]
    obtain ⟨x, rfl⟩ : ∃ x : leftRect.shape.Idx, leftRect.emb x = y :=
      ⟨fun | 0 => ⟨(y 0).val, (y 0).isLt⟩ | 1 => ⟨(y 1).val, h⟩, funext fun a => Fin.ext (by
        rw [emb_val]; fin_cases a <;> exact Nat.zero_add _)⟩
    rw [Rect.overlay_emb, yC, dif_pos h]
    refine congrArg (yH X Wt true c) (funext fun a => Fin.ext ?_)
    fin_cases a
    · exact ((emb_val _ x 0).trans (Nat.zero_add _)).symm
    · exact ((emb_val _ x 1).trans (Nat.zero_add _)).symm
  · have h8 : (y 1).val < 8192 := (y 1).isLt
    obtain ⟨x, rfl⟩ : ∃ x : rightRect.shape.Idx, rightRect.emb x = y :=
      ⟨fun | 0 => ⟨(y 0).val, (y 0).isLt⟩ | 1 => ⟨(y 1).val - 4096, by show _ < 4096; omega⟩, funext fun a => Fin.ext (by
        rw [emb_val]; fin_cases a
        · exact Nat.zero_add _
        · show 4096 + ((y 1).val - 4096) = (y 1).val; omega)⟩
    rw [Rect.overlay_emb, yC, dif_neg h]
    refine congrArg (yH X Wt false c) (funext fun a => Fin.ext ?_)
    have e1 : (rightRect.emb x 1).val = 4096 + (x 1).val := emb_val _ x 1
    fin_cases a
    · exact ((emb_val _ x 0).trans (Nat.zero_add _)).symm
    · show (x 1).val = (rightRect.emb x 1).val - 4096; omega

theorem own_store1 {cs : CoreSpace} {s : Shape} {e : EltTy} (m : Memref sig .tc cs s e) (r : Rect s) {v : r.shape.Idx → Elt F e}
    {hx : (m.access r).Stores Finset.univ} {hm : (Finset.univ : Finset r.shape.Idx) = Finset.univ ∨ ∀ a, r.stride a = 1}
    {A : s.Idx → Elt F e} {Q : PUnit → sProp 𝕄} :
    own c m fullShare A ⊢ iprop((own c m fullShare (r.overlay A v) -∗ Q ⟨⟩) -∗ run c (Prog.lift (.store m r v Finset.univ hx hm)) Q) := by
  iintro H Hk
  iapply (own_store c m r) $$ H
  iintro H
  iapply (run_pure c); iapply Hk; iexact H

theorem store_halves {Q : PUnit → sProp 𝕄} :
    iprop(ins X Wt c ∗ slotH X Wt c true 15 ∗ slotH X Wt c false 15 ∗ ownAny c yM)
      ⊢ iprop((ins X Wt c ∗ slotH X Wt c true 15 ∗ slotH X Wt c false 15 ∗ own c yM fullShare (yC X Wt c) -∗ Q ⟨⟩)
          -∗ run c (storeHalves (wordR c) hw3) Q) := by
  have e1 : slotH X Wt c true 15 = own c (slotM commR 1) fullShare (acc X Wt true 14 (peer false c)) := rfl
  have e2 : slotH X Wt c false 15 = own c (slotM commL 1) fullShare (acc X Wt false 14 (peer true c)) := rfl
  unfold ins storeHalves
  rw [e1, e2]
  iintro ⟨⟨Hx, Hw⟩, H1, H2, ⟨%A, Hy⟩⟩ Hk
  iapply (run_bind c); iapply (slot_load1 c commR 1 _) $$ H1; iintro H1
  iapply (run_bind c); iapply (load_x X c hw3 _) $$ Hx; iintro Hx
  iapply (run_bind c); iapply (load_w0 Wt c _) $$ Hw; iintro Hw
  iapply (run_bind c); iapply (own_load1 c yM leftRect rfl _) $$ Hy; iintro Hy
  iapply (run_bind c); iapply (own_store1 c yM leftRect) $$ Hy; iintro Hy
  iapply (run_bind c); iapply (slot_load1 c commL 1 _) $$ H2; iintro H2
  iapply (run_bind c); iapply (load_x X c hw3 _) $$ Hx; iintro Hx
  iapply (run_bind c); iapply (load_w1 Wt c _) $$ Hw; iintro Hw
  iapply (run_bind c); iapply (own_load1 c yM rightRect rfl _) $$ Hy; iintro Hy
  iapply (own_store1 c yM rightRect) $$ Hy; iintro Hy
  have e : own c yM fullShare (rightRect.overlay (leftRect.overlay A (k0_pay43 (toSlot (acc X Wt true 14 (peer false c))) (xB X c (pos c)) (wB Wt true c)))
      (k0_pay43 (toSlot (acc X Wt false 14 (peer true c))) (xB X c (pos c)) (wB Wt false c))) = own c yM fullShare (yC X Wt c) :=
    congrArg (fun A => own c yM fullShare A) (halves X Wt c A)
  ihave Hy := (Entails.of_eq e) $$ Hy
  iapply Hk
  isplitl [Hx Hw]
  · isplitl [Hx]; · iexact Hx
    iexact Hw
  isplitl [H1]; · iexact H1
  isplitl [H2]; · iexact H2
  iexact Hy

/-! ### The row of maxima -/

theorem whole_emb (x : wholeY.shape.Idx) : wholeY.emb x = x := funext fun a => Fin.ext (by
  rw [emb_val]; fin_cases a <;> exact Nat.zero_add _)

theorem row_acc : amM.slice (rowRect c) (fun _ => rfl) = rowW c := slice_unit_congr amM (off4_eq c) _ _

theorem store_max {Q : PUnit → sProp 𝕄} :
    iprop(own c yM fullShare (yC X Wt c) ∗ ownAny c (rowW c))
      ⊢ iprop((own c yM fullShare (yC X Wt c) ∗ own c (rowW c) fullShare (amR X Wt c) -∗ Q ⟨⟩) -∗ run c (storeMax c) Q) := by
  unfold storeMax
  rw [← row_acc c]
  iintro ⟨Hy, ⟨%A, Ha⟩⟩ Hk
  iapply (run_bind c)
  iapply (own_load1 c yM wholeY (v := yC X Wt c) (funext fun x => congrArg (yC X Wt c) (whole_emb x)) _) $$ Hy; iintro Hy
  iapply (run_bind c)
  iapply (slice_load c amM (rowRect c) (fun _ => rfl)) $$ Ha; iintro Ha
  iapply (run_pure c)
  iapply (slice_store c amM (rowRect c) (fun _ => rfl) (v := k0_pay46 (yC X Wt c))) $$ [Ha]
  · iexists _; iexact Ha
  iintro Ha
  iapply (run_pure c)
  iapply Hk
  isplitl [Hy]; · iexact Hy
  iexact Ha

/-! ### The exchange -/

/-- Message `j`, before it is sent, on its way, and back; the row that comes from the device `j + 1` places after, awaited and arrived. -/
def toSend (j : Fin 15) : sProp 𝕄 := iprop(at_ (amsC j c) 0 ∗ tok (.amS j) c ∗ tok (.am j) c ∗ rowRoom (aft c j) c)
def onWay (j : Fin 15) : sProp 𝕄 := iprop(at_ (amsC j c) 0 ∗ due (.amS j) c)
def back (j : Fin 15) : sProp 𝕄 := iprop(at_ (amsC j c) 1 ∗ own c (rowW c) (Transfers.shareTokN fullShare j.val) (amR X Wt c))
def awaited (j : Fin 15) : sProp 𝕄 := iprop(at_ (amwC (aft c j) c) 0 ∗ due (.am (rev j.val)) (aft c j))
def arrived (j : Fin 15) : sProp 𝕄 := iprop(at_ (amwC (aft c j) c) 1 ∗ own c (rowW (aft c j)) fullShare (amR X Wt (aft c j)))

theorem share_step (j : ℕ) : own c (rowW c) (Transfers.shareDrop fullShare j) (amR X Wt c)
    ⊢ iprop(own c (rowW c) (Transfers.shareDrop fullShare (j + 1)) (amR X Wt c) ∗ own c (rowW c) (Transfers.shareTokN fullShare j) (amR X Wt c)) :=
  (owns_halves _ _ _ _).1

theorem share_join : ∀ k, k ≤ 15 → iprop(own c (rowW c) (Transfers.shareDrop fullShare k) (amR X Wt c)
      ∗ bigSep (Ring.rangeSet 15 0 k) (fun j => own c (rowW c) (Transfers.shareTokN fullShare j.val) (amR X Wt c))) ⊢ own c (rowW c) fullShare (amR X Wt c)
  | 0, _ => by iintro ⟨H, -⟩; iexact H
  | k + 1, hk => by
    rw [Ring.bigSep_rangeSet_last (NB := 15) (lo := 0) (hi := k + 1) (Nat.succ_pos k) hk]
    refine .trans ?_ (share_join k (by omega))
    have h : iprop(own c (rowW c) (Transfers.shareDrop fullShare (k + 1)) (amR X Wt c) ∗ own c (rowW c) (Transfers.shareTokN fullShare k) (amR X Wt c))
        ⊢ own c (rowW c) (Transfers.shareDrop fullShare k) (amR X Wt c) := (owns_halves _ _ _ _).2
    iintro ⟨H1, H2, H3⟩
    isplitl [H1 H2]
    · iapply h
      isplitl [H1]; · iexact H1
      iexact H2
    iexact H3

theorem send_max {t : ℕ} (ht : t < 15) :
    iprop((known X Wt K ∗ owing c (amDues (15 - t) t) ∗ own c (rowW c) (Transfers.shareDrop fullShare t) (amR X Wt c)) ∗ toSend c ⟨t, ht⟩)
      ⊢ run c (sendMax c (tgtOf c) t) (fun _ => iprop((known X Wt K ∗ owing c (amDues (15 - (t + 1)) (t + 1))
          ∗ own c (rowW c) (Transfers.shareDrop fullShare (t + 1)) (amR X Wt c)) ∗ onWay c ⟨t, ht⟩)) := by
  rw [show tgtOf c = aft c from funext (tgtOf_eq c), ← fif_eq ht]
  unfold sendMax toSend onWay rowRoom at_
  simp only [rowM_eq, amSem_eq]
  rw [show 15 - t = 15 - (t + 1) + 1 by omega, amDues]
  iintro ⟨⟨#HK, HO, Hs⟩, ⟨⟨Ha, #Hr⟩, Ht1, Ht2, ⟨Hd, Hrr⟩⟩⟩
  ihave Hs := (share_step X Wt c t) $$ Hs
  icases Hs with ⟨Hs', Hs⟩
  iapply (pay_send X Wt K c (.amS (fif t)) (.am (fif t)) (d := aft c (fif t)) (src := rowW c) (dst := rowW c) (A := amR X Wt c) (Fr := iprop(emp)) rfl rfl (amt_row c) rfl
    (Entails.of_eq (show own c (rowW c) (Transfers.shareTokN fullShare t) (amR X Wt c) = own c (rowW c) (Transfers.shareTokN fullShare (fif t).val) (amR X Wt c) by
      rw [show (fif t).val = t from congrArg Fin.val (fif_eq ht)])) (by unfold pay; exact BI.sep_emp.1) rfl rfl) $$ [Hs Hd Hrr Ht1 Ht2 HO]
  · isplitr; · iexact HK
    isplitl [Hs]; · iexact Hs
    isplitl [Hd]; · iexact Hd
    isplitr; · iempintro
    isplitl [HO]; · iexact HO
    isplitl [Ht1]; · iexact Ht1
    isplitr; · iexact Hr
    isplitl [Ht2]; · iexact Ht2
    iexact Hrr
  iintro ⟨Hc, HO⟩
  iapply (run_pure c)
  isplitl [HO Hs']
  · isplitr; · iexact HK
    isplitl [HO]; · iexact HO
    iexact Hs'
  isplitl [Ha]
  · isplitl [Ha]; · iexact Ha
    iexact Hr
  iexact Hc

theorem aft_rev (c : Dev nD) (j : Fin 15) : aft (aft c j) (rev j.val) = c := by revert c j; decide +kernel

theorem recv_max {t : ℕ} (ht : t < 15) :
    iprop((known X Wt K ∗ owing c (agDues 15 0)) ∗ awaited c ⟨t, ht⟩)
      ⊢ run c (recvMax c t) (fun _ => iprop((known X Wt K ∗ owing c (agDues 15 0)) ∗ arrived X Wt c ⟨t, ht⟩)) := by
  unfold recvMax awaited arrived
  simp only [fif_eq ht, rowMAt_eq, amSemAt_eq]
  iintro ⟨⟨#HK, HO⟩, ⟨Ha, Hd⟩⟩
  have hg : cell (.am (rev t)) (aft c ⟨t, ht⟩) = (Dev.tc c, .dma (amC (aft c ⟨t, ht⟩))) := by
    show (Dev.tc (aft (aft c ⟨t, ht⟩) (rev t)), _) = _; rw [aft_rev c ⟨t, ht⟩]; rfl
  iapply (take1 X Wt K c (.am (rev t)) (aft c ⟨t, ht⟩) (fun _ => by intro h; cases h) (sm := .dma (amC (aft c ⟨t, ht⟩))) hg rfl
    (fun P => (wpE_waitDma2_eq 𝒱₀ (Dev.tc c) none Set.univ P).trans (by rw [amt_row]; rfl))
    (fun j hj => lt_of_lt_of_le (show 100 < 200 + 0 by decide) (ag_lvl 15 0 (by decide) j hj))) $$ [Hd HO Ha]
  · isplitr; · iexact HK
    isplitl [Hd]; · iexact Hd
    isplitl [HO]; · iexact HO
    iexact Ha
  iintro ⟨HO, Ha, Hp⟩
  ihave Hp := (Entails.of_eq (show _ = own c (rowW (aft c ⟨t, ht⟩)) fullShare (amR X Wt (aft c ⟨t, ht⟩)) by
    show own (aft (aft c ⟨t, ht⟩) (rev t)) _ _ _ = _; rw [aft_rev c ⟨t, ht⟩])) $$ Hp
  isplitl [HO]
  · isplitr; · iexact HK
    iexact HO
  isplitl [Ha]; · iexact Ha
  iexact Hp

theorem sent_max {t : ℕ} (ht : t < 15) :
    iprop((known X Wt K ∗ owing c (agDues 15 0)) ∗ onWay c ⟨t, ht⟩)
      ⊢ run c (sentMax c t) (fun _ => iprop((known X Wt K ∗ owing c (agDues 15 0)) ∗ back X Wt c ⟨t, ht⟩)) := by
  unfold sentMax onWay back
  simp only [fif_eq ht, rowM_eq]
  iintro ⟨⟨#HK, HO⟩, ⟨Ha, Hd⟩⟩
  iapply (take1 X Wt K c (.amS ⟨t, ht⟩) c (fun _ => by intro h; cases h) (sm := .dma (sem15 cc0_scratch11 ⟨t, ht⟩)) rfl rfl
    (fun P => (wpE_waitDma2_eq 𝒱₀ (Dev.tc c) none Set.univ P).trans (by rw [amt_row]; rfl))
    (fun j hj => lt_of_lt_of_le (show 0 < 200 + 0 by decide) (ag_lvl 15 0 (by decide) j hj))) $$ [Hd HO Ha]
  · isplitr; · iexact HK
    isplitl [Hd]; · iexact Hd
    isplitl [HO]; · iexact HO
    iexact Ha
  iintro ⟨HO, Ha, Hp⟩
  isplitl [HO]
  · isplitr; · iexact HK
    iexact HO
  isplitl [Ha]; · iexact Ha
  unfold pay; iexact Hp

/-! ### The rows put together -/

theorem rows_disjoint (w w' : Fin 16) (h : w ≠ w') : Disjoint (rowRectW w).set (rowRectW w').set := by
  rw [Finset.disjoint_left]
  intro y hy hy'
  have h1 := mem_unit _ hy 0
  have h2 := mem_unit _ hy' 0
  have h1 : w.val ≤ (y 0).val ∧ (y 0).val < w.val + 1 := h1
  have h2 : w'.val ≤ (y 0).val ∧ (y 0).val < w'.val + 1 := h2
  exact h (Fin.ext (by omega))

theorem rows_cover : ∀ i : S16x128.Idx, ∃ w : Fin 16, i ∈ (rowRectW w).set := by
  intro y
  refine ⟨⟨(y 0).val, (y 0).isLt⟩, ?_⟩
  rw [← Rect.map_emb_univ]
  refine Finset.mem_map.mpr ⟨fun | 0 => ⟨0, Nat.one_pos⟩ | 1 => ⟨(y 1).val, (y 1).isLt⟩, Finset.mem_univ _, funext fun a => Fin.ext ?_⟩
  rw [emb_val]; fin_cases a
  · exact Nat.add_zero _
  · exact Nat.zero_add _

theorem amA_row (w : Fin 16) : (fun x => amA X Wt ((rowRectW w).emb x)) = amR X Wt w := by
  funext x
  have e0 : ((rowRectW w).emb x 0).val = w.val := by
    rw [emb_val]; have : (x 0).val < 1 := (x 0).isLt
    show w.val + (x 0).val = w.val; omega
  have e1 : ((rowRectW w).emb x 1).val = (x 1).val := (emb_val _ x 1).trans (Nat.zero_add _)
  unfold amA
  rw [show (⟨((rowRectW w).emb x 0).val, ((rowRectW w).emb x 0).isLt⟩ : Dev nD) = w from Fin.ext e0]
  refine congrArg (amR X Wt w) (funext fun a => Fin.ext ?_)
  fin_cases a
  · have : (x 0).val < 1 := (x 0).isLt
    show 0 = (x 0).val; omega
  · exact e1

theorem rows_join [∀ e, Nonempty (Elt F e)] : bigSep Finset.univ (fun w : Fin 16 => own c (rowW w) fullShare (amR X Wt w)) ⊢ own c amM fullShare (amA X Wt) := by
  refine BIBase.Entails.trans ?_ (owns_of_rects (Dev.tc c : Thread nD τ) amM fullShare rowRectW (fun _ _ => rfl) rows_disjoint (by ext y; simpa using rows_cover y) (amA X Wt))
  simp only [amA_row]
  exact .rfl

theorem exchange_max [∀ e, Nonempty (Elt F e)] {Q : PUnit → sProp 𝕄} :
    iprop(known X Wt K ∗ owing c (amDues 15 0) ∗ own c (rowW c) fullShare (amR X Wt c) ∗ bigSep Finset.univ (toSend (F := F) c) ∗ bigSep Finset.univ (awaited (F := F) c))
      ⊢ iprop((owing c (agDues 15 0) ∗ own c amM fullShare (amA X Wt) ∗ bigSep Finset.univ (fun j => at_ (F := F) (amsC j c) 1)
            ∗ bigSep Finset.univ (fun j => at_ (F := F) (amwC (aft c j) c) 1) -∗ Q ⟨⟩)
          -∗ run c (exchangeMax c) Q) := by
  have h1 := run_sweep c (f := sendMax c (tgtOf c)) (fun t => iprop(known X Wt K ∗ owing c (amDues (15 - t) t) ∗ own c (rowW c) (Transfers.shareDrop fullShare t) (amR X Wt c)))
    (toSend c) (onWay c) (fun t ht => send_max X Wt K c ht)
  have h2 := run_sweep c (f := recvMax c) (fun _ => iprop(known X Wt K ∗ owing c (agDues 15 0))) (awaited c) (arrived X Wt c) (fun t ht => recv_max X Wt K c ht)
  have h3 := run_sweep c (f := sentMax c) (fun _ => iprop(known X Wt K ∗ owing c (agDues 15 0))) (onWay c) (back X Wt c) (fun t ht => sent_max X Wt K c ht)
  unfold exchangeMax
  iintro ⟨#HK, HO, Hs, Hts, Haw⟩ Hk
  iapply (run_bind c)
  ihave H := h1 $$ [HO Hs Hts]
  · isplitl [HO Hs]
    · isplitr; · iexact HK
      isplitl [HO]; · iexact HO
      iexact Hs
    iexact Hts
  iapply (wp_wand _ _ _) $$ H
  iintro %_ ⟨⟨-, HO, Hs⟩, How⟩
  iapply (run_bind c)
  ihave H := h2 $$ [HO Haw]
  · isplitl [HO]
    · isplitr; · iexact HK
      iexact HO
    iexact Haw
  iapply (wp_wand _ _ _) $$ H
  iintro %_ ⟨⟨-, HO⟩, Har⟩
  ihave H := h3 $$ [HO How]
  · isplitl [HO]
    · isplitr; · iexact HK
      iexact HO
    iexact How
  iapply (wp_wand _ _ _) $$ H
  iintro %_ ⟨⟨-, HO⟩, Hb⟩
  unfold arrived back
  ihave Har := (two_families _ _) $$ Har
  icases Har with ⟨Ha1, Har⟩
  ihave Hb := (two_families _ _) $$ Hb
  icases Hb with ⟨Ha2, Hb⟩
  have hj := share_join X Wt c 15 (le_refl _)
  rw [Ring.rangeSet_univ] at hj
  ihave Hs := hj $$ [Hs Hb]
  · isplitl [Hs]; · iexact Hs
    iexact Hb
  have hr := rows_join X Wt c
  rw [all_devices c] at hr
  ihave Hr := hr $$ [Hs Har]
  · isplitl [Hs]; · iexact Hs
    iexact Har
  iapply Hk
  isplitl [HO]; · iexact HO
  isplitl [Hr]; · iexact Hr
  isplitl [Ha2]; · iexact Ha2
  iexact Ha1

end rules

end Cert.KernelIdeal.Proof

end
-- ==== Proof.Gather.lean ====
module

public import proofs.«01_k».proof.Proof.Max

/-! The quantised chunk, its copy into the result, and the gather that fills the rest of the result. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The views of the result -/

section views
variable (c : Dev nD)

theorem cover_of {T : Type} [Fintype T] {s : Shape} {r : T → Rect s} (h : ∀ y, ∃ t, y ∈ (r t).set) : Finset.univ.biUnion (fun t => (r t).set) = Finset.univ :=
  Finset.ext fun y => ⟨fun _ => Finset.mem_univ y, fun _ => (h y).elim fun t ht => Finset.mem_biUnion.mpr ⟨t, Finset.mem_univ t, ht⟩⟩

theorem any_of {sp : Space} {sh : Shape} {e : EltTy} (m : Memref sig .tc sp sh e) {A : sh.Idx → Elt F e} : own c m fullShare A ⊢ ownAny c m := by
  iintro H; iexists A; iexact H

/-- A half of a block, as a slice of the block and as a slice of the result. -/
abbrev halfM (k : Fin 16) (S : Bool) : Memref sig .tc .hbm S256x4096 .bf16 := (blkM k).slice (halfRect S) (fun _ => rfl)

theorem half_emb (k : Fin 16) (S : Bool) (x : S256x4096.Idx) : (halfM k S).view.emb x = (chunkM S k).view.emb x := by
  have h1 : ∀ a, ((halfRect S).emb x a).val = (![0, col S] : Fin 2 → ℕ) a + (x a).val := fun a => emb_val _ x a
  have h2 : ∀ a, ((chunkM S k).view.emb x a).val = (![k.val * 256, col S] : Fin 2 → ℕ) a + (x a).val := fun a => emb_val _ x a
  have h3 : ∀ a, ((halfM k S).view.emb x a).val = (![k.val * 256, 0] : Fin 2 → ℕ) a + ((halfRect S).emb x a).val := fun a => emb_val _ ((halfRect S).emb x) a
  funext a
  refine Fin.ext ?_
  rw [h3 a, h1 a, h2 a]
  fin_cases a
  · show k.val * 256 + (0 + (x 0).val) = k.val * 256 + (x 0).val; omega
  · show 0 + (col S + (x 1).val) = col S + (x 1).val; omega

theorem half_set (k : Fin 16) (S : Bool) : (halfM k S).view.set = (chunkM S k).view.set := by
  unfold View.set
  exact congrArg (fun e : S256x4096.Idx ↪ main_v29.ty.Idx => Finset.univ.map e) (Function.Embedding.ext fun x => half_emb k S x)

theorem half_read (k : Fin 16) (S : Bool) (f : main_v29.ty.Contents (Elt F)) : (halfM k S).view.read (Elt F) f = (chunkM S k).view.read (Elt F) f :=
  funext fun x => congrArg f (half_emb k S x)

theorem half_chunk (k : Fin 16) (S : Bool) (q : PosShare TreeShare) (A : S256x4096.Idx → Elt F .bf16) : own c (halfM k S) q A ⊢ own c (chunkM S k) q A := by
  unfold own owns
  iintro ⟨%f, %hf, H⟩
  iexists f; isplitr
  · ipureintro; rw [← half_read]; exact hf
  · rw [← half_set]; iexact H

theorem chunk_half (k : Fin 16) (S : Bool) (q : PosShare TreeShare) (A : S256x4096.Idx → Elt F .bf16) : own c (chunkM S k) q A ⊢ own c (halfM k S) q A := by
  unfold own owns
  iintro ⟨%f, %hf, H⟩
  iexists f; isplitr
  · ipureintro; rw [half_read]; exact hf
  · rw [half_set]; iexact H

theorem half_mem (S : Bool) {y : S256x8192.Idx} (h : y ∈ (halfRect S).set) : col S ≤ (y 1).val ∧ (y 1).val < col S + 4096 := mem_unit _ h 1
theorem halves_disjoint (S S' : Bool) (h : S ≠ S') : Disjoint (halfRect S).set (halfRect S').set := by
  rw [Finset.disjoint_left]
  intro y hy hy'
  have h1 := half_mem S hy
  have h2 := half_mem S' hy'
  cases S <;> cases S' <;> simp only [col] at h1 h2 <;> first | exact h rfl | omega
theorem halves_cover (y : S256x8192.Idx) : ∃ S : Bool, y ∈ (halfRect S).set := by
  have h8 : (y 1).val < 8192 := (y 1).isLt
  have key : ∀ S : Bool, ∀ h1 : col S ≤ (y 1).val, ∀ h2 : (y 1).val < col S + 4096, y ∈ (halfRect S).set := fun S h1 h2 => by
    rw [← Rect.map_emb_univ]
    refine Finset.mem_map.mpr ⟨fun | 0 => ⟨(y 0).val, (y 0).isLt⟩ | 1 => ⟨(y 1).val - col S, by show _ < 4096; omega⟩, Finset.mem_univ _, funext fun a => Fin.ext ?_⟩
    rw [emb_val]; fin_cases a
    · exact Nat.zero_add _
    · show col S + ((y 1).val - col S) = (y 1).val; omega
  by_cases h : (y 1).val < 4096
  · exact ⟨true, key true (Nat.zero_le _) (by show _ < 0 + 4096; omega)⟩
  · exact ⟨false, key false (by show 4096 ≤ _; omega) (by show _ < 4096 + 4096; omega)⟩

theorem two_rings (Φ : Bool → sProp 𝕄) : bigSep Finset.univ Φ = iprop(Φ true ∗ Φ false) := by
  rw [show (Finset.univ : Finset Bool) = insert true {false} from rfl, bigSep_insert (by decide), bigSep_singleton]; rfl

/-- A block is its two halves. -/
theorem blk_split (k : Fin 16) (A : S256x8192.Idx → Elt F .bf16) :
    own c (blkM k) fullShare A ⊢ iprop(own c (chunkM true k) fullShare (fun x => A ((halfRect true).emb x)) ∗ own c (chunkM false k) fullShare (fun x => A ((halfRect false).emb x))) := by
  refine BIBase.Entails.trans (owns_rects (Dev.tc c : Thread nD τ) (blkM k) fullShare halfRect (fun _ _ => rfl) halves_disjoint (cover_of halves_cover) A) ?_
  rw [two_rings]
  exact BI.sep_mono (half_chunk c k true _ _) (half_chunk c k false _ _)

theorem any_half (k : Fin 16) : iprop(ownAny (F := F) c (chunkM true k) ∗ ownAny c (chunkM false k)) ⊢ bigSep Finset.univ (fun S => ownAny c (halfM k S)) := by
  rw [two_rings]
  iintro ⟨⟨%A, H⟩, ⟨%B, H'⟩⟩
  isplitl [H]
  · iexists A; iapply (chunk_half c k true); iexact H
  · iexists B; iapply (chunk_half c k false); iexact H'

theorem blk_join [∀ e, Nonempty (Elt F e)] (k : Fin 16) : iprop(ownAny (F := F) c (chunkM true k) ∗ ownAny c (chunkM false k)) ⊢ ownAny c (blkM k) := by
  refine BIBase.Entails.trans (any_half c k) ?_
  refine BIBase.Entails.trans (BI.bigSep_exists_pi Finset.univ (fun S A => own c (halfM k S) fullShare A)) ?_
  iintro ⟨%As, H⟩
  have hcov : (Finset.univ : Finset Bool).biUnion (fun S => (halfRect S).set) = Finset.univ := cover_of halves_cover
  have hg (S : Bool) : (fun j => Rect.glue halfRect hcov As ((halfRect S).emb j)) = As S := funext fun y => Rect.glue_emb halfRect hcov halves_disjoint As S y
  iexists (Rect.glue halfRect hcov As)
  iapply (owns_of_rects (Dev.tc c : Thread nD τ) (blkM k) fullShare halfRect (fun _ _ => rfl) halves_disjoint hcov (Rect.glue halfRect hcov As))
  simp only [hg]
  iexact H

abbrev partRect (p : Bool × Fin 16) : Rect S4096x8192 := Rect.unit (s := S4096x8192) ![p.2.val * 256, col p.1] S256x4096.size (inb_chunk p.1 p.2)

theorem part_mem (p : Bool × Fin 16) {y : S4096x8192.Idx} (h : y ∈ (partRect p).set) :
    (p.2.val * 256 ≤ (y 0).val ∧ (y 0).val < p.2.val * 256 + 256) ∧ (col p.1 ≤ (y 1).val ∧ (y 1).val < col p.1 + 4096) := ⟨mem_unit _ h 0, mem_unit _ h 1⟩
theorem parts_disjoint (p p' : Bool × Fin 16) (h : p ≠ p') : Disjoint (partRect p).set (partRect p').set := by
  rw [Finset.disjoint_left]
  intro y hy hy'
  obtain ⟨a1, b1⟩ := part_mem p hy
  obtain ⟨a2, b2⟩ := part_mem p' hy'
  refine h (Prod.ext ?_ (Fin.ext (by omega)))
  obtain ⟨S, k⟩ := p
  obtain ⟨S', k'⟩ := p'
  cases S <;> cases S' <;> simp only [col] at b1 b2 <;> first | rfl | omega
theorem parts_cover (y : S4096x8192.Idx) : ∃ p : Bool × Fin 16, y ∈ (partRect p).set := by
  have h8 : (y 1).val < 8192 := (y 1).isLt
  have h0 : (y 0).val < 4096 := (y 0).isLt
  have key : ∀ S : Bool, ∀ h1 : col S ≤ (y 1).val, ∀ h2 : (y 1).val < col S + 4096, ∃ p : Bool × Fin 16, y ∈ (partRect p).set := fun S h1 h2 => by
    refine ⟨(S, ⟨(y 0).val / 256, by omega⟩), ?_⟩
    rw [← Rect.map_emb_univ]
    refine Finset.mem_map.mpr ⟨fun | 0 => ⟨(y 0).val % 256, Nat.mod_lt _ (by decide)⟩ | 1 => ⟨(y 1).val - col S, by show _ < 4096; omega⟩, Finset.mem_univ _, funext fun a => Fin.ext ?_⟩
    rw [emb_val]; fin_cases a
    · show (y 0).val / 256 * 256 + (y 0).val % 256 = (y 0).val; omega
    · show col S + ((y 1).val - col S) = (y 1).val; omega
  by_cases h : (y 1).val < 4096
  · exact key true (Nat.zero_le _) (by show _ < 0 + 4096; omega)
  · exact key false (by show 4096 ≤ _; omega) (by show _ < 4096 + 4096; omega)

/-- The result, whatever it holds, is its half blocks. -/
theorem out_split (A : S4096x8192.Idx → Elt F .bf16) :
    own c outM fullShare A ⊢ bigSep Finset.univ (fun S : Bool => bigSep Finset.univ fun k : Fin 16 => ownAny c (chunkM S k)) := by
  refine BIBase.Entails.trans (owns_rects (Dev.tc c : Thread nD τ) outM fullShare partRect (fun _ _ => rfl) parts_disjoint (cover_of parts_cover) A) ?_
  rw [bigSep_univ_prod]
  exact BI.bigSep_mono fun S _ => BI.bigSep_mono fun k _ => any_of c (chunkM S k)

/-! ### The blocks a device passes on, and those it gets -/

theorem ag_zero (S : Bool) : agBlk S c 0 = pos c := by revert S c; decide +kernel
theorem ag_succ (S : Bool) {t : ℕ} (ht : t + 1 < 15) : agBlk S (peer (!S) c) t = agBlk S c (t + 1) := by
  have : ∀ (S : Bool) (c : Dev nD) (t : Fin 14), agBlk S (peer (!S) c) t.val = agBlk S c (t.val + 1) := by decide +kernel
  exact this S c ⟨t, by omega⟩
def passE (S : Bool) : Fin 15 ↪ Fin 16 := ⟨fun j => agBlk S c j.val, by revert S c; unfold Function.Injective; decide +kernel⟩
def getE (S : Bool) : Fin 15 ↪ Fin 16 := ⟨fun j => agBlk S (peer (!S) c) j.val, by revert S c; unfold Function.Injective; decide +kernel⟩
theorem pass_not (S : Bool) : agBlk S (peer (!S) c) 14 ∉ Finset.univ.map (passE c S) := by revert S c; decide +kernel
theorem pass_all (S : Bool) : insert (agBlk S (peer (!S) c) 14) (Finset.univ.map (passE c S)) = Finset.univ := by revert S c; decide +kernel
theorem get_not (S : Bool) : pos c ∉ Finset.univ.map (getE c S) := by revert S c; decide +kernel
theorem get_all (S : Bool) : insert (pos c) (Finset.univ.map (getE c S)) = Finset.univ := by revert S c; decide +kernel

/-- The half blocks of one ring, by the step they are passed on in, and the last one; this device's own, and by the step they arrive in. -/
theorem by_pass (S : Bool) (Φ : Fin 16 → sProp 𝕄) :
    bigSep Finset.univ Φ = iprop(Φ (agBlk S (peer (!S) c) 14) ∗ bigSep Finset.univ (fun j : Fin 15 => Φ (agBlk S c j.val))) := by
  rw [← pass_all c S, bigSep_insert (pass_not c S), bigSep_map]; rfl
theorem by_get (S : Bool) (Φ : Fin 16 → sProp 𝕄) :
    bigSep Finset.univ Φ = iprop(Φ (pos c) ∗ bigSep Finset.univ (fun j : Fin 15 => Φ (agBlk S (peer (!S) c) j.val))) := by
  rw [← get_all c S, bigSep_insert (get_not c S), bigSep_map]; rfl

end views

section rules
variable (X : Dev nD → Vec F S4096x256 .bf16) (Wt : Dev nD → Vec F S256x8192 .bf16) (K : GSem nD τ sig → ℕ) (c : Dev nD) (hw3 : k0_chk3 (wordR c))

/-- The whole result: each device's quantised chunk at its place. -/
def OUT : Vec F S4096x8192 .bf16 := fun i =>
  qC X Wt (ring ⟨(i 0).val / 256, by have h : (i 0).val < 4096 := (i 0).isLt; omega⟩) (fun | 0 => ⟨(i 0).val % 256, Nat.mod_lt _ (by decide)⟩ | 1 => ⟨(i 1).val, (i 1).isLt⟩)

theorem out_part (S : Bool) (k : Fin 16) : (fun x => OUT X Wt ((partRect (S, k)).emb x)) = oH X Wt S k := by
  funext x
  have e0 : ((partRect (S, k)).emb x 0).val = k.val * 256 + (x 0).val := emb_val _ x 0
  have e1 : ((partRect (S, k)).emb x 1).val = col S + (x 1).val := emb_val _ x 1
  have hx : (x 0).val < 256 := (x 0).isLt
  unfold OUT oH
  rw [show (⟨((partRect (S, k)).emb x 0).val / 256, by rw [e0]; omega⟩ : Fin 16) = k from Fin.ext (by show _ / 256 = _; rw [e0]; omega)]
  refine congrArg (qC X Wt (ring k)) (funext fun a => Fin.ext ?_)
  fin_cases a
  · show _ % 256 = ((halfRect S).emb x 0).val
    rw [e0, emb_val]; show _ = 0 + (x 0).val; omega
  · show ((partRect (S, k)).emb x 1).val = ((halfRect S).emb x 1).val
    rw [e1, emb_val]; rfl

theorem out_join [∀ e, Nonempty (Elt F e)] :
    bigSep Finset.univ (fun S : Bool => bigSep Finset.univ fun k : Fin 16 => own c (chunkM S k) fullShare (oH X Wt S k)) ⊢ own c outM fullShare (OUT X Wt) := by
  refine BIBase.Entails.trans ?_ (owns_of_rects (Dev.tc c : Thread nD τ) outM fullShare partRect (fun _ _ => rfl) parts_disjoint (cover_of parts_cover) (OUT X Wt))
  rw [bigSep_univ_prod]
  simp only [out_part]
  exact .rfl

/-! ### The quantised chunk -/

theorem allRows_emb (x : S16x128.Idx) : (Rect.unit (s := S16x128) ![0, 0] S16x128.size inb_S16x128_S16x128_0_0).emb x = x := funext fun a => Fin.ext (by
  rw [emb_val]; fin_cases a <;> exact Nat.zero_add _)

theorem whole_overlay {e : EltTy} (A v : S256x8192.Idx → Elt F e) : wholeY.overlay A v = v := funext fun y => by
  have h := Rect.overlay_emb (r := wholeY) A v y
  rw [whole_emb] at h; exact h

theorem quantise_run {Q : PUnit → sProp 𝕄} :
    iprop(own c amM fullShare (amA X Wt) ∗ own c yM fullShare (yC X Wt c) ∗ ownAny c stM)
      ⊢ iprop((own c amM fullShare (amA X Wt) ∗ own c yM fullShare (yC X Wt c) ∗ own c stM fullShare (qC X Wt c) -∗ Q ⟨⟩) -∗ run c quantise Q) := by
  unfold quantise
  iintro ⟨Ha, Hy, ⟨%A, Hs⟩⟩ Hk
  iapply (run_bind c)
  iapply (own_load1 c amM (Rect.unit (s := S16x128) ![0, 0] S16x128.size inb_S16x128_S16x128_0_0) (v := amA X Wt) (funext fun x => congrArg (amA X Wt) (allRows_emb x)) _) $$ Ha; iintro Ha
  iapply (run_bind c)
  iapply (own_load1 c yM wholeY (v := yC X Wt c) (funext fun x => congrArg (yC X Wt c) (whole_emb x)) _) $$ Hy; iintro Hy
  iapply (run_bind c)
  iapply (own_load1 c stM wholeY rfl _) $$ Hs; iintro Hs
  iapply (own_store1 c stM wholeY) $$ Hs; iintro Hs
  have e : own c stM fullShare (wholeY.overlay A (k0_pay47 (amA X Wt) (yC X Wt c))) = own c stM fullShare (qC X Wt c) :=
    congrArg (fun A => own c stM fullShare A) (whole_overlay A _)
  ihave Hs := (Entails.of_eq e) $$ Hs
  iapply Hk
  isplitl [Ha]; · iexact Ha
  isplitl [Hy]; · iexact Hy
  iexact Hs

theorem copy_out {Q : PUnit → sProp 𝕄} :
    iprop(known X Wt K ∗ owing c (agDues 15 0) ∗ own c stM fullShare (qC X Wt c) ∗ ownAny c (blkM (pos c)) ∗ at_ (cpC c) 0 ∗ tok .cp c)
      ⊢ iprop((owing c (agDues 15 0) ∗ own c stM fullShare (qC X Wt c) ∗ own c (blkM (pos c)) fullShare (qC X Wt c) ∗ at_ (cpC c) 1 -∗ Q ⟨⟩)
          -∗ run c (copyOut (wordR c) hw3) Q) := by
  unfold copyOut
  simp only [ownM_eq]
  have ha : at_ (F := F) (cpC c) 0 ⊢ iprop(at_ (cpC c) 0 ∗ reached ER (cpC c) 0) := by
    unfold at_
    iintro ⟨H, #Hr⟩
    isplitl [H]
    · isplitl [H]; · iexact H
      iexact Hr
    iexact Hr
  iintro ⟨#HK, HO, Hs, Hd, Ha, Ht⟩ Hk
  ihave Ha := ha $$ Ha
  icases Ha with ⟨Ha, Hr⟩
  iapply (run_bind c)
  iapply (pay_copy X Wt K c .cp (src := stM) (dst := blkM (pos c)) (sm := .dma cc0_scratch13.sem) (A := qC X Wt c) rfl (amt_blk _) (by unfold pay; exact .rfl) rfl) $$ [Hs Hd Ht Hr]
  · isplitr; · iexact HK
    isplitl [Hs]; · iexact Hs
    isplitl [Hd]; · iexact Hd
    isplitl [Ht]; · iexact Ht
    iexact Hr
  iintro Hc
  iapply (run_pure c)
  iapply (take1 X Wt K c .cp c (fun _ => by intro h; cases h) (sm := .dma cc0_scratch13.sem) rfl rfl
    (fun P => (wpE_waitDma2_eq 𝒱₀ (Dev.tc c) none Set.univ P).trans (by rw [amt_blk]; rfl))
    (fun j hj => lt_of_lt_of_le (show 0 < 200 + 0 by decide) (ag_lvl 15 0 (by decide) j hj))) $$ [Hc HO Ha]
  · isplitr; · iexact HK
    isplitl [Hc]; · iexact Hc
    isplitl [HO]; · iexact HO
    iexact Ha
  unfold pay
  iintro ⟨HO, Ha, Hd, Hs⟩
  iapply Hk
  isplitl [HO]; · iexact HO
  isplitl [Hs]; · iexact Hs
  isplitl [Hd]; · iexact Hd
  iexact Ha

/-! ### One step of the gather, on one ring -/

/-- The half block a device passes on in step `t`: its own, then what has arrived. -/
def curH (S : Bool) : ℕ → sProp 𝕄
  | 0 => own c (chunkM S (pos c)) fullShare (oH X Wt S (pos c))
  | t + 1 => own c (chunkM S (agBlk S (peer (!S) c) t)) fullShare (oH X Wt S (agBlk S (peer (!S) c) t))
def passed (S : Bool) (j : Fin 15) : sProp 𝕄 := own c (chunkM S (agBlk S c j.val)) fullShare (oH X Wt S (agBlk S c j.val))

theorem cur_eq (S : Bool) : ∀ {t : ℕ} (ht : t < 15), curH X Wt c S t = passed X Wt c S ⟨t, ht⟩
  | 0, _ => by unfold passed; dsimp only; rw [ag_zero]; rfl
  | t + 1, ht => by unfold passed; dsimp only; rw [← ag_succ c S ht]; rfl

/-- What a step of the gather takes. -/
def stepIn (S : Bool) (j : Fin 15) : sProp 𝕄 :=
  iprop(tok (.agS S j) c ∗ tok (.ag S j) c ∗ due (.ag S j) (peer (!S) c) ∗ agRoom S (peer S c) c j ∗ at_ (agC S j c) 0)
/-- Where the device stands on the cells of its sends before step `t`. -/
def sends (S : Bool) (t : ℕ) : sProp 𝕄 := iprop(at_ (sndC S (par t) c) ((16 + t) / 2 - t % 2) ∗ at_ (sndC S (par (t + 1)) c) ((16 + (t + 1)) / 2 - (t + 1) % 2))

theorem send_ag (S : Bool) {t : ℕ} (ht : t < 15) {l : List Due} {hsc : (chunkM S (agBlk S c t)).view.ref.isScScratch = false}
    {hsrc hdst : (chunkM S (agBlk S c t)).view.WordExact}
    {hsem : DmaTarget.Typed .hbm (.dma (sem15 (gS S) ⟨t, ht⟩)) (.remote (Dev.tc (peer S c)) (chunkM S (agBlk S c t)) (.dma (sem2 (sS S) (par t))) hsc)} {Q : PUnit → sProp 𝕄} :
    iprop(known X Wt K ∗ curH X Wt c S t ∗ stepIn c S ⟨t, ht⟩ ∗ sends c S t ∗ owing c (.ag S ⟨t, ht⟩ :: l))
      ⊢ iprop((due (.agS S ⟨t, ht⟩) c ∗ due (.ag S ⟨t, ht⟩) (peer (!S) c) ∗ at_ (agC S ⟨t, ht⟩ c) 0 ∗ sends c S t ∗ owing c l -∗ Q ⟨⟩)
          -∗ run c (.op (.enqueueDma (chunkM S (agBlk S c t)) (.remote (Dev.tc (peer S c)) (chunkM S (agBlk S c t)) (.dma (sem2 (sS S) (par t))) hsc)
              (.dma (sem15 (gS S) ⟨t, ht⟩)) hsrc hdst hsem) .ret) Q) := by
  rw [cur_eq X Wt c S ht]
  unfold passed stepIn sends agRoom at_
  iintro ⟨#HK, Hs, ⟨Ht1, Ht2, Hdue, ⟨Hd, Hrr⟩, Ha⟩, ⟨⟨H1, #Hr1⟩, H2⟩, HO⟩ Hk
  iapply (pay_send X Wt K c (.agS S ⟨t, ht⟩) (.ag S ⟨t, ht⟩) (Fr := iprop(emp)) rfl rfl (amt_chunk S _) rfl
    (by unfold pay; exact .rfl) (by unfold pay; exact BI.sep_emp.1) rfl rfl) $$ [Hs Hd Hrr Ht1 Ht2 HO]
  · isplitr; · iexact HK
    isplitl [Hs]; · iexact Hs
    isplitl [Hd]; · iexact Hd
    isplitr; · iempintro
    isplitl [HO]; · iexact HO
    isplitl [Ht1]; · iexact Ht1
    isplitr; · iexact Hr1
    isplitl [Ht2]; · iexact Ht2
    iexact Hrr
  iintro ⟨Hc, HO⟩
  iapply (run_pure c)
  iapply Hk
  isplitl [Hc]; · iexact Hc
  isplitl [Hdue]; · iexact Hdue
  isplitl [Ha]; · iexact Ha
  isplitl [H1 H2]
  · isplitl [H1]
    · isplitl [H1]; · iexact H1
      iexact Hr1
    iexact H2
  iexact HO

theorem wait_ag (S : Bool) {t : ℕ} (ht : t < 15) {l : List Due} (hl : ∀ j ∈ l, 200 + t < lvl j) {h1 h2 h3 h4 : (chunkM S (agBlk S c t)).view.WordExact} {Q : PUnit → sProp 𝕄} :
    iprop(known X Wt K ∗ due (.agS S ⟨t, ht⟩) c ∗ due (.ag S ⟨t, ht⟩) (peer (!S) c) ∗ at_ (agC S ⟨t, ht⟩ c) 0 ∗ sends c S t ∗ owing c l)
      ⊢ iprop((passed X Wt c S ⟨t, ht⟩ ∗ curH X Wt c S (t + 1) ∗ at_ (agC S ⟨t, ht⟩ c) 1 ∗ sends c S (t + 1) ∗ owing c l -∗ Q ⟨⟩)
          -∗ run c ((Prog.lift (.waitDma2 (sem2 (sS S) (par t)) (chunkM S (agBlk S c t)) (chunkM S (agBlk S c t)) h1 h2) : KProg F PUnit) >>= fun _ =>
              Prog.lift (.waitDma2 (sem15 (gS S) ⟨t, ht⟩) (chunkM S (agBlk S c t)) (chunkM S (agBlk S c t)) h3 h4)) Q) := by
  unfold sends
  iintro ⟨#HK, Hd1, Hd2, Ha, ⟨H1, H2⟩, HO⟩ Hk
  iapply (run_bind c)
  iapply (take1 X Wt K c (.agS S ⟨t, ht⟩) c (fun _ => by intro h; cases h) (sm := .dma (sem2 (sS S) (par t))) rfl rfl
    (fun P => (wpE_waitDma2_eq 𝒱₀ (Dev.tc c) none Set.univ P).trans (by rw [amt_chunk]; rfl))
    (fun j hj => lt_of_le_of_lt (Nat.zero_le _) (hl j hj))) $$ [Hd1 HO H1]
  · isplitr; · iexact HK
    isplitl [Hd1]; · iexact Hd1
    isplitl [HO]; · iexact HO
    iexact H1
  iintro ⟨HO, H1, Hp⟩
  have hg : cell (.ag S ⟨t, ht⟩) (peer (!S) c) = (Dev.tc c, .dma (sem15 (gS S) ⟨t, ht⟩)) := by
    show (Dev.tc (peer S (peer (!S) c)), _) = _; rw [peer_peer]; rfl
  iapply (take1 X Wt K c (.ag S ⟨t, ht⟩) (peer (!S) c) (fun _ => by intro h; cases h) (sm := .dma (sem15 (gS S) ⟨t, ht⟩)) hg rfl
    (fun P => (wpE_waitDma2_eq 𝒱₀ (Dev.tc c) none Set.univ P).trans (by rw [amt_chunk]; rfl)) hl) $$ [Hd2 HO Ha]
  · isplitr; · iexact HK
    isplitl [Hd2]; · iexact Hd2
    isplitl [HO]; · iexact HO
    iexact Ha
  iintro ⟨HO, Ha, Hp'⟩
  ihave Hp' := (Entails.of_eq (show _ = curH X Wt c S (t + 1) by
    show own (peer S (peer (!S) c)) _ _ _ = _; rw [peer_peer]; rfl)) $$ Hp'
  iapply Hk
  isplitl [Hp]; · unfold pay passed; iexact Hp
  isplitl [Hp']; · iexact Hp'
  isplitl [Ha]; · iexact Ha
  isplitl [H1 H2]
  · rw [show t + 1 + 1 = t + 2 from rfl, par_add_two, show (16 + (t + 2)) / 2 - (t + 2) % 2 = (16 + t) / 2 - t % 2 + 1 by omega]
    isplitl [H2]; · iexact H2
    iexact H1
  iexact HO

/-! ### The gather -/

/-- One ring before step `t`, all but what the steps take and leave. -/
def agAt (S : Bool) (t : ℕ) : sProp 𝕄 := iprop(curH X Wt c S t ∗ sends c S t)
def stepOut (S : Bool) (j : Fin 15) : sProp 𝕄 := iprop(passed X Wt c S j ∗ at_ (agC S j c) 1)

theorem gather_step {t : ℕ} (ht : t < 15) :
    iprop((known X Wt K ∗ owing c (agDues (15 - t) t) ∗ agAt X Wt c true t ∗ agAt X Wt c false t) ∗ (stepIn c true ⟨t, ht⟩ ∗ stepIn c false ⟨t, ht⟩))
      ⊢ run c (gatherStep (wordR c) hw3 (peer false c) (peer true c) t) (fun _ =>
          iprop((known X Wt K ∗ owing c (agDues (15 - (t + 1)) (t + 1)) ∗ agAt X Wt c true (t + 1) ∗ agAt X Wt c false (t + 1))
            ∗ (stepOut X Wt c true ⟨t, ht⟩ ∗ stepOut X Wt c false ⟨t, ht⟩))) := by
  have hl : ∀ j ∈ agDues (15 - (t + 1)) (t + 1), 200 + t < lvl j := fun j hj => lt_of_lt_of_le (by omega) (ag_lvl (15 - (t + 1)) (t + 1) (by omega) j hj)
  unfold gatherStep agAt stepOut
  simp only [agRM_eq c hw3 ht, agLM_eq c hw3 ht, fif_eq ht]
  have e : agDues (15 - t) t = .ag true ⟨t, ht⟩ :: .ag false ⟨t, ht⟩ :: agDues (15 - (t + 1)) (t + 1) := by
    rw [show 15 - t = 15 - (t + 1) + 1 by omega, agDues, fif_eq ht]
  rw [e]
  iintro ⟨⟨#HK, HO, ⟨A1, A2⟩, ⟨B1, B2⟩⟩, ⟨A3, B3⟩⟩
  iapply (run_bind c)
  iapply (send_ag X Wt K c true ht) $$ [A1 A2 A3 HO]
  · isplitr; · iexact HK
    isplitl [A1]; · iexact A1
    isplitl [A3]; · iexact A3
    isplitl [A2]; · iexact A2
    iexact HO
  iintro ⟨A1, A3, A4, A2, HO⟩
  iapply (run_bind c)
  iapply (send_ag X Wt K c false ht) $$ [B1 B2 B3 HO]
  · isplitr; · iexact HK
    isplitl [B1]; · iexact B1
    isplitl [B3]; · iexact B3
    isplitl [B2]; · iexact B2
    iexact HO
  iintro ⟨B1, B3, B4, B2, HO⟩
  rw [← bind_assoc]
  iapply (run_bind c)
  iapply (wait_ag X Wt K c true ht hl) $$ [A1 A2 A3 A4 HO]
  · isplitr; · iexact HK
    isplitl [A1]; · iexact A1
    isplitl [A3]; · iexact A3
    isplitl [A4]; · iexact A4
    isplitl [A2]; · iexact A2
    iexact HO
  iintro ⟨A1, A3, A4, A2, HO⟩
  iapply (wait_ag X Wt K c false ht hl) $$ [B1 B2 B3 B4 HO]
  · isplitr; · iexact HK
    isplitl [B1]; · iexact B1
    isplitl [B3]; · iexact B3
    isplitl [B4]; · iexact B4
    isplitl [B2]; · iexact B2
    iexact HO
  iintro ⟨B1, B3, B4, B2, HO⟩
  isplitl [HO A2 A3 B2 B3]
  · isplitr; · iexact HK
    isplitl [HO]; · iexact HO
    isplitl [A2 A3]
    · isplitl [A3]; · iexact A3
      iexact A2
    isplitl [B3]; · iexact B3
    iexact B2
  isplitl [A1 A4]
  · isplitl [A1]; · iexact A1
    iexact A4
  isplitl [B1]; · iexact B1
  iexact B4

theorem join_ring (S : Bool) : iprop(curH X Wt c S 15 ∗ bigSep Finset.univ (passed X Wt c S)) ⊢ bigSep Finset.univ (fun k : Fin 16 => own c (chunkM S k) fullShare (oH X Wt S k)) := by
  rw [by_pass c S]; exact .rfl

theorem gather_run [∀ e, Nonempty (Elt F e)] {Q : PUnit → sProp 𝕄} :
    iprop(known X Wt K ∗ owing c (agDues 15 0) ∗ own c (blkM (pos c)) fullShare (qC X Wt c) ∗ (sends c true 0 ∗ sends c false 0)
        ∗ bigSep Finset.univ (stepIn (F := F) c true) ∗ bigSep Finset.univ (stepIn (F := F) c false))
      ⊢ iprop((owing c [] ∗ own c outM fullShare (OUT X Wt) ∗ (sends c true 15 ∗ sends c false 15)
            ∗ bigSep Finset.univ (fun j => at_ (F := F) (agC true j c) 1) ∗ bigSep Finset.univ (fun j => at_ (F := F) (agC false j c) 1) -∗ Q ⟨⟩)
          -∗ run c (gather (wordR c) hw3 (peer false c) (peer true c)) Q) := by
  have hs := run_sweep c (f := gatherStep (wordR c) hw3 (peer false c) (peer true c))
    (fun t => iprop(known X Wt K ∗ owing c (agDues (15 - t) t) ∗ agAt X Wt c true t ∗ agAt X Wt c false t))
    (fun j => iprop(stepIn c true j ∗ stepIn c false j)) (fun j => iprop(stepOut X Wt c true j ∗ stepOut X Wt c false j)) (fun t ht => gather_step X Wt K c hw3 ht)
  have e (S : Bool) : (fun x => qC X Wt c ((halfRect S).emb x)) = oH X Wt S (pos c) := by unfold oH; rw [ring_pos]; rfl
  have hblk : own c (blkM (pos c)) fullShare (qC X Wt c) ⊢ iprop(curH X Wt c true 0 ∗ curH X Wt c false 0) :=
    (blk_split c (pos c) (qC X Wt c)).trans (BI.sep_mono (Entails.of_eq (congrArg (own c (chunkM true (pos c)) fullShare) (e true)))
      (Entails.of_eq (congrArg (own c (chunkM false (pos c)) fullShare) (e false))))
  have hjoin : iprop(bigSep Finset.univ (stepIn (F := F) c true) ∗ bigSep Finset.univ (stepIn (F := F) c false)) ⊢ bigSep Finset.univ (fun j => iprop(stepIn (F := F) c true j ∗ stepIn c false j)) :=
    Entails.of_eq (bigSep_sep _ _ _).symm
  have hout := out_join X Wt c
  rw [two_rings] at hout
  unfold gather
  iintro ⟨#HK, HO, Hb, ⟨A2, B2⟩, Hin⟩ Hk
  ihave Hb := hblk $$ Hb
  icases Hb with ⟨A1, B1⟩
  ihave Hin := hjoin $$ Hin
  ihave H := hs $$ [HO A1 A2 B1 B2 Hin]
  · isplitl [HO A1 A2 B1 B2]
    · isplitr; · iexact HK
      isplitl [HO]; · iexact HO
      unfold agAt
      isplitl [A1 A2]
      · isplitl [A1]; · iexact A1
        iexact A2
      isplitl [B1]; · iexact B1
      iexact B2
    iexact Hin
  iapply (wp_wand _ _ _) $$ H
  unfold agAt stepOut
  iintro %_ ⟨⟨-, HO, ⟨A1, A2⟩, ⟨B1, B2⟩⟩, Hout⟩
  ihave Hout := (two_families _ _) $$ Hout
  icases Hout with ⟨A3, B3⟩
  ihave A3 := (two_families _ _) $$ A3
  icases A3 with ⟨A3, A4⟩
  ihave B3 := (two_families _ _) $$ B3
  icases B3 with ⟨B3, B4⟩
  iapply Hk
  isplitl [HO]; · iexact HO
  isplitl [A1 A3 B1 B3]
  · iapply hout
    isplitl [A1 A3]
    · iapply (join_ring X Wt c true)
      isplitl [A1]; · iexact A1
      iexact A3
    iapply (join_ring X Wt c false)
    isplitl [B1]; · iexact B1
    iexact B3
  isplitl [A2 B2]
  · isplitl [A2]; · iexact A2
    iexact B2
  isplitl [A4]; · iexact A4
  iexact B4

end rules

end Cert.KernelIdeal.Proof

end
-- ==== Proof.Device.lean ====
module

public import proofs.«01_k».proof.Proof.Gather

/-! The kernel at any device: what it starts with, what it ends with, and the run from the one to the other. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section bundles
variable (c : Dev nD)

theorem two_join {I : Type} [Fintype I] (Φ Ψ : I → sProp 𝕄) :
    iprop(bigSep Finset.univ Φ ∗ bigSep Finset.univ Ψ) ⊢ bigSep Finset.univ (fun j => iprop(Φ j ∗ Ψ j)) := Entails.of_eq (bigSep_sep _ _ _).symm

/-! ### One ring -/

/-- The cells of one ring, where the device stands at the start. -/
def ringCells0 (S : Bool) : sProp 𝕄 :=
  iprop(at_ (sndC S 0 c) 0 ∗ at_ (sndC S 1 c) 0 ∗ at_ (rcvC S 0 c) 0 ∗ at_ (rcvC S 1 c) 0 ∗ at_ (crdC S c) 0 ∗ bigSep Finset.univ (fun t => at_ (agC S t c) 0))
def ringCellsN (S : Bool) : sProp 𝕄 :=
  iprop(at_ (sndC S 0 c) 16 ∗ at_ (sndC S 1 c) 14 ∗ at_ (rcvC S 0 c) 7 ∗ at_ (rcvC S 1 c) 8 ∗ at_ (crdC S c) 14 ∗ bigSep Finset.univ (fun t => at_ (agC S t c) 1))
/-- The rights and the credits of one ring. -/
def ringToks (S : Bool) : sProp 𝕄 :=
  iprop(toks c S 0 ∗ giveT c S 0 ∗ takeT c S 0 ∗ bigSep Finset.univ (fun t => tok (.agS S t) c) ∗ bigSep Finset.univ (fun t => tok (.ag S t) c)
    ∗ bigSep Finset.univ (fun t => due (.ag S t) (peer (!S) c)))
def slots (S : Bool) : sProp 𝕄 := iprop(ownAny c (slotM (cm S) 0) ∗ ownAny c (slotM (cm S) 1))

/-- What the device lends out of one ring when it signals. -/
def lent (S : Bool) (d e : Dev nD) : sProp 𝕄 := iprop(room S d 0 ∗ bigSep Finset.univ (agRoom S d e))
/-- What it keeps. -/
def kept (S : Bool) : sProp 𝕄 := iprop(ownAny c (slotM (cm S) 0) ∗ ringCells0 c S ∗ ringToks c S)

theorem at_reached (g : GSem nD τ sig) (r : ℕ) : at_ (F := F) g r ⊢ iprop(at_ g r ∗ reached ER g r) := by
  unfold at_
  iintro ⟨H, #Hr⟩
  isplitl [H]
  · isplitl [H]; · iexact H
    iexact Hr
  iexact Hr

theorem ring_lend (S : Bool) : iprop(slots (F := F) c S ∗ ringCells0 c S ∗ ringToks c S ∗ bigSep Finset.univ fun k : Fin 16 => ownAny c (chunkM S k))
    ⊢ iprop(lent S c (peer (!S) c) ∗ kept c S ∗ ownAny c (chunkM S (pos c))) := by
  have hat : bigSep Finset.univ (fun t => at_ (F := F) (agC S t c) 0) ⊢ bigSep Finset.univ (fun t => iprop(at_ (F := F) (agC S t c) 0 ∗ reached ER (agC S t c) 0)) :=
    BI.bigSep_mono fun t _ => at_reached _ _
  have hch := Entails.of_eq (by_get c S (fun k => ownAny (F := F) c (chunkM S k)))
  unfold slots ringCells0 lent kept room agRoom
  iintro ⟨⟨H0, H1⟩, ⟨a1, a2, a3, a4, a5, a6⟩, Ht, Hch⟩
  ihave a4 := (at_reached _ _) $$ a4
  icases a4 with ⟨a4, #r4⟩
  ihave a6 := hat $$ a6
  ihave a6 := (two_families _ _) $$ a6
  icases a6 with ⟨a6, r6⟩
  ihave Hch := hch $$ Hch
  icases Hch with ⟨Hp, Hch⟩
  isplitl [H1 Hch r6]
  · isplitl [H1]
    · isplitl [H1]; · iexact H1
      iexact r4
    iapply (two_join _ _)
    isplitl [Hch]; · iexact Hch
    iexact r6
  isplitr [Hp]
  · isplitl [H0]; · iexact H0
    isplitr [Ht]
    · unfold ringCells0
      isplitl [a1]; · iexact a1
      isplitl [a2]; · iexact a2
      isplitl [a3]; · iexact a3
      isplitl [a4]; · iexact a4
      isplitl [a5]; · iexact a5
      iexact a6
    iexact Ht
  iexact Hp

theorem ring_borrow (S : Bool) : iprop(kept (F := F) c S ∗ lent S (peer S c) c) ⊢ iprop(ring0 c S ∗ bigSep Finset.univ (stepIn (F := F) c S)) := by
  unfold kept lent ringCells0 ringToks ring0 poss credits stepIn
  iintro ⟨⟨H0, ⟨a1, a2, a3, a4, a5, a6⟩, ⟨t1, t2, t3, t4, t5, t6⟩⟩, ⟨l1, l2⟩⟩
  isplitr [a6 t4 t5 t6 l2]
  · isplitl [H0]; · iexact H0
    isplitl [l1]; · iexact l1
    isplitl [a1 a2 a3 a4]
    · isplitl [a1]; · iexact a1
      isplitl [a2]; · iexact a2
      isplitl [a4]; · iexact a4
      iexact a3
    isplitl [t1]; · iexact t1
    isplitl [t2]; · iexact t2
    isplitl [a5]; · iexact a5
    iexact t3
  iapply (two_join _ _)
  isplitl [t4]; · iexact t4
  iapply (two_join _ _)
  isplitl [t5]; · iexact t5
  iapply (two_join _ _)
  isplitl [t6]; · iexact t6
  iapply (two_join _ _)
  isplitl [l2]; · iexact l2
  iexact a6

/-! ### The rows -/

def rowCells0 : sProp 𝕄 := iprop(bigSep Finset.univ (fun j => at_ (amsC j c) 0) ∗ bigSep Finset.univ (fun w => at_ (amwC w c) 0))
def rowCellsN : sProp 𝕄 := iprop(bigSep Finset.univ (fun j => at_ (amsC j c) 1) ∗ at_ (amwC c c) 0 ∗ bigSep Finset.univ (fun j => at_ (amwC (aft c j) c) 1))
def rowToks : sProp 𝕄 :=
  iprop(bigSep Finset.univ (fun j => tok (.amS j) c) ∗ bigSep Finset.univ (fun j => tok (.am j) c) ∗ bigSep Finset.univ (fun i => due (.am i) (bef c i)))
/-- What the device keeps for its messages. -/
def rowKept : sProp 𝕄 := iprop(bigSep Finset.univ (fun j => at_ (amsC j c) 0) ∗ bigSep Finset.univ (fun j => tok (.amS j) c) ∗ bigSep Finset.univ (fun j => tok (.am j) c))

def revE : Fin 15 ≃ Fin 15 := ⟨fun j => rev j.val, fun j => rev j.val, by unfold Function.LeftInverse; decide, by unfold Function.RightInverse Function.LeftInverse; decide⟩
theorem bef_rev (j : Fin 15) : bef c (rev j.val) = aft c j := by revert c j; decide +kernel

theorem dues_back : bigSep Finset.univ (fun i => due (F := F) (.am i) (bef c i)) = bigSep Finset.univ (fun j : Fin 15 => due (.am (rev j.val)) (aft c j)) := by
  refine (bigSep_univ_equiv revE (fun i => due (F := F) (.am i) (bef c i))).trans ?_
  exact bigSep_congr fun j _ => by
    show due (.am (rev j.val)) (bef c (rev j.val)) = _; rw [bef_rev]

theorem rows_split (A : S16x128.Idx → Elt F .f32) : own c amM fullShare A ⊢ bigSep Finset.univ (fun w : Fin 16 => ownAny c (rowW w)) :=
  BIBase.Entails.trans (owns_rects (Dev.tc c : Thread nD τ) amM fullShare rowRectW (fun _ _ => rfl) rows_disjoint (cover_of rows_cover) A)
    (BI.bigSep_mono fun w _ => any_of c (rowW w))

theorem row_lend : iprop(ownAny (F := F) c amM ∗ rowCells0 c ∗ rowToks c)
    ⊢ iprop(ownAny c (rowW c) ∗ rows c 0 ∗ at_ (amwC c c) 0 ∗ bigSep Finset.univ (awaited (F := F) c) ∗ rowKept c) := by
  have hat : bigSep Finset.univ (fun j : Fin 15 => at_ (F := F) (amwC (aft c j) c) 0)
      ⊢ bigSep Finset.univ (fun j : Fin 15 => iprop(at_ (F := F) (amwC (aft c j) c) 0 ∗ reached ER (amwC (aft c j) c) 0)) :=
    BI.bigSep_mono fun t _ => at_reached _ _
  have h1 := Entails.of_eq (all_devices c (fun w => at_ (F := F) (amwC w c) 0))
  have h2 := Entails.of_eq (all_devices c (fun w => ownAny (F := F) c (rowW w)))
  rw [← rows_zero c]
  unfold rowCells0 rowToks rowKept awaited rowRoom
  iintro ⟨⟨%A, Ha⟩, ⟨a1, a2⟩, ⟨t1, t2, t3⟩⟩
  ihave Ha := (rows_split c A) $$ Ha
  ihave Ha := h2 $$ Ha
  icases Ha with ⟨Hc, Ha⟩
  ihave a2 := h1 $$ a2
  icases a2 with ⟨ac, a2⟩
  ihave a2 := hat $$ a2
  ihave a2 := (two_families _ _) $$ a2
  icases a2 with ⟨a2, r2⟩
  ihave t3 := (Entails.of_eq (dues_back c)) $$ t3
  isplitl [Hc]; · iexact Hc
  isplitl [Ha r2]
  · iapply (two_join _ _)
    isplitl [Ha]; · iexact Ha
    iexact r2
  isplitl [ac]; · iexact ac
  isplitl [a2 t3]
  · iapply (two_join _ _)
    isplitl [a2]; · iexact a2
    iexact t3
  isplitl [a1]; · iexact a1
  isplitl [t1]; · iexact t1
  iexact t2

theorem row_borrow : iprop(rowKept (F := F) c ∗ got c 15) ⊢ bigSep Finset.univ (toSend (F := F) c) := by
  rw [got_all c]
  unfold rowKept toSend
  iintro ⟨⟨a1, t1, t2⟩, Hg⟩
  iapply (two_join _ _)
  isplitl [a1]; · iexact a1
  iapply (two_join _ _)
  isplitl [t1]; · iexact t1
  iapply (two_join _ _)
  isplitl [t2]; · iexact t2
  iexact Hg

end bundles

section rules
variable (X : Dev nD → Vec F S4096x256 .bf16) (Wt : Dev nD → Vec F S256x8192 .bf16) (K : GSem nD τ sig → ℕ) (c : Dev nD) (hw3 : k0_chk3 (wordR c))

/-! ### The barrier -/

theorem signal_bar (S : Bool) {l : List Due} {Q : PUnit → sProp 𝕄} :
    iprop(known X Wt K ∗ owing c (.bar (!S) :: l) ∗ tok (.bar (!S)) c ∗ lent S c (peer (!S) c) ∗ reached ER (barC (peer (!S) c)) 0)
      ⊢ iprop((owing c l -∗ Q ⟨⟩) -∗ run c (.op (.semSignal (Dev.tc (peer (!S) c)) (sig.barrier 0 rfl) 1) .ret) Q) := by
  have e : lent (F := F) S c (peer (!S) c) = pay X Wt (.bar (!S)) c := by
    show _ = iprop(room (!!S) c 0 ∗ bigSep Finset.univ (agRoom (!!S) c (peer (!S) c))); rw [Bool.not_not]; rfl
  rw [e]
  iintro ⟨#HK, HO, Ht, Hp, Hr⟩ Hk
  iapply (pay_signal X Wt K c (.bar (!S)) (d := peer (!S) c) (s := sig.barrier 0 rfl) rfl rfl) $$ [HO Ht Hp Hr]
  · isplitr; · iexact HK
    isplitl [HO]; · iexact HO
    isplitl [Ht]; · iexact Ht
    isplitl [Hp]; · iexact Hp
    iexact Hr
  iintro HO
  iapply (run_pure c)
  iapply Hk; iexact HO

theorem pay_bar (S : Bool) : pay X Wt (.bar (!S)) (peer S c) = lent S (peer S c) c := by
  show iprop(room (!!S) (peer S c) 0 ∗ bigSep Finset.univ (agRoom (!!S) (peer S c) (peer (!S) (peer S c)))) = _
  rw [Bool.not_not, peer_peer']; rfl

/-! ### The whole -/

/-- The dues of a device, in the order it pays them. -/
def allDues : List Due := .bar false :: .bar true :: rsDues 14 0

/-- The rest of the scratch memory, and the result. -/
def plain : sProp 𝕄 := iprop(ownAny c yM ∗ ownAny c stM ∗ ownAny c amM)

/-- The cells of a device, where it stands at the start and at the end. -/
def cells0 : sProp 𝕄 := iprop((ringCells0 c true ∗ ringCells0 c false) ∗ rowCells0 c ∗ at_ (cpC c) 0)
def cellsN : sProp 𝕄 := iprop((ringCellsN c true ∗ ringCellsN c false) ∗ rowCellsN c ∗ at_ (cpC c) 1)
/-- The rights to pay its dues, and the credits of those it awaits. -/
def rights : sProp 𝕄 :=
  iprop((ringToks c true ∗ ringToks c false) ∗ rowToks c ∗ tok .cp c ∗ (tok (.bar true) c ∗ tok (.bar false) c) ∗ cred (tallyAt (barC c) 1 2))
/-- The neighbours' barrier cells have been opened. -/
def nearBars : sProp 𝕄 := iprop(reached ER (barC (peer true c)) 0 ∗ reached ER (barC (peer false c)) 0)

/-- The end of the ring state, and the start of the gather's. -/
theorem ring_end (S : Bool) : ringN X Wt c S ⊢ iprop(ownAny c (slotM (cm S) 0) ∗ slotH X Wt c S 15 ∗ sends c S 0 ∗ (at_ (rcvC S 0 c) 7 ∗ at_ (rcvC S 1 c) 8 ∗ at_ (crdC S c) 14)) := by
  unfold ringN poss sends
  iintro ⟨H0, H1, ⟨a1, a2, a3, a4⟩, a5⟩
  isplitl [H0]; · iexists _; iexact H0
  isplitl [H1]; · iexact H1
  isplitl [a1 a2]
  · isplitl [a2]; · iexact a2
    iexact a1
  isplitl [a3]; · iexact a3
  isplitl [a4]; · iexact a4
  iexact a5

theorem cells_end (S : Bool) : iprop(sends (F := F) c S 15 ∗ (at_ (rcvC S 0 c) 7 ∗ at_ (rcvC S 1 c) 8 ∗ at_ (crdC S c) 14) ∗ bigSep Finset.univ (fun t => at_ (agC S t c) 1)) ⊢ ringCellsN c S := by
  unfold sends ringCellsN
  iintro ⟨⟨a1, a2⟩, ⟨a3, a4, a5⟩, a6⟩
  isplitl [a2]; · iexact a2
  isplitl [a1]; · iexact a1
  isplitl [a3]; · iexact a3
  isplitl [a4]; · iexact a4
  isplitl [a5]; · iexact a5
  iexact a6

theorem slots_end (S : Bool) : iprop(ownAny c (slotM (cm S) 0) ∗ slotH X Wt c S 15) ⊢ slots c S := by
  unfold slots
  rw [slotH_succ]
  iintro ⟨H0, H1⟩
  isplitl [H0]; · iexact H0
  iexists _; iexact H1

theorem run_rest [∀ e, Nonempty (Elt F e)] {Q : PUnit → sProp 𝕄} :
    iprop(known X Wt K ∗ ins X Wt c ∗ owing c allDues ∗ (slots c true ∗ slots c false) ∗ plain c ∗ ownAny c outM ∗ cells0 c ∗ at_ (barC c) 0 ∗ rights c ∗ nearBars c)
      ⊢ iprop((ins X Wt c ∗ owing c [] ∗ (slots c true ∗ slots c false) ∗ plain c ∗ own c outM fullShare (OUT X Wt) ∗ cellsN c ∗ atPos ER (barC c) 1 ∅ 0 -∗ Q ⟨⟩)
          -∗ run c (bodyRest (wordR c) hw3 (peer false c) (peer true c) c) Q) := by
  have hsplit : ownAny (F := F) c outM ⊢ iprop((bigSep Finset.univ fun k : Fin 16 => ownAny c (chunkM true k)) ∗ (bigSep Finset.univ fun k : Fin 16 => ownAny c (chunkM false k))) := by
    iintro ⟨%A, H⟩
    ihave H := (out_split c A) $$ H
    ihave H := (Entails.of_eq (two_rings _)) $$ H
    iexact H
  have hb : at_ (F := F) (barC c) 0 ⊢ atPos ER (barC c) 0 ∅ 0 := by unfold at_; iintro ⟨H, -⟩; iexact H
  unfold bodyRest plain cells0 rights nearBars allDues
  iintro ⟨#HK, Hin, HO, ⟨As, Bs⟩, ⟨Hy, Hst, Ham⟩, Hout, ⟨⟨Ac, Bc⟩, Rc, Hcp⟩, Hbar, ⟨⟨At, Bt⟩, Rt, Hcpt, ⟨Bt1, Bt2⟩, Hcb⟩, ⟨#Nb1, #Nb2⟩⟩ Hk
  ihave Hout := hsplit $$ Hout
  icases Hout with ⟨Ach, Bch⟩
  ihave A := (ring_lend c true) $$ [As Ac At Ach]
  · isplitl [As]; · iexact As
    isplitl [Ac]; · iexact Ac
    isplitl [At]; · iexact At
    iexact Ach
  ihave B := (ring_lend c false) $$ [Bs Bc Bt Bch]
  · isplitl [Bs]; · iexact Bs
    isplitl [Bc]; · iexact Bc
    isplitl [Bt]; · iexact Bt
    iexact Bch
  ihave R := (row_lend c) $$ [Ham Rc Rt]
  · isplitl [Ham]; · iexact Ham
    isplitl [Rc]; · iexact Rc
    iexact Rt
  icases A with ⟨Al, Ak, Ap⟩
  icases B with ⟨Bl, Bk, Bp⟩
  icases R with ⟨Rown, Rrows, Rc, Raw, Rk⟩
  -- the barrier
  iapply (run_bind c)
  iapply (signal_bar X Wt K c true (l := .bar true :: rsDues 14 0)) $$ [HO Bt2 Al]
  · isplitr; · iexact HK
    isplitl [HO]; · iexact HO
    isplitl [Bt2]; · iexact Bt2
    isplitl [Al]; · iexact Al
    iexact Nb2
  iintro HO
  iapply (run_bind c)
  iapply (signal_bar X Wt K c false (l := rsDues 14 0)) $$ [HO Bt1 Bl]
  · isplitr; · iexact HK
    isplitl [HO]; · iexact HO
    isplitl [Bt1]; · iexact Bt1
    isplitl [Bl]; · iexact Bl
    iexact Nb1
  iintro HO
  ihave Hbar := hb $$ Hbar
  iapply (run_bind c)
  iapply (take_bar X Wt K c (l := rsDues 14 0) (fun j hj => lt_of_lt_of_le (by omega) (rs_lvl _ _ (by omega) j hj))) $$ [Hcb HO Hbar]
  · isplitr; · iexact HK
    isplitl [Hcb]; · iexact Hcb
    isplitl [HO]; · iexact HO
    iexact Hbar
  iintro ⟨HO, Hbar, Bl, Al⟩
  iapply (run_pure c)
  have eA : pay X Wt (.bar false) (peer true c) = lent true (peer true c) c := pay_bar X Wt c true
  have eB : pay X Wt (.bar true) (peer false c) = lent false (peer false c) c := pay_bar X Wt c false
  ihave Al := (Entails.of_eq eA) $$ Al
  ihave Bl := (Entails.of_eq eB) $$ Bl
  ihave A := (ring_borrow c true) $$ [Ak Al]
  · isplitl [Ak]; · iexact Ak
    iexact Al
  ihave B := (ring_borrow c false) $$ [Bk Bl]
  · isplitl [Bk]; · iexact Bk
    iexact Bl
  icases A with ⟨A0, Ast⟩
  icases B with ⟨B0, Bst⟩
  -- the reduce-scatter
  iapply (run_bind c)
  iapply (reduce_scatter X Wt K c hw3) $$ [Hin HO Rrows A0 B0]
  · isplitr; · iexact HK
    isplitl [Hin]; · iexact Hin
    isplitl [HO]; · iexact HO
    isplitl [Rrows]
    · isplitl [Rrows]; · iexact Rrows
      unfold got
      rw [Ring.bigSep_rangeSet_empty (NB := 15) (le_refl 0)]
      iempintro
    isplitl [A0]; · iexact A0
    iexact B0
  iintro ⟨Hin, HO, Hgot, A, B⟩
  ihave A := (ring_end X Wt c true) $$ A
  ihave B := (ring_end X Wt c false) $$ B
  icases A with ⟨A0, A1, As, Ac⟩
  icases B with ⟨B0, B1, Bs, Bc⟩
  -- the chunk and its maximum
  iapply (run_bind c)
  iapply (store_halves X Wt c hw3) $$ [Hin A1 B1 Hy]
  · isplitl [Hin]; · iexact Hin
    isplitl [A1]; · iexact A1
    isplitl [B1]; · iexact B1
    iexact Hy
  iintro ⟨Hin, A1, B1, Hy⟩
  iapply (run_bind c)
  iapply (store_max X Wt c) $$ [Hy Rown]
  · isplitl [Hy]; · iexact Hy
    iexact Rown
  iintro ⟨Hy, Rown⟩
  ihave Rk := (row_borrow c) $$ [Rk Hgot]
  · isplitl [Rk]; · iexact Rk
    iexact Hgot
  iapply (run_bind c)
  iapply (exchange_max X Wt K c) $$ [HO Rown Rk Raw]
  · isplitr; · iexact HK
    isplitl [HO]; · iexact HO
    isplitl [Rown]; · iexact Rown
    isplitl [Rk]; · iexact Rk
    iexact Raw
  iintro ⟨HO, Ham, R1, R2⟩
  -- the quantised chunk
  iapply (run_bind c)
  iapply (quantise_run X Wt c) $$ [Ham Hy Hst]
  · isplitl [Ham]; · iexact Ham
    isplitl [Hy]; · iexact Hy
    iexact Hst
  iintro ⟨Ham, Hy, Hst⟩
  iapply (run_bind c)
  iapply (copy_out X Wt K c hw3) $$ [HO Hst Ap Bp Hcp Hcpt]
  · isplitr; · iexact HK
    isplitl [HO]; · iexact HO
    isplitl [Hst]; · iexact Hst
    isplitl [Ap Bp]
    · iapply (blk_join c (pos c))
      isplitl [Ap]; · iexact Ap
      iexact Bp
    isplitl [Hcp]; · iexact Hcp
    iexact Hcpt
  iintro ⟨HO, Hst, Hblk, Hcp⟩
  -- the gather
  iapply (gather_run X Wt K c hw3) $$ [HO Hblk As Bs Ast Bst]
  · isplitr; · iexact HK
    isplitl [HO]; · iexact HO
    isplitl [Hblk]; · iexact Hblk
    isplitl [As Bs]
    · isplitl [As]; · iexact As
      iexact Bs
    isplitl [Ast]; · iexact Ast
    iexact Bst
  iintro ⟨HO, Hout, ⟨As, Bs⟩, Ag, Bg⟩
  iapply Hk
  isplitl [Hin]; · iexact Hin
  isplitl [HO]; · iexact HO
  isplitl [A0 A1 B0 B1]
  · isplitl [A0 A1]
    · iapply (slots_end X Wt c true)
      isplitl [A0]; · iexact A0
      iexact A1
    iapply (slots_end X Wt c false)
    isplitl [B0]; · iexact B0
    iexact B1
  isplitl [Hy Hst Ham]
  · isplitl [Hy]; · iexists _; iexact Hy
    isplitl [Hst]; · iexists _; iexact Hst
    iexists _; iexact Ham
  isplitl [Hout]; · iexact Hout
  unfold cellsN rowCellsN
  isplitr [Hbar]; rotate_left; · iexact Hbar
  isplitl [As Ac Ag Bs Bc Bg]
  · isplitl [As Ac Ag]
    · iapply (cells_end c true)
      isplitl [As]; · iexact As
      isplitl [Ac]; · iexact Ac
      iexact Ag
    iapply (cells_end c false)
    isplitl [Bs]; · iexact Bs
    isplitl [Bc]; · iexact Bc
    iexact Bg
  isplitl [R1 Rc R2]
  · isplitl [R1]; · iexact R1
    isplitl [Rc]; · iexact Rc
    iexact R2
  iexact Hcp

end rules

end Cert.KernelIdeal.Proof

end
-- ==== Proof.Whole.lean ====
module

public import proofs.«01_k».proof.Proof.Device

/-! The whole kernel at any device: it reads its place in the ring and its two neighbours, and goes round. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What a device is told: its place in the ring, the device before it and the device after it. -/
def metaOf (c : Dev nD) : S3.Idx → BitVec 32 := fun i => (![wordR c, wordOf (prv c), wordOf (nxt c)] : Fin 3 → BitVec 32) (i 0)

section whole
variable (c : Dev nD)

/-- Reading one word. -/
theorem run_word (r : Rect S3) (h1 : r.shape.numel = 1) {q : PosShare TreeShare} {A : S3.Idx → BitVec 32} {v : BitVec 32}
    (hv : A (r.emb (Shape.Idx.first (h1.symm ▸ Nat.one_pos))) = v) {Q : BitVec 32 → sProp 𝕄} :
    own (F := F) c metaM q A ⊢ iprop((own (F := F) c metaM q A -∗ Q v) -∗ run c (smemLoad metaM r h1 rfl : KProg F (Elt F .i32)) Q) := by
  subst hv
  unfold smemLoad smemLoadElt
  iintro H Hk
  iapply (own_load c metaM r (A := A) (k := fun f => (.ret (f _) : KProg F (Elt F .i32)))) $$ H
  iintro H
  iapply (run_pure c)
  iapply Hk
  iexact H

theorem run_assume {P : Prop} {d : Decidable P} (h : P) {Q : PLift P → sProp 𝕄} :
    Q ⟨h⟩ ⊢ run c (Prog.lift (TpuEff.assume P d) : KProg F (PLift P)) Q :=
  BIBase.Entails.trans (run_pure (F := F) c) (wp_assume 𝒱₀ (Dev.tc c) none Set.univ h)

theorem run_deviceId {Q : Dev nD → sProp 𝕄} : Q c ⊢ run c (Prog.lift .deviceId : KProg F (Dev nD)) Q := by
  refine BIBase.Entails.trans (run_pure (F := F) c) (Entails.of_eq ?_)
  exact (wp_deviceId 𝒱₀ (Dev.tc c) none Set.univ).symm

variable (X : Dev nD → S4096x256.Idx → Elt F .bf16) (Wt : Dev nD → S256x8192.Idx → Elt F .bf16) (K : GSem nD τ sig → ℕ)

/-- What the kernel holds when it starts, besides its inputs and its place. -/
def before : sProp 𝕄 :=
  iprop(owing c allDues ∗ (slots c true ∗ slots c false) ∗ plain c ∗ ownAny c outM ∗ cells0 c ∗ at_ (barC c) 0 ∗ rights c ∗ nearBars c)
/-- What it holds when it ends: the result in full. -/
def done : sProp 𝕄 :=
  iprop(owing c [] ∗ (slots c true ∗ slots c false) ∗ plain c ∗ own c outM fullShare (OUT X Wt) ∗ cellsN c ∗ atPos ER (barC c) 1 ∅ 0)

theorem run_body [∀ e, Nonempty (Elt F e)] {Q : PUnit → sProp 𝕄} :
    iprop(known X Wt K ∗ own (F := F) c metaM fullShare (metaOf c) ∗ ins X Wt c ∗ before c)
      ⊢ iprop((own (F := F) c metaM fullShare (metaOf c) ∗ ins X Wt c ∗ done c X Wt -∗ Q ⟨⟩) -∗ run c body Q) := by
  unfold body before
  iintro ⟨#HK, Hm, Hin, HO, Hs, Hp, Hout, Hc, Hb, Hr, Hn⟩ Hk
  iapply (run_bind c)
  iapply (run_word c _ _ (v := wordR c) rfl) $$ Hm
  iintro Hm
  iapply (run_bind c)
  iapply (run_assume c (chk3 c))
  iapply (run_bind c)
  iapply (run_word c _ _ (v := wordOf (prv c)) rfl) $$ Hm
  iintro Hm
  iapply (run_bind c)
  iapply (run_assume c (chk1 (prv c)))
  iapply (run_bind c)
  iapply (run_word c _ _ (v := wordOf (nxt c)) rfl) $$ Hm
  iintro Hm
  iapply (run_bind c)
  iapply (run_assume c (chk2 (nxt c)))
  iapply (run_bind c)
  iapply (run_deviceId c)
  rw [dev1_eq c, dev2_eq c]
  iapply (run_rest c (X := X) (Wt := Wt) (K := K)) $$ [Hin HO Hs Hp Hout Hc Hb Hr Hn]
  · isplitr; · iexact HK
    isplitl [Hin]; · iexact Hin
    isplitl [HO]; · iexact HO
    isplitl [Hs]; · iexact Hs
    isplitl [Hp]; · iexact Hp
    isplitl [Hout]; · iexact Hout
    isplitl [Hc]; · iexact Hc
    isplitl [Hb]; · iexact Hb
    isplitl [Hr]; · iexact Hr
    iexact Hn
  iintro ⟨Hin, Hd⟩
  iapply Hk
  isplitl [Hm]; · iexact Hm
  isplitl [Hin]; · iexact Hin
  unfold done
  iexact Hd

end whole

end Cert.KernelIdeal.Proof

end
-- ==== Proof.Told.lean ====
module

public import proofs.«01_k».proof.Proof.Whole
public import proofs.«01_k».proof.Proof.Gen.KernelIdeal.Regions
public import Idealize.ShloMosaic.Lib.StableHlo
public import Idealize.ShloMosaic.Lib.StableHlo.ReadAt

/-! What the host tells each device: its place in the ring, the device before it and the device after it. -/

@[expose] public section

set_option Elab.async false

noncomputable section

namespace Cert.KernelIdeal.Proof

open Idealize.ShloMosaic Idealize.ShloMosaic.TcCoe Cert.KernelIdeal.Gen
open Idealize.SL Idealize.SL.RA Idealize.SL.BI
open scoped Idealize.SL.BI
open Idealize.ShloMosaic.StableHlo (after)

variable {F : FTy → Type} [FloatOps F]

/-! ### The words -/

theorem word_id : ∀ c : Dev nD, ∀ x : S_.Idx, Scalar.select
      (IntOp.cmpi CmpIPredicate.slt (Host.remui (Host.divui (constantI S_ 32 c.word) (constantI S_ 32 1#32)) (constantI S_ 32 16#32) x) 0#32)
      (IntOp.addi (Host.remui (Host.divui (constantI S_ 32 c.word) (constantI S_ 32 1#32)) (constantI S_ 32 16#32) x) 16#32)
      (Host.remui (Host.divui (constantI S_ 32 c.word) (constantI S_ 32 1#32)) (constantI S_ 32 16#32) x) = wordOf c := by
  decide +kernel
theorem word_next : ∀ c : Dev nD, Scalar.select
      (IntOp.cmpi CmpIPredicate.slt (IntOp.remsi ArithUnit.host (IntOp.addi (wordR c) 1#32) 16#32) 0#32)
      (IntOp.addi (IntOp.remsi ArithUnit.host (IntOp.addi (wordR c) 1#32) 16#32) 16#32)
      (IntOp.remsi ArithUnit.host (IntOp.addi (wordR c) 1#32) 16#32) = wordR (nxt c) := by
  decide +kernel
theorem word_prev : ∀ c : Dev nD, Scalar.select
      (IntOp.cmpi CmpIPredicate.slt (IntOp.remsi ArithUnit.host (IntOp.subi (IntOp.addi (wordR c) 16#32) 1#32) 16#32) 0#32)
      (IntOp.addi (IntOp.remsi ArithUnit.host (IntOp.subi (IntOp.addi (wordR c) 16#32) 1#32) 16#32) 16#32)
      (IntOp.remsi ArithUnit.host (IntOp.subi (IntOp.addi (wordR c) 16#32) 1#32) 16#32) = wordR (prv c) := by
  decide +kernel
/-- The entry of a table at the position a device's number gives. -/
theorem pick_place : ∀ c : Dev nD, ∀ x : S_.Idx,
    shapeCast S_ (Host.dynamicSlice S1 (fun i => lit1 (S16.rowMajor i)) (fun _ => (wordOf c).toInt) sliceFits_S16_S1) shapeCasts_S1_S_ x = wordR c := by
  decide +kernel
/-- The entry of a table at the position a place in the ring gives. -/
theorem pick_device : ∀ c : Dev nD, ∀ x : S_.Idx,
    shapeCast S_ (Host.dynamicSlice S1 (fun i => lit0 (S16.rowMajor i)) (fun _ => (wordR c).toInt) sliceFits_S16_S1) shapeCasts_S1_S_ x = wordOf c := by
  decide +kernel

/-! ### The operations, a few at a time -/

section pieces
variable (c : Dev nD) (V : Valuation τ sig (Elt F))

/-- `k` of the host's operations, from the `n`-th on. -/
abbrev piece (n k : ℕ) : List (HloOp τ sig (Elt F)) := ((hostOps0 c).drop n).take k

theorem piece_keep (n k : ℕ) {r : Ref sig .tc} (h : r ∉ (hostOps0_W.drop n).take k) : after (piece c n k) V (Proc.devRef .tc r) = V (Proc.devRef .tc r) := by
  refine StableHlo.after_unwritten ((hostOps0_W.drop n).take k) ?_ h V
  rw [List.map_take, List.map_drop, List.map_take, List.map_drop]; rfl

theorem piece_tables : (after (piece c 0 13) V main_c_0 : S16.Idx → BitVec 32) = (fun i => lit1 (S16.rowMajor i))
    ∧ (after (piece c 0 13) V main_c : S16.Idx → BitVec 32) = fun i => lit0 (S16.rowMajor i) := by
  dsimp only [piece, hostOps0, List.drop, List.take]
  constructor
  · after_results_simp; rfl
  · after_results_simp; rfl

theorem piece_id : (after (piece c 0 13) V main_v7 : S_.Idx → BitVec 32) = fun _ => wordOf c := by
  funext x
  dsimp only [piece, hostOps0, List.drop, List.take]
  after_reads_at
  exact word_id c x

theorem piece_place (h7 : (V main_v7 : S_.Idx → BitVec 32) = fun _ => wordOf c) (h0 : (V main_c_0 : S16.Idx → BitVec 32) = fun i => lit1 (S16.rowMajor i)) :
    (after (piece c 13 2) V main_v9 : S_.Idx → BitVec 32) = fun _ => wordR c := by
  funext x
  dsimp only [piece, hostOps0, List.drop, List.take]
  after_results_simp
  rw [h0]
  refine Eq.trans ?_ (pick_place c x)
  congr 2
  funext k
  fin_cases k
  exact congrArg (fun f : S_.Idx → BitVec 32 => (f (Shape.Idx.first h_S_)).toInt) h7

theorem piece_next (h9 : (V main_v9 : S_.Idx → BitVec 32) = fun _ => wordR c) : (after (piece c 15 9) V main_v14 : S_.Idx → BitVec 32) = fun _ => wordR (nxt c) := by
  funext x
  dsimp only [piece, hostOps0, List.drop, List.take]
  after_reads_at
  rw [h9]
  exact word_next c

theorem piece_nextDev (h : (V main_v14 : S_.Idx → BitVec 32) = fun _ => wordR (nxt c)) (h0 : (V main_c : S16.Idx → BitVec 32) = fun i => lit0 (S16.rowMajor i)) :
    (after (piece c 24 2) V main_v16 : S_.Idx → BitVec 32) = fun _ => wordOf (nxt c) := by
  funext x
  dsimp only [piece, hostOps0, List.drop, List.take]
  after_results_simp
  rw [h0]
  refine Eq.trans ?_ (pick_device (nxt c) x)
  congr 2
  funext k
  fin_cases k
  exact congrArg (fun f : S_.Idx → BitVec 32 => (f (Shape.Idx.first h_S_)).toInt) h

theorem piece_prev (h9 : (V main_v9 : S_.Idx → BitVec 32) = fun _ => wordR c) : (after (piece c 26 11) V main_v22 : S_.Idx → BitVec 32) = fun _ => wordR (prv c) := by
  funext x
  dsimp only [piece, hostOps0, List.drop, List.take]
  after_reads_at
  rw [h9]
  exact word_prev c

theorem piece_prevDev (h : (V main_v22 : S_.Idx → BitVec 32) = fun _ => wordR (prv c)) (h0 : (V main_c : S16.Idx → BitVec 32) = fun i => lit0 (S16.rowMajor i)) :
    (after (piece c 37 2) V main_v24 : S_.Idx → BitVec 32) = fun _ => wordOf (prv c) := by
  funext x
  dsimp only [piece, hostOps0, List.drop, List.take]
  after_results_simp
  rw [h0]
  refine Eq.trans ?_ (pick_device (prv c) x)
  congr 2
  funext k
  fin_cases k
  exact congrArg (fun f : S_.Idx → BitVec 32 => (f (Shape.Idx.first h_S_)).toInt) h

theorem piece_meta (h9 : (V main_v9 : S_.Idx → BitVec 32) = fun _ => wordR c) (h24 : (V main_v24 : S_.Idx → BitVec 32) = fun _ => wordOf (prv c))
    (h16 : (V main_v16 : S_.Idx → BitVec 32) = fun _ => wordOf (nxt c)) : (after (piece c 39 4) V main_v28 : S3.Idx → BitVec 32) = metaOf c := by
  funext i
  dsimp only [piece, hostOps0, List.drop, List.take]
  after_reads_at
  unfold StableHlo.upto
  dsimp only [List.take]
  after_results_simp
  rw [h9, h24, h16]
  have hi : (i 0).val < 3 := (i 0).isLt
  unfold metaOf
  split
  · exact (congrArg (![wordR c, wordOf (prv c), wordOf (nxt c)] : Fin 3 → BitVec 32) (show i 0 = (0 : Fin 3) from Fin.ext (by show (i 0).val = 0; omega))).symm
  · split
    · exact (congrArg (![wordR c, wordOf (prv c), wordOf (nxt c)] : Fin 3 → BitVec 32) (show i 0 = (1 : Fin 3) from Fin.ext (by show (i 0).val = 1; omega))).symm
    · exact (congrArg (![wordR c, wordOf (prv c), wordOf (nxt c)] : Fin 3 → BitVec 32) (show i 0 = (2 : Fin 3) from Fin.ext (by show (i 0).val = 2; omega))).symm

variable (m : (ℓ : Loc nD τ sig) → Buf (Elt F) ℓ)

theorem meta_eq : (V1 m c main_v28 : S3.Idx → BitVec 32) = metaOf c := by
  let P0 := after (piece c 0 13) (V0 m c)
  let P1 := after (piece c 13 2) P0
  let P2 := after (piece c 15 9) P1
  let P3 := after (piece c 24 2) P2
  let P4 := after (piece c 26 11) P3
  let P5 := after (piece c 37 2) P4
  have e : V1 m c = after (piece c 39 4) P5 := rfl
  have t := piece_tables c (V0 m c)
  have h9 : (P1 main_v9 : S_.Idx → BitVec 32) = fun _ => wordR c := piece_place c P0 (piece_id c _) t.1
  have tc1 : (P1 main_c : S16.Idx → BitVec 32) = fun i => lit0 (S16.rowMajor i) := (piece_keep c P0 13 2 (by decide)).trans t.2
  have h14 := piece_next c P1 h9
  have tc2 : (P2 main_c : S16.Idx → BitVec 32) = fun i => lit0 (S16.rowMajor i) := (piece_keep c P1 15 9 (by decide)).trans tc1
  have h9' : (P3 main_v9 : S_.Idx → BitVec 32) = fun _ => wordR c :=
    (piece_keep c P2 24 2 (by decide)).trans ((piece_keep c P1 15 9 (by decide)).trans h9)
  have h16 := piece_nextDev c P2 h14 tc2
  have tc4 : (P4 main_c : S16.Idx → BitVec 32) = fun i => lit0 (S16.rowMajor i) :=
    (piece_keep c P3 26 11 (by decide)).trans ((piece_keep c P2 24 2 (by decide)).trans tc2)
  have h24 := piece_prevDev c P4 (piece_prev c P3 h9') tc4
  rw [e]
  exact piece_meta c P5 ((piece_keep c P4 37 2 (by decide)).trans ((piece_keep c P3 26 11 (by decide)).trans h9')) h24
    ((piece_keep c P4 37 2 (by decide)).trans ((piece_keep c P3 26 11 (by decide)).trans h16))

end pieces

end Cert.KernelIdeal.Proof

end
-- ==== Proof.Cells.lean ====
module

public import proofs.«01_k».proof.Proof.Device

/-! The semaphores a device owns, and the dues, each split into the groups the kernel uses them in; every cell opened at the start and closed
   at the end, when no due lands on it any more; the credit of a launch, dealt to the devices that await it. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The semaphores of the kernel -/

/-- The semaphores that live as long as the kernel runs. -/
inductive Own : Type
  | snd (S : Bool) (b : Fin 2)
  | rcv (S : Bool) (b : Fin 2)
  | crd (S : Bool)
  | ag (S : Bool) (t : Fin 15)
  | amS (i : Fin 15)
  | am (w : Fin 16)
  | cp
  deriving DecidableEq, Fintype

def osem : Own → SemLoc sig
  | .snd S b => .dma (sem2 (sS S) b)
  | .rcv S b => .dma (sem2 (rS S) b)
  | .crd S => .reg (cS S)
  | .ag S t => .dma (sem15 (gS S) t)
  | .amS i => .dma (sem15 cc0_scratch11 i)
  | .am w => .dma (amC w)
  | .cp => .dma cc0_scratch13.sem

abbrev oc (k : Own) (c : Dev nD) : GSem nD τ sig := (Dev.tc c, osem k)

/-- The round in which a cell is when its device is done. -/
def lastRd (c : Dev nD) : Own → ℕ
  | .snd _ b => 16 - 2 * b.val
  | .rcv _ b => 7 + b.val
  | .crd _ => 14
  | .am w => if w = c then 0 else 1
  | _ => 1

/-- The number of a semaphore. -/
def ocode : Own → ℕ
  | .snd true b => 3 + b.val
  | .snd false b => 5 + b.val
  | .rcv true b => 7 + b.val
  | .rcv false b => 9 + b.val
  | .crd true => 100
  | .crd false => 101
  | .ag true t => 11 + t.val
  | .ag false t => 26 + t.val
  | .amS i => 41 + i.val
  | .am w => 56 + w.val
  | .cp => 72

theorem num_osem (k : Own) : num (osem k) = ocode k := by
  cases k with
  | snd S b => cases S; exacts [(num_sem2 _).2.1, (num_sem2 _).1]
  | rcv S b => cases S; exacts [(num_sem2 _).2.2.2, (num_sem2 _).2.2.1]
  | crd S => cases S <;> rfl
  | ag S t => cases S; exacts [(num_sem15 _).2.1, (num_sem15 _).1]
  | amS i => exact (num_sem15 i).2.2
  | am w => rfl
  | cp => rfl

theorem osem_inj : Function.Injective osem := by
  intro i j h
  have h : ocode i = ocode j := by rw [← num_osem, ← num_osem, h]
  rcases i with ⟨S, b⟩ | ⟨S, b⟩ | S | ⟨S, b⟩ | b | b | _ <;> try cases S
  all_goals rcases j with ⟨S, b'⟩ | ⟨S, b'⟩ | S | ⟨S, b'⟩ | b' | b' | _ <;> try cases S
  all_goals simp only [ocode] at h
  all_goals first
    | rfl
    | (exfalso; omega)
    | (obtain rfl : b = b' := Fin.ext (by omega); rfl)

theorem osem_facts : Pipeline.OwnSemFacts spec0 osem where
  isScoped := by decide +kernel
  inj := osem_inj
  disj k w s h := by
    have h : ocode k = num (.dma ((spec0 w).sem s)) := by rw [← num_osem, h]
    have h2 : ∀ (w : Fin 3) (s : Fin (spec0 w).nbuf), num (.dma ((spec0 w).sem s)) < 3 := by decide +kernel
    have h2 := h2 w s
    rcases k with ⟨S, b⟩ | ⟨S, b⟩ | S | ⟨S, b⟩ | b | b | _ <;> try cases S
    all_goals simp only [ocode] at h
    all_goals omega

theorem aft_ne (c : Dev nD) (i : Fin 15) : aft c i ≠ c := by revert c i; decide +kernel

/-! ### The groups -/

abbrev OwnT : Type := (Bool × (Unit ⊕ Unit ⊕ Unit ⊕ Unit ⊕ Unit ⊕ Fin 15)) ⊕ (Fin 15 ⊕ Fin 16) ⊕ Unit

def ownE : OwnT ≃ Own where
  toFun
    | .inl (S, .inl _) => .snd S 0
    | .inl (S, .inr (.inl _)) => .snd S 1
    | .inl (S, .inr (.inr (.inl _))) => .rcv S 0
    | .inl (S, .inr (.inr (.inr (.inl _)))) => .rcv S 1
    | .inl (S, .inr (.inr (.inr (.inr (.inl _))))) => .crd S
    | .inl (S, .inr (.inr (.inr (.inr (.inr t))))) => .ag S t
    | .inr (.inl (.inl i)) => .amS i
    | .inr (.inl (.inr w)) => .am w
    | .inr (.inr _) => .cp
  invFun
    | .snd S b => if b.val = 0 then .inl (S, .inl ()) else .inl (S, .inr (.inl ()))
    | .rcv S b => if b.val = 0 then .inl (S, .inr (.inr (.inl ()))) else .inl (S, .inr (.inr (.inr (.inl ()))))
    | .crd S => .inl (S, .inr (.inr (.inr (.inr (.inl ())))))
    | .ag S t => .inl (S, .inr (.inr (.inr (.inr (.inr t)))))
    | .amS i => .inr (.inl (.inl i))
    | .am w => .inr (.inl (.inr w))
    | .cp => .inr (.inr ())
  left_inv := by
    rintro (⟨S, _ | _ | _ | _ | _ | t⟩ | (i | w) | _) <;> rfl
  right_inv := by
    rintro (⟨S, b⟩ | ⟨S, b⟩ | S | ⟨S, t⟩ | i | w | _)
    · revert S b; decide
    · revert S b; decide
    all_goals rfl

theorem sum_unit (Φ : Unit → sProp 𝕄) : bigSep Finset.univ Φ = Φ () := BI.bigSep_univ_of_subsingleton ()

/-- One ring's semaphores. -/
def ringG (Φ : Own → sProp 𝕄) (S : Bool) : sProp 𝕄 :=
  iprop(Φ (.snd S 0) ∗ Φ (.snd S 1) ∗ Φ (.rcv S 0) ∗ Φ (.rcv S 1) ∗ Φ (.crd S) ∗ bigSep Finset.univ (fun t => Φ (.ag S t)))

theorem own_split (Φ : Own → sProp 𝕄) : bigSep Finset.univ Φ
    = iprop((ringG Φ true ∗ ringG Φ false) ∗ (bigSep Finset.univ (fun i => Φ (.amS i)) ∗ bigSep Finset.univ (fun w => Φ (.am w))) ∗ Φ .cp) := by
  rw [bigSep_univ_equiv ownE Φ, BI.bigSep_univ_sum, BI.bigSep_univ_sum, BI.bigSep_univ_sum, BI.bigSep_univ_prod, two_rings, sum_unit]
  simp only [BI.bigSep_univ_sum, sum_unit]
  rfl

theorem cells_start (c : Dev nD) : bigSep Finset.univ (fun k => at_ (F := F) (oc k c) 0) = cells0 c := own_split _

theorem cells_last (c : Dev nD) : bigSep Finset.univ (fun k => at_ (F := F) (oc k c) (lastRd c k)) = cellsN c := by
  have e : bigSep Finset.univ (fun w : Fin 16 => at_ (F := F) (amwC w c) (if w = c then 0 else 1))
      = iprop(at_ (amwC c c) 0 ∗ bigSep Finset.univ (fun j : Fin 15 => at_ (amwC (aft c j) c) 1)) := by
    refine (all_devices c (fun w => at_ (F := F) (amwC w c) (if w = c then 0 else 1))).trans ?_
    rw [if_pos rfl]
    exact congrArg (fun P => iprop(at_ (amwC c c) 0 ∗ P)) (bigSep_congr fun j _ => by rw [if_neg (aft_ne c j)])
  refine (own_split _).trans ?_
  unfold cellsN rowCellsN
  rw [← e]; rfl

/-! ### No due lands on a cell from the round on in which its device leaves it -/

section close
variable (X : Dev nD → Vec F S4096x256 .bf16) (Wt : Dev nD → Vec F S256x8192 .bf16) (K : GSem nD τ sig → ℕ) (c : Dev nD)

theorem rnd_lt {i : Due} {d : Dev nD} {k : Own} (hg : cell i d = oc k c) : rnd i < lastRd c k := by
  have hc : code i d = ocode k := by rw [← num_semOf, ← num_osem]; exact congrArg (fun g : GSem nD τ sig => num g.2) hg
  have ht : tgt i d = c := congrArg (fun g : GSem nD τ sig => g.1.1) hg
  have hd16 : d.val < 16 := d.isLt
  rcases i with S | ⟨S, h⟩ | ⟨S, h⟩ | ⟨S, h⟩ | h | h | ⟨S, h⟩ | ⟨S, h⟩ | _ <;> try cases S
  all_goals rcases k with ⟨S, b⟩ | ⟨S, b⟩ | S | ⟨S, b⟩ | b | b | _ <;> try cases S
  all_goals simp only [code, ocode] at hc
  all_goals try (exfalso; omega)
  all_goals simp only [rnd, lastRd]
  all_goals first
    | omega
    | (rw [if_neg (fun e => aft_ne d h (ht.trans (Fin.ext (by have := congrArg Fin.val e; omega))))]; exact Nat.one_pos)

theorem duties_none (k : Own) (r : ℕ) (hr : lastRd c k ≤ r) : (Rd X Wt).duties (oc k c) r = ∅ :=
  Finset.filter_eq_empty_iff.mpr fun _ _ h => absurd (rnd_lt c h.1) (by omega)

theorem bar_none (r : ℕ) (hr : 1 ≤ r) : (Rd X Wt).duties (barC c) r = ∅ :=
  Finset.filter_eq_empty_iff.mpr fun p _ h => by
    have hc : code p.1 p.2 = 102 := by rw [← num_semOf]; exact congrArg (fun g : GSem nD τ sig => num g.2) h.1
    have hr' := h.2
    obtain ⟨i, d⟩ := p
    have hd16 : d.val < 16 := d.isLt
    rcases i with S | ⟨S, h⟩ | ⟨S, h⟩ | ⟨S, h⟩ | h | h | ⟨S, h⟩ | ⟨S, h⟩ | _ <;> try cases S
    all_goals simp only [code, rnd] at hc hr'
    all_goals omega

/-! ### All the invariants -/

def barE : Dev nD ↪ GSem nD τ sig := ⟨fun c => barC c, fun _ _ h => congrArg (fun g : GSem nD τ sig => g.1.1) h⟩
def ownEmb : Dev nD × Own ↪ GSem nD τ sig :=
  ⟨fun p => oc p.2 p.1, fun _ _ h => Prod.ext (congrArg (fun g : GSem nD τ sig => g.1.1) h) (osem_inj (congrArg Prod.snd h))⟩
abbrev barCells : Finset (GSem nD τ sig) := Finset.univ.map barE
abbrev ownCells : Finset (GSem nD τ sig) := Finset.univ.map ownEmb

theorem bar_mem : barC c ∈ barCells ∪ ownCells := Finset.mem_union_left _ (Finset.mem_map_of_mem barE (Finset.mem_univ c))
theorem own_mem (k : Own) : oc k c ∈ barCells ∪ ownCells := Finset.mem_union_right _ (Finset.mem_map_of_mem ownEmb (Finset.mem_univ (c, k)))

theorem osem_ne_bar (k : Own) : osem k ≠ .reg (sig.barrier 0 rfl) := fun h => by
  have h : ocode k = 102 := by rw [← num_osem, h]; rfl
  rcases k with ⟨S, b⟩ | ⟨S, b⟩ | S | ⟨S, b⟩ | b | b | _ <;> try cases S
  all_goals simp only [ocode] at h
  all_goals omega

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem due_mem (i : Due) (d : Dev nD) : cell i d ∈ barCells ∪ ownCells := by
  cases i with
  | bar S => exact bar_mem _
  | snd S h => exact own_mem _ (.snd S _)
  | rcv S h => exact own_mem _ (.rcv S _)
  | crd S k => exact own_mem _ (.crd S)
  | amS i => exact own_mem _ (.amS i)
  | am i => exact own_mem _ (.am d)
  | agS S t => exact own_mem _ (.snd S _)
  | ag S t => exact own_mem _ (.ag S t)
  | cp => exact own_mem _ .cp

/-- The invariant of every cell, and the levels. -/
def allInv : sProp 𝕄 := iprop((bigSep (barCells ∪ ownCells) fun g => cellInv ER (Rd X Wt) (K g) g) ∗ levAts L lv)
instance allInv_persistent : BI.Persistent (allInv X Wt K) := by unfold allInv; infer_instance

theorem inv_at {g : GSem nD τ sig} (hg : g ∈ barCells ∪ ownCells) : allInv X Wt K ⊢ cellInv ER (Rd X Wt) (K g) g := by
  have h : (bigSep (barCells ∪ ownCells) fun g => (cellInv ER (Rd X Wt) (K g) g : sProp 𝕄)) ⊢ cellInv ER (Rd X Wt) (K g) g := BI.bigSep_elim hg
  unfold allInv; iintro ⟨H, -⟩; iapply h; iexact H

theorem known_of_all : allInv X Wt K ⊢ known X Wt K := by
  have h : allInv X Wt K ⊢ (bigSep Finset.univ fun p : Due × Dev nD => (cellInv ER (Rd X Wt) (K (cell p.1 p.2)) (cell p.1 p.2) : sProp 𝕄)) :=
    bigSep_intro_persistent fun p _ => inv_at X Wt K (due_mem p.1 p.2)
  unfold known
  iintro #H
  isplitr; · iapply h; iexact H
  unfold allInv; icases H with ⟨-, H⟩; iexact H

/-! ### Opening and closing -/

theorem open_all : iprop(allInv X Wt K ∗ bigSep Finset.univ (fun k => (openTok ER (oc k c) : sProp 𝕄)) ∗ Pipeline.ownSems0 osem c)
    ⊢ (|={Set.univ}=> cells0 c : sProp 𝕄) := by
  have h : iprop(allInv X Wt K ∗ bigSep Finset.univ (fun k => iprop(openTok ER (oc k c) ∗ semVal (oc k c) 0)))
      ⊢ bigSep Finset.univ (fun k => (iprop(|={Set.univ}=> at_ (F := F) (oc k c) 0) : sProp 𝕄)) :=
    bigSep_with_persistent fun k _ => by
      have hI := inv_at X Wt K (own_mem c k)
      unfold at_
      iintro ⟨#HI, Ho, Hs⟩
      iapply (Rounds.cell_open ER (Rd X Wt) (g := oc k c) (Set.mem_univ (K (oc k c))))
      isplitr; · iapply hI; iexact HI
      isplitl [Ho] <;> iassumption
  rw [← cells_start c]
  unfold Pipeline.ownSems0
  iintro ⟨#HI, Ho, Hs⟩
  iapply (bigSep_fupd _ _)
  iapply h
  isplitr; · iexact HI
  iapply (two_join _ _)
  isplitl [Ho]; · iexact Ho
  iexact Hs

theorem close_all : iprop(allInv X Wt K ∗ cellsN c) ⊢ (|={Set.univ}=> Pipeline.ownSems0 osem c : sProp 𝕄) := by
  have h : iprop(allInv X Wt K ∗ bigSep Finset.univ (fun k => at_ (F := F) (oc k c) (lastRd c k)))
      ⊢ bigSep Finset.univ (fun k => (iprop(|={Set.univ}=> semVal (oc k c) 0) : sProp 𝕄)) :=
    bigSep_with_persistent fun k _ => by
      have hI := inv_at X Wt K (own_mem c k)
      unfold at_
      iintro ⟨#HI, Ha, -⟩
      iapply (Rounds.cell_close ER (Rd X Wt) (g := oc k c) (Set.mem_univ (K (oc k c))) id (duties_none X Wt c k))
      isplitr; · iapply hI; iexact HI
      iexact Ha
  rw [← cells_last c]
  unfold Pipeline.ownSems0
  iintro ⟨#HI, Ha⟩
  iapply (bigSep_fupd _ _)
  iapply h
  isplitr; · iexact HI
  iexact Ha

theorem close_bar : iprop(allInv X Wt K ∗ atPos ER (barC c) 1 ∅ 0) ⊢ (|={Set.univ}=> semVal (barC c) 0 : sProp 𝕄) := by
  have hI := inv_at X Wt K (bar_mem c)
  iintro ⟨#HI, Ha⟩
  iapply (Rounds.cell_close ER (Rd X Wt) (g := barC c) (Set.mem_univ (K (barC c))) id (bar_none X Wt c))
  isplitr; · iapply hI; iexact HI
  iexact Ha

end close

end Cert.KernelIdeal.Proof

end
-- ==== Proof.BodyEq.lean ====
module

public import proofs.«01_k».proof.Proof.Body

@[expose] public section

noncomputable section

namespace Cert.KernelIdeal.Proof

open Idealize.ShloMosaic Idealize.SL.Sem Cert.KernelIdeal.Gen

variable {F : FTy → Type} [FloatOps F]

set_option maxRecDepth 65536 in
set_option maxHeartbeats 0 in
/-- The printed body is the folded one. -/
theorem cc0_body_eq : cc0_body (F := F) metaM (Memref.isWhole_whole _) xM (Memref.isWhole_whole _) wM (Memref.isWhole_whole _) outM (Memref.isWhole_whole _)
    commR (Memref.isWhole_whole _) commL (Memref.isWhole_whole _) yM (Memref.isWhole_whole _) stM (Memref.isWhole_whole _) amM (Memref.isWhole_whole _)
    cc0_scratch5 cc0_scratch6 cc0_scratch7 cc0_scratch8 cc0_scratch9 cc0_scratch10 cc0_scratch11 cc0_scratch12 cc0_scratch13 cc0_scratch14 cc0_scratch15 = body (F := F) := by
  rfl

end Cert.KernelIdeal.Proof

end
-- ==== Proof.Region.lean ====
module

public import proofs.«01_k».proof.Proof.Told
public import proofs.«01_k».proof.Proof.Cells
public import proofs.«01_k».proof.Proof.BodyEq
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo

/-! The kernel as the one region of the program: what a device hands over to it and what it gets back. -/

@[expose] public section

set_option Elab.async false

noncomputable section

namespace Cert.KernelIdeal.Proof

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

/-! ### The buffers of the kernel, whole and in parts -/

theorem slots_disjoint (b b' : Fin 2) (h : b ≠ b') : Disjoint (slotRect b).set (slotRect b').set := by
  rw [Finset.disjoint_left]
  intro y hy hy'
  have h1 : b.val ≤ (y 0).val ∧ (y 0).val < b.val + 1 := mem_unit _ hy 0
  have h2 : b'.val ≤ (y 0).val ∧ (y 0).val < b'.val + 1 := mem_unit _ hy' 0
  exact h (Fin.ext (by omega))
theorem slots_cover (y : S2x256x4096.Idx) : ∃ b : Fin 2, y ∈ (slotRect b).set := by
  refine ⟨⟨(y 0).val, (y 0).isLt⟩, ?_⟩
  rw [← Rect.map_emb_univ]
  refine Finset.mem_map.mpr ⟨(fun | 0 => ⟨0, Nat.one_pos⟩ | 1 => ⟨(y 1).val, (y 1).isLt⟩ | 2 => ⟨(y 2).val, (y 2).isLt⟩ : S1x256x4096.Idx), Finset.mem_univ _, ?_⟩
  refine funext fun a => Fin.ext ?_
  rw [emb_val]
  fin_cases a
  · exact Nat.add_zero _
  · exact Nat.zero_add _
  · exact Nat.zero_add _

theorem two_slots (Φ : Fin 2 → sProp 𝕄) : bigSep Finset.univ Φ = iprop(Φ 0 ∗ Φ 1) := BI.bigSep_fin_two Φ

section buffers
variable (c : Dev nD)

theorem slots_of (m : Memref sig .tc .vmem S2x256x4096 .bf16) : ownAny (F := F) c m ⊢ iprop(ownAny c (slotM m 0) ∗ ownAny c (slotM m 1)) := by
  have h (b : Fin 2) (A : S1x256x4096.Idx → Elt F .bf16) : own c (m.slice (slotRect b) (fun _ => rfl)) fullShare A ⊢ ownAny c (slotM m b) := by
    iintro H; iexists _; iapply (slice_slot c m b); iexact H
  iintro ⟨%A, H⟩
  ihave H := (BIBase.Entails.trans (owns_rects (Dev.tc c : Thread nD τ) m fullShare slotRect (fun _ _ => rfl) slots_disjoint (cover_of slots_cover) A)
    (Entails.of_eq (two_slots _))) $$ H
  icases H with ⟨H0, H1⟩
  isplitl [H0]
  · iapply (h 0); iexact H0
  · iapply (h 1); iexact H1

theorem of_slots [∀ e, Nonempty (Elt F e)] (m : Memref sig .tc .vmem S2x256x4096 .bf16) : iprop(ownAny c (slotM m 0) ∗ ownAny c (slotM m 1)) ⊢ ownAny (F := F) c m := by
  have hcov : (Finset.univ : Finset (Fin 2)).biUnion (fun b => (slotRect b).set) = Finset.univ := cover_of slots_cover
  iintro ⟨⟨%A, H0⟩, ⟨%B, H1⟩⟩
  iexists (Rect.glue slotRect hcov (fun b => if b = 0 then toSlot A else toSlot B))
  iapply (owns_of_rects (Dev.tc c : Thread nD τ) m fullShare slotRect (fun _ _ => rfl) slots_disjoint hcov (Rect.glue slotRect hcov (fun b => if b = 0 then toSlot A else toSlot B)))
  have hg (b : Fin 2) : (fun j => Rect.glue slotRect hcov (fun b => if b = 0 then toSlot A else toSlot B) ((slotRect b).emb j)) = if b = 0 then toSlot A else toSlot B :=
    funext fun y => Rect.glue_emb slotRect hcov slots_disjoint _ b y
  simp only [hg]
  iapply (Entails.of_eq (two_slots _).symm)
  isplitl [H0]
  · iapply (slot_slice c m 0); iexact H0
  · iapply (slot_slice c m 1); iexact H1

/-- What a device works in: its receive buffers, its result, its row and its maxima. -/
def work : sProp 𝕄 := iprop(ownAny c commR ∗ ownAny c commL ∗ plain c)

theorem any_whole (b : Ref sig .tc) (f : b.ty.Contents (Elt F)) : ((Dev.tc c : Thread nD τ).loc b ↦{fullShare} f : sProp 𝕄) ⊢ own c (Memref.whole b) fullShare f :=
  Entails.of_eq (owns_whole (Dev.tc c : Thread nD τ) b fullShare f).symm
theorem whole_any (b : Ref sig .tc) (f : b.ty.Contents (Elt F)) : own c (Memref.whole b) fullShare f ⊢ ((Dev.tc c : Thread nD τ).loc b ↦{fullShare} f : sProp 𝕄) :=
  Entails.of_eq (owns_whole (Dev.tc c : Thread nD τ) b fullShare f)

theorem work_of : (Pipeline.scopedRest (Ix := ℕ) (Name := ℕ) (U := UU) (Lvl := ℕ) (Val := Elt F) spec0 c : sProp 𝕄) ⊢ work c := by
  rw [scopedRest0_eq]
  unfold work plain
  iintro ⟨⟨%f0, H0⟩, ⟨%f1, H1⟩, ⟨%f2, H2⟩, ⟨%f3, H3⟩, ⟨%f4, H4⟩⟩
  isplitl [H0]; · iexists f0; iapply (any_whole c cc0_scratch0); iexact H0
  isplitl [H1]; · iexists f1; iapply (any_whole c cc0_scratch1); iexact H1
  isplitl [H2]; · iexists f2; iapply (any_whole c cc0_scratch2); iexact H2
  isplitl [H3]; · iexists f3; iapply (any_whole c cc0_scratch3); iexact H3
  iexists f4; iapply (any_whole c cc0_scratch4); iexact H4

theorem of_work : work c ⊢ (Pipeline.scopedRest (Ix := ℕ) (Name := ℕ) (U := UU) (Lvl := ℕ) (Val := Elt F) spec0 c : sProp 𝕄) := by
  rw [scopedRest0_eq]
  unfold work plain
  iintro ⟨⟨%f0, H0⟩, ⟨%f1, H1⟩, ⟨%f2, H2⟩, ⟨%f3, H3⟩, ⟨%f4, H4⟩⟩
  isplitl [H0]; · iexists f0; iapply (whole_any c cc0_scratch0); iexact H0
  isplitl [H1]; · iexists f1; iapply (whole_any c cc0_scratch1); iexact H1
  isplitl [H2]; · iexists f2; iapply (whole_any c cc0_scratch2); iexact H2
  isplitl [H3]; · iexists f3; iapply (whole_any c cc0_scratch3); iexact H3
  iexists f4; iapply (whole_any c cc0_scratch4); iexact H4

end buffers

/-! ### The region -/

section region
variable (m : (ℓ : Loc nD τ sig) → Buf (Elt F) ℓ)

/-- The two operands, by device. -/
abbrev XA (c : Dev nD) : Vec F S4096x256 .bf16 := m ((c.tc : Thread nD τ).loc main_arg0)
abbrev WA (c : Dev nD) : Vec F S256x8192 .bf16 := m ((c.tc : Thread nD τ).loc main_arg1)
/-- What the kernel leaves in the result. -/
abbrev outs : Outs (F := F) := fun _ r c => if h : r = main_v29 then h ▸ (OUT (XA m) (WA m) : Vec F S4096x8192 .bf16) else m ((c.tc : Thread nD τ).loc r)

theorem V2_out (c : Dev nD) : V2 m (outs m) c main_v29 = (OUT (XA m) (WA m) : Vec F S4096x8192 .bf16) := by
  show Function.update _ _ _ _ = _
  rw [Function.update_self]
  exact dif_pos rfl

/-- What a device keeps for the kernel from the launch on. -/
def keeps (c : Dev nD) : sProp 𝕄 :=
  iprop((∃ K, allInv (XA m) (WA m) K ∗ bigSep Finset.univ fun k => openTok ER (oc k c)) ∗ at_ (barC c) 0 ∗ rights c ∗ nearBars c)
/-- The same with its semaphores open. -/
def opened (c : Dev nD) : sProp 𝕄 :=
  iprop((∃ K, allInv (XA m) (WA m) K ∗ cells0 c) ∗ at_ (barC c) 0 ∗ rights c ∗ nearBars c)
abbrev rested (c : Dev nD) : sProp 𝕄 := semVal (barC c) 0

/-- The region's data: the three inputs as they are, and what is held before and after the kernel. -/
def dat (c : Dev nD) : Pipeline.Dat τ (Elt F) ℕ ℕ UU ℕ cfg0 c where
  A w := V1 m c (Proc.devRef .tc (Pipeline.arrRef spec0 w))
  after
    | 0, _ => V1 m c main_v28
    | 1, _ => V1 m c main_arg0
    | 2, _ => V1 m c main_arg1
    | ⟨_ + 3, h⟩, _ => absurd h (Nat.not_lt.2 (Nat.le_add_left _ _))
  Φ t := if t.val = 0 then iprop(opened m c ∗ ownAny c outM ∗ work c ∗ ∃ r, prngReg c r)
    else iprop(rested c ∗ Pipeline.ownSems0 osem c ∗ own c outM fullShare (OUT (XA m) (WA m)) ∗ work c ∗ ∃ r, prngReg c r)
  q _ := fullShare
  owed t := if t.val = 0 then owed allDues c else 0

def pdats : (p : Fin 1) → (c : Dev nD) → Pipeline.Dat τ (Elt F) ℕ ℕ UU ℕ (Pipeline.pin (pcfgs (F := F)) adm p) c
  | 0 => dat m

theorem owed_zero (c : Dev nD) : (pdats m 0 c).owed 0 = owed allDues c := by
  show (if ((0 : Fin (cfg0.N + 1)).val = 0) then owed allDues c else 0) = owed allDues c; exact if_pos rfl
theorem owed_first (c : Dev nD) : (dat m c).owed t0_0.castSucc = owed allDues c := by
  show (if (t0_0.castSucc : Fin (cfg0.N + 1)).val = 0 then owed allDues c else 0) = owed allDues c; exact if_pos rfl
theorem owed_last (c : Dev nD) : (pdats m 0 c).owed (Fin.last _) = 0 := by
  show (if (Fin.last cfg0.N).val = 0 then owed allDues c else 0) = 0
  rw [Fin.val_last, if_neg (by rw [show cfg0.N = 1 from N_0]; decide)]

theorem begins (c : Dev nD) : (dat m c).owesAt 0 t0_0.castSucc ⊢ owing c allDues := by
  unfold owing Dat.owesAt Pipeline.owesWithin
  rw [owed_first]
  iintro ⟨%W, -, HO⟩; iexists W; iexact HO
theorem ends (c : Dev nD) : owing c [] ⊢ (dat m c).owesAt 0 t0_0.succ := by
  unfold owing Dat.owesAt Pipeline.owesWithin Dat.bound
  rw [show (dat m c).owed t0_0.succ = 0 from owed_last m c]
  iintro ⟨%W, HO⟩; iexists W; isplitr; · ipureintro; exact fun _ _ => Or.inl trivial
  iexact HO

/-- What the kernel finds in each input's buffer: the input. -/
theorem at_zero {n i : ℕ} : 0 * n + 1 * i = i := by omega
theorem finds_place (c : Dev nD) (d) : (dat m c).before 0 t0_0 d = V1 m c main_v28 := by
  rw [Dat.before_fetched (dat m c) 0 t0_0 (fetch0_0 t0_0)]
  exact funext fun j => congrArg (V1 m c main_v28) (funext fun a => Fin.ext at_zero)
theorem finds_left (c : Dev nD) (d) : (dat m c).before 1 t0_0 d = V1 m c main_arg0 := by
  rw [Dat.before_fetched (dat m c) 1 t0_0 (fetch0_1 t0_0)]
  exact funext fun j => congrArg (V1 m c main_arg0) (funext fun a => Fin.ext at_zero)
theorem finds_right (c : Dev nD) (d) : (dat m c).before 2 t0_0 d = V1 m c main_arg1 := by
  rw [Dat.before_fetched (dat m c) 2 t0_0 (fetch0_2 t0_0)]
  exact funext fun j => congrArg (V1 m c main_arg1) (funext fun a => Fin.ext at_zero)

theorem left_eq (c : Dev nD) : V1 m c main_arg0 = XA m c := V1_of m c main_arg0 (by decide)
theorem right_eq (c : Dev nD) : V1 m c main_arg1 = WA m c := V1_of m c main_arg1 (by decide)

theorem kernel_run [∀ e, Nonempty (Elt F e)] (c : Dev nD) :
    iprop((opened m c ∗ ownAny c outM ∗ work c ∗ ∃ r, prngReg c r) ∗ owing c allDues ∗ own c metaM fullShare (V1 m c main_v28) ∗ own c xM fullShare (V1 m c main_arg0) ∗ own c wM fullShare (V1 m c main_arg1))
      ⊢ run c body fun _ => iprop((rested c ∗ Pipeline.ownSems0 osem c ∗ own c outM fullShare (OUT (XA m) (WA m)) ∗ work c ∗ ∃ r, prngReg c r)
        ∗ owing c [] ∗ own c metaM fullShare (V1 m c main_v28) ∗ own c xM fullShare (V1 m c main_arg0) ∗ own c wM fullShare (V1 m c main_arg1)) := by
  rw [left_eq, right_eq, show V1 m c main_v28 = (metaOf c : S3.Idx → BitVec 32) from meta_eq c m]
  refine BIBase.Entails.trans ?_ (wp_fupd _ _ _ _ _)
  unfold opened work
  iintro ⟨⟨⟨⟨%K, #HK, Hc⟩, Hb, Hr, Hn⟩, Hout, ⟨Hw0, Hw1, Hp⟩, Hreg⟩, HO, Hm, Hx, Hw⟩
  iapply (run_body c (XA m) (WA m) K) $$ [Hc Hb Hr Hn Hout Hw0 Hw1 Hp HO Hm Hx Hw]
  · isplitr; · iapply (known_of_all (XA m) (WA m) K); iexact HK
    isplitl [Hm]; · iexact Hm
    unfold ins before slots
    isplitl [Hx Hw]; · isplitl [Hx] <;> iassumption
    isplitl [HO]; · iexact HO
    isplitl [Hw0 Hw1]
    · isplitl [Hw0]
      · iapply (slots_of c commR); iexact Hw0
      · iapply (slots_of c commL); iexact Hw1
    isplitl [Hp]; · iexact Hp
    isplitl [Hout]; · iexact Hout
    isplitl [Hc]; · iexact Hc
    isplitl [Hb]; · iexact Hb
    isplitl [Hr]; · iexact Hr
    iexact Hn
  unfold ins done slots
  iintro ⟨Hm, ⟨Hx, Hw⟩, HO, ⟨Hw0, Hw1⟩, Hp, Hout, Hc, Hb⟩
  imod (close_all (XA m) (WA m) K c) $$ [Hc] with Hs
  · isplitr; · iexact HK
    iexact Hc
  imod (close_bar (XA m) (WA m) K c) $$ [Hb] with Hb
  · isplitr; · iexact HK
    iexact Hb
  imodintro
  isplitr [HO Hm Hx Hw]
  · isplitl [Hb]; · iexact Hb
    isplitl [Hs]; · iexact Hs
    isplitl [Hout]; · iexact Hout
    isplitr [Hreg]
    · isplitl [Hw0]; · iapply (of_slots c commR); iexact Hw0
      isplitl [Hw1]; · iapply (of_slots c commL); iexact Hw1
      iexact Hp
    iexact Hreg
  isplitl [HO]; · iexact HO
  isplitl [Hm]; · iexact Hm
  isplitl [Hx] <;> iassumption

theorem body_of {a : Memref sig .tc .smem S3 .i32} (ha : a.IsWhole) {x : Memref sig .tc .vmem S4096x256 .bf16} (hx : x.IsWhole) {w : Memref sig .tc .vmem S256x8192 .bf16} (hw : w.IsWhole)
    (h0 : a = metaM) (h1 : x = xM) (h2 : w = wM) :
    cc0_body (F := F) a ha x hx w hw outM (Memref.isWhole_whole _)
      commR (Memref.isWhole_whole _) commL (Memref.isWhole_whole _) yM (Memref.isWhole_whole _) stM (Memref.isWhole_whole _) amM (Memref.isWhole_whole _)
      cc0_scratch5 cc0_scratch6 cc0_scratch7 cc0_scratch8 cc0_scratch9 cc0_scratch10 cc0_scratch11 cc0_scratch12 cc0_scratch13 cc0_scratch14 cc0_scratch15 = body := by
  subst h0 h1 h2; exact cc0_body_eq

theorem kernel_body [∀ e, Nonempty (Elt F e)] (c : Dev nD) : BodyObligation (dat m c) defs₀ 𝒱₀ 0 Set.univ := fun t => by
  obtain rfl := fin_N0 t
  rw [bigSep_W0, bigSep_W0]
  rw [show (dat m c).Φ t0_0.castSucc = iprop(opened m c ∗ ownAny c outM ∗ work c ∗ ∃ r, prngReg c r) from rfl,
    show (dat m c).Φ t0_0.succ = iprop(rested c ∗ Pipeline.ownSems0 osem c ∗ own c outM fullShare (OUT (XA m) (WA m)) ∗ work c ∗ ∃ r, prngReg c r) from rfl]
  have hb : (defs₀ (F := F) .tc cfg0.body (cfg0.bodyArgs t0_0 (cfg0.slots t0_0))) = body := by
    have e : (defs₀ (F := F) .tc cfg0.body (cfg0.bodyArgs t0_0 (cfg0.slots t0_0))) = bodyAt0 t0_0 := rfl
    have f0 : st0_0 t0_0 = metaM := rfl
    have f1 : st0_1 t0_0 = xM := rfl
    have f2 : st0_2 t0_0 = wM := rfl
    exact e.trans (body_of _ _ _ f0 f1 f2)
  have h := kernel_run m c
  rw [hb]
  clear hb
  revert h
  generalize body (F := F) = p
  intro h
  refine BIBase.Entails.trans ?_ (BIBase.Entails.trans h (run_mono c fun _ => ?_))
  · iintro ⟨HΦ, HO, ⟨%d0, H0⟩, ⟨%d1, H1⟩, ⟨%d2, H2⟩⟩
    rw [finds_place, finds_left, finds_right]
    isplitl [HΦ]; · iexact HΦ
    isplitl [HO]; · iapply (begins m c); iexact HO
    isplitl [H0]; · iexact H0
    isplitl [H1]; · iexact H1
    iexact H2
  · iintro ⟨HΦ, HO, H0, H1, H2⟩
    isplitl [HΦ]; · iexact HΦ
    isplitl [HO]; · iapply (ends m c); iexact HO
    isplitl [H0]; · iexact H0
    isplitl [H1]; · iexact H1
    iexact H2

/-! ### The record -/

abbrev outRef : DevRef τ sig := Proc.devRef .tc main_v29
/-- The buffers the kernel addresses itself, and those that are no input of it. -/
abbrev outRefs : Finset (DevRef τ sig) := {outRef}
abbrev restRefs : Finset (DevRef τ sig) := Pipeline.ucRefs τ sig \ Pipeline.arrRefs (τ := τ) spec0

theorem out_rest : outRefs ⊆ restRefs := by decide +kernel

theorem held_out (c : Dev nD) (W : Valuation τ sig (Elt F)) : (StableHlo.held (c.tc : Thread nD τ) outRefs W : sProp 𝕄) = own c outM fullShare (W main_v29) := by
  unfold StableHlo.held
  rw [BI.bigSep_singleton]
  exact (owns_whole (Dev.tc c : Thread nD τ) main_v29 fullShare (W main_v29)).symm

theorem opens (c : Dev nD) : iprop(keeps m c ∗ Pipeline.ownSems0 osem c ∗ levAts L lv) ⊢ (|={Set.univ}=> opened m c : sProp 𝕄) := by
  unfold keeps opened
  iintro ⟨⟨⟨%K, #HK, Ho⟩, Hb, Hr, Hn⟩, Hs, -⟩
  imod (open_all (XA m) (WA m) K c) $$ [Ho Hs] with Hc
  · isplitr; · iexact HK
    isplitl [Ho] <;> iassumption
  imodintro
  isplitl [Hc]
  · iexists K; isplitr; · iexact HK
    iexact Hc
  isplitl [Hb]; · iexact Hb
  isplitl [Hr] <;> iassumption

theorem enters (c : Dev nD) : iprop(Pipeline.scopedRest (Pipeline.pin (pcfgs (F := F)) adm 0).spec c ∗ (∃ r, prngReg c r) ∗ StableHlo.held (c.tc : Thread nD τ) outRefs (V1 m c) ∗ opened m c)
    ⊢ (pdats m 0 c).Φ 0 := by
  rw [show (pdats m 0 c).Φ 0 = iprop(opened m c ∗ ownAny c outM ∗ work c ∗ ∃ r, prngReg c r) from rfl, held_out]
  iintro ⟨Hs, Hp, Ho, Hk⟩
  isplitl [Hk]; · iexact Hk
  isplitl [Ho]; · iexists _; iexact Ho
  isplitl [Hs]; · iapply (work_of c); iexact Hs
  iexact Hp

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) outRefs (V2 m (outs m) c)
        ∗ Pipeline.ownSems0 osem c ∗ rested c) := by
  rw [show (pdats m 0 c).Φ (Fin.last _) = iprop(rested c ∗ Pipeline.ownSems0 osem c ∗ own c outM fullShare (OUT (XA m) (WA m)) ∗ work c ∗ ∃ r, prngReg c r) from rfl, held_out, V2_out]
  iintro ⟨Hb, Hs, Ho, Hw, Hp⟩
  isplitl [Hw]; · iapply (of_work c); iexact Hw
  isplitl [Hp]; · iexact Hp
  isplitl [Ho]; · iexact Ho
  isplitl [Hs] <;> iassumption

theorem due_pos : ∀ j ∈ allDues, 0 < lvl j := by decide +kernel

theorem cut (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then owed allDues c else 0 := rfl
  rw [e] at h
  split at h
  · obtain ⟨j, hj, rfl, rfl⟩ := owed_pos h
    exact ⟨mem_L _ _ (lvl_lt j), due_pos j hj⟩
  · exact absurd h (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- An input's array is what it was. -/
theorem arr_keep (c : Dev nD) : ∀ w : Fin 3, (pdats m 0 c).arrAt w (Pipeline.pin (pcfgs (F := F)) adm 0).N = V2 m (outs m) c (Proc.devRef .tc (Pipeline.arrRef spec0 w))
  | 0 => (V2_of m (outs m) c main_v28 (by decide)).symm
  | 1 => (V2_of m (outs m) c main_arg0 (by decide)).symm
  | 2 => (V2_of m (outs m) c main_arg1 (by decide)).symm
  | ⟨_ + 3, h⟩ => absurd h (Nat.not_lt.2 (Nat.le_add_left _ _))

theorem rest_keep (c : Dev nD) : ∀ b ∈ restRefs \ outRefs, V2 m (outs m) c b = V1 m c b := fun b hb =>
  Function.update_of_ne (fun e => (Finset.mem_sdiff.mp hb).2 (Finset.mem_singleton.mpr e)) _ _

set_option backward.isDefEq.respectTransparency.types false in
def region [∀ e, Nonempty (Elt F e)] : Pipeline.RegionSeg (Name := ℕ) (U := UU) (pcfgs (F := F)) adm (pdats m) 0 defs₀ 𝒱₀ L lv 0 :=
  Pipeline.RegionSeg.ofTalk (pcfgs (F := F)) adm (pdats m) 0 defs₀ 𝒱₀ L lv 0 osem osem_facts
    outRefs restRefs out_rest kitP rfl (fun c => (kernel_body m c).loose)
    (fun _ => 0) (fun c => owed allDues c) (fun c => (owed_zero m c).trans (zero_add _).symm) (owed_last m) (fun _ => rfl)
    (fun c w => by show (if _ then fullShare else fullShare) = fullShare; exact ite_self _)
    (V1 m) (V2 m (outs m)) (rest_keep m)
    (keeps m) rested (opened m) rested (opens m) (enters m) (leaves m)
    (fun c => by iintro H; imodintro; iexact H)
    (fun _ => 0)
    ⟨fun c w s => mem_L c _ (by decide), fun c w s => le_refl _, fun c t g i h => cut m c t g i h⟩
    (fun _ => iprop(emp))
    (fun c w => rfl) (arr_keep m)

theorem region_pre [∀ e, Nonempty (Elt F e)] (c : Dev nD) :
    iprop(StableHlo.held (c : Thread nD τ) (Pipeline.ucRefs τ sig) (V1 m c) ∗ (∃ r, prngReg c r) ∗ keeps m c ∗ owing c allDues) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ keeps m c ∗ ∃ Wd, owes (c : Thread nD τ) (0 + owed allDues c) Wd)
  rw [zero_add, StableHlo.held_sub_split (c : Thread nD τ) (Pipeline.arrRefs_sub_ucRefs (τ := τ) spec0 (by decide)) (V1 m c)]
  unfold owing
  iintro ⟨⟨Ha, Hr⟩, Hp, Hk, HO⟩
  isplitl [Ha]; · iexact Ha
  isplitl [Hp]; · iexact Hp
  isplitl [Hr]; · isplitl [Hr]; · iexact Hr
                  iempintro
  isplitl [Hk]; · iexact Hk
  iexact HO

theorem region_post [∀ e, Nonempty (Elt F e)] (c : Dev nD) :
    (region m).post c ⊢ iprop(StableHlo.held (c : Thread nD τ) (Pipeline.ucRefs τ sig) (V2 m (outs m) c) ∗ rested c ∗ owing c []) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ rested c ∗ ∃ Wd, owes (c : Thread nD τ) 0 Wd) ⊢ _
  rw [StableHlo.held_sub_split (c : Thread nD τ) (Pipeline.arrRefs_sub_ucRefs (τ := τ) spec0 (by decide)) (V2 m (outs m) c)]
  unfold owing
  iintro ⟨Ha, -, ⟨Hr, -⟩, Hk, HO⟩
  isplitr [Hk HO]
  · isplitl [Ha] <;> iassumption
  isplitl [Hk]; · iexact Hk
  iexact HO

end region

end Cert.KernelIdeal.Proof

end
-- ==== Proof.Deal.lean ====
module

public import proofs.«01_k».proof.Proof.Cells

/-! The rights and the credits of a launch, dealt to the devices. -/

@[expose] public section

set_option Elab.async false

noncomputable section

namespace Cert.KernelIdeal.Proof

open Idealize.ShloMosaic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The dues, in groups -/

abbrev DueT : Type := Bool ⊕ (Bool × (Fin 15 ⊕ Fin 15 ⊕ Fin 14 ⊕ Fin 15 ⊕ Fin 15)) ⊕ (Fin 15 ⊕ Fin 15) ⊕ Unit

def dueE : DueT ≃ Due where
  toFun
    | .inl S => .bar S
    | .inr (.inl (S, .inl h)) => .snd S h
    | .inr (.inl (S, .inr (.inl h))) => .rcv S h
    | .inr (.inl (S, .inr (.inr (.inl k)))) => .crd S k
    | .inr (.inl (S, .inr (.inr (.inr (.inl t))))) => .agS S t
    | .inr (.inl (S, .inr (.inr (.inr (.inr t))))) => .ag S t
    | .inr (.inr (.inl (.inl i))) => .amS i
    | .inr (.inr (.inl (.inr i))) => .am i
    | .inr (.inr (.inr _)) => .cp
  invFun
    | .bar S => .inl S
    | .snd S h => .inr (.inl (S, .inl h))
    | .rcv S h => .inr (.inl (S, .inr (.inl h)))
    | .crd S k => .inr (.inl (S, .inr (.inr (.inl k))))
    | .agS S t => .inr (.inl (S, .inr (.inr (.inr (.inl t)))))
    | .ag S t => .inr (.inl (S, .inr (.inr (.inr (.inr t)))))
    | .amS i => .inr (.inr (.inl (.inl i)))
    | .am i => .inr (.inr (.inl (.inr i)))
    | .cp => .inr (.inr (.inr ()))
  left_inv := by rintro (S | ⟨S, _ | _ | _ | _ | t⟩ | (i | w) | _) <;> rfl
  right_inv := by rintro (S | ⟨S, h⟩ | ⟨S, h⟩ | ⟨S, h⟩ | h | h | ⟨S, h⟩ | ⟨S, h⟩ | _) <;> rfl

/-- One ring's dues. -/
def ringD (Φ : Due → sProp 𝕄) (S : Bool) : sProp 𝕄 :=
  iprop(bigSep Finset.univ (fun h => Φ (.snd S h)) ∗ bigSep Finset.univ (fun h => Φ (.rcv S h)) ∗ bigSep Finset.univ (fun k => Φ (.crd S k))
    ∗ bigSep Finset.univ (fun t => Φ (.agS S t)) ∗ bigSep Finset.univ (fun t => Φ (.ag S t)))

theorem due_split (Φ : Due → sProp 𝕄) : bigSep Finset.univ Φ
    = iprop((Φ (.bar true) ∗ Φ (.bar false)) ∗ (ringD Φ true ∗ ringD Φ false)
        ∗ (bigSep Finset.univ (fun i => Φ (.amS i)) ∗ bigSep Finset.univ (fun i => Φ (.am i))) ∗ Φ .cp) := by
  rw [bigSep_univ_equiv dueE Φ, BI.bigSep_univ_sum, BI.bigSep_univ_sum, BI.bigSep_univ_sum, BI.bigSep_univ_sum, BI.bigSep_univ_prod, two_rings, two_rings, sum_unit]
  simp only [BI.bigSep_univ_sum]
  rfl

/-! ### What is owed at launch, and to whom -/

/-- The dues that one device pays to another. -/
def remote : Due → Bool
  | .bar _ | .rcv _ _ | .crd _ _ | .am _ | .ag _ _ => true
  | _ => false

theorem allDues_nodup : allDues.Nodup := by decide +kernel
theorem allDues_eq : allDues.toFinset = Finset.univ.filter (fun i => remote i = true) := by
  ext i
  rw [List.mem_toFinset, Finset.mem_filter, and_iff_right (Finset.mem_univ i)]
  have h : ∀ i, i ∈ allDues ↔ remote i = true := by
    rintro (S | ⟨S, h⟩ | ⟨S, h⟩ | ⟨S, h⟩ | h | h | ⟨S, h⟩ | ⟨S, h⟩ | _)
    · revert S; decide +kernel
    · revert S h; decide +kernel
    · revert S h; decide +kernel
    · revert S h; decide +kernel
    · revert h; decide +kernel
    · revert h; decide +kernel
    · revert S h; decide +kernel
    · revert S h; decide +kernel
    · decide +kernel
  exact h i

theorem owed_sum : ∀ (l : List Due), l.Nodup → ∀ d : Dev nD, owed l d = ∑ i ∈ l.toFinset, tallyAt (cell i d) (lvl i) (amt i)
  | [], _, _ => rfl
  | i :: l, h, d => by
    rw [List.toFinset_cons, Finset.sum_insert (by rw [List.mem_toFinset]; exact (List.nodup_cons.mp h).1), owed_cons, owed_sum l (List.nodup_cons.mp h).2 d, add_comm]

/-- What the devices owe device `c`, all together. -/
def awaitedBy (c : Dev nD) : CellTallies nD τ sig ℕ := ∑ i ∈ allDues.toFinset, tallyAt (cell i (src i c)) (lvl i) (amt i)

theorem awaited_apply (c : Dev nD) (g : GSem nD τ sig) (ι : ℕ) :
    awaitedBy c g ι = ∑ i ∈ allDues.toFinset, if g = cell i (src i c) ∧ ι = lvl i then amt i else 0 := by
  unfold awaitedBy
  rw [Finset.sum_apply, Finsupp.finsetSum_apply]
  exact Finset.sum_congr rfl fun i _ => tallyAt_apply ..

theorem owed_apply (d : Dev nD) (g : GSem nD τ sig) (ι : ℕ) :
    owed allDues d g ι = ∑ i ∈ allDues.toFinset, if g = cell i d ∧ ι = lvl i then amt i else 0 := by
  rw [owed_sum _ allDues_nodup, Finset.sum_apply, Finsupp.finsetSum_apply]
  exact Finset.sum_congr rfl fun i _ => tallyAt_apply ..

theorem awaited_core (c : Dev nD) (g : GSem nD τ sig) (h : awaitedBy c g ≠ 0) : g.1 = (Dev.tc c : Thread nD τ) := by
  by_contra hn
  refine h (Finsupp.ext fun ι => ?_)
  rw [awaited_apply]
  exact Finset.sum_eq_zero fun i _ => if_neg fun e => hn (by rw [e.1]; show (Dev.tc (tgt i (src i c)) : Thread nD τ) = _; rw [tgt_src])

theorem awaited_eq (c : Dev nD) (sm : SemLoc sig) :
    launchCredit (Pipeline.owing (owed allDues)) 0 ((Dev.tc c : Thread nD τ), sm) = awaitedBy c (Dev.tc c, sm) := by
  refine Finsupp.ext fun ι => ?_
  rw [Pipeline.launchCredit_owing, awaited_apply, Finset.sum_congr rfl fun d _ => owed_apply d _ ι, Finset.sum_comm]
  refine Finset.sum_congr rfl fun i _ => ?_
  refine Finset.sum_eq_single (src i c) (fun d _ hd => if_neg fun e => hd ?_) (fun h => absurd (Finset.mem_univ _) h)
  have ht : c = tgt i d := congrArg (fun g : GSem nD τ sig => g.1.1) e.1
  rw [ht, src_tgt]

theorem credit_deal (c : Dev nD) : (Pipeline.launchCred (owed allDues) c : sProp 𝕄) = bigSep allDues.toFinset (fun i => due i (src i c)) := by
  unfold Pipeline.launchCred
  rw [bigSep_congr (s := Finset.univ) (Ψ := fun sm : SemLoc sig => (cred (tallyOn ((Dev.tc c : Thread nD τ), sm) (awaitedBy c (Dev.tc c, sm))) : sProp 𝕄))
    fun sm _ => by rw [← awaited_eq]]
  exact (Pipeline.cred_core (awaited_core c)).symm.trans (Pipeline.cred_finsetSum _ _)

/-! ### A device's rights -/

/-- The credits of one ring. -/
def ringC (c : Dev nD) (S : Bool) : sProp 𝕄 :=
  iprop(bigSep Finset.univ (fun h => due (.rcv S h) (peer (!S) c)) ∗ bigSep Finset.univ (fun k => due (.crd S k) (peer S c))
    ∗ bigSep Finset.univ (fun t => due (.ag S t) (peer (!S) c)))

theorem credit_split (c : Dev nD) : (Pipeline.launchCred (owed allDues) c : sProp 𝕄)
    ⊢ iprop(cred (tallyAt (barC c) 1 2) ∗ (ringC c true ∗ ringC c false) ∗ bigSep Finset.univ (fun i => due (.am i) (bef c i))) := by
  have e1 (S : Bool) : due (F := F) (.bar S) (src (.bar S) c) = cred (tallyAt (barC c) 1 1) := by
    show cred (tallyAt (cell (.bar S) (peer (!S) c)) 1 1) = _; rw [bar_cell]
  have e2 : iprop(cred (tallyAt (barC c) 1 1) ∗ cred (tallyAt (barC c) 1 1)) ⊢ (cred (tallyAt (barC c) 1 2) : sProp 𝕄) := by
    have h := (cred_add (Val := Elt F) (Name := ℕ) (U := UU) (Lvl := ℕ) (tallyAt (barC c) 1 1) (tallyAt (barC c) 1 1 : CellTallies nD τ sig ℕ)).2
    rwa [tallyAt_add] at h
  have hr (S : Bool) : ringD (fun i => if remote i = true then due (F := F) i (src i c) else iprop(emp)) S ⊢ ringC c S := by
    show iprop(bigSep Finset.univ (fun _ => iprop(emp)) ∗ bigSep Finset.univ (fun h => due (.rcv S h) (peer (!S) c)) ∗ bigSep Finset.univ (fun k => due (.crd S k) (peer S c))
      ∗ bigSep Finset.univ (fun _ => iprop(emp)) ∗ bigSep Finset.univ (fun t => due (.ag S t) (peer (!S) c))) ⊢ _
    unfold ringC
    iintro ⟨-, H1, H2, -, H3⟩
    isplitl [H1]; · iexact H1
    isplitl [H2]; · iexact H2
    iexact H3
  have hm : bigSep Finset.univ (fun h => (fun i => if remote i = true then due (F := F) i (src i c) else iprop(emp)) (.am h)) ⊢ bigSep Finset.univ (fun i => due (.am i) (bef c i)) :=
    Entails.of_eq rfl
  have hb : iprop((if remote (.bar true) = true then due (F := F) (.bar true) (src (.bar true) c) else iprop(emp)) ∗ (if remote (.bar false) = true then due (.bar false) (src (.bar false) c) else iprop(emp)))
      ⊢ cred (tallyAt (barC c) 1 2) := by
    show iprop(due (.bar true) (src (.bar true) c) ∗ due (.bar false) (src (.bar false) c)) ⊢ _
    rw [e1, e1]; exact e2
  rw [credit_deal, allDues_eq, BI.bigSep_filter, due_split]
  iintro ⟨Hb, ⟨HA, HB⟩, ⟨-, Hm⟩, -⟩
  isplitl [Hb]; · iapply hb; iexact Hb
  isplitl [HA HB]
  · isplitl [HA]; · iapply (hr true); iexact HA
    iapply (hr false); iexact HB
  iapply hm; iexact Hm

theorem rights_intro (c : Dev nD) : iprop(bigSep Finset.univ (fun i => tok (F := F) i c) ∗ Pipeline.launchCred (owed allDues) c) ⊢ rights c := by
  have hr (S : Bool) : iprop(ringD (fun i => tok (F := F) i c) S ∗ ringC c S) ⊢ ringToks c S := by
    unfold ringD ringC ringToks toks giveT takeT
    rw [Ring.rangeSet_univ, Ring.rangeSet_univ]
    iintro ⟨⟨t1, t2, t3, t4, t5⟩, ⟨c1, c2, c3⟩⟩
    isplitl [t1 t2 c1]
    · iapply (two_join _ _)
      isplitl [t1]; · iexact t1
      iapply (two_join _ _)
      isplitl [t2]; · iexact t2
      iexact c1
    isplitl [t3]; · iexact t3
    isplitl [c2]; · iexact c2
    isplitl [t4]; · iexact t4
    isplitl [t5]; · iexact t5
    iexact c3
  have hc := credit_split (F := F) c
  rw [due_split (fun i => tok (F := F) i c)]
  unfold rights rowToks
  iintro ⟨⟨⟨b1, b2⟩, ⟨tA, tB⟩, ⟨m1, m2⟩, cp⟩, H⟩
  ihave H := hc $$ H
  icases H with ⟨Hb, ⟨cA, cB⟩, Hm⟩
  isplitl [tA tB cA cB]
  · isplitl [tA cA]
    · iapply (hr true)
      isplitl [tA]; · iexact tA
      iexact cA
    iapply (hr false)
    isplitl [tB]; · iexact tB
    iexact cB
  isplitl [m1 m2 Hm]
  · isplitl [m1]; · iexact m1
    isplitl [m2]; · iexact m2
    iexact Hm
  isplitl [cp]; · iexact cp
  isplitl [b1 b2]
  · isplitl [b1]; · iexact b1
    iexact b2
  iexact Hb

end Cert.KernelIdeal.Proof

end
-- ==== Proof.Launch.lean ====
module

public import proofs.«01_k».proof.Proof.Region
public import proofs.«01_k».proof.Proof.Deal

/-! The launch: every device is dealt what it keeps for the kernel, and the program runs to its end on all of them. -/

@[expose] public section

set_option Elab.async false

noncomputable section

namespace Cert.KernelIdeal.Proof

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### What the launch provides -/

/-- A due of a device, with its cell and its round: one token each. -/
def dueEmb : Due × Dev nD ↪ GSem nD τ sig × ℕ × (Due × Dev nD) := ⟨fun p => (cell p.1 p.2, rnd p.1, p), fun _ _ h => congrArg (fun x => x.2.2) h⟩
abbrev dueToks : Finset (GSem nD τ sig × ℕ × (Due × Dev nD)) := Finset.univ.map dueEmb

theorem toks_deal : bigSep dueToks (fun x => (dutyTok ER x.1 x.2.1 x.2.2 : sProp 𝕄)) = bigSep Finset.univ fun c : Dev nD => bigSep Finset.univ fun i : Due => tok i c := by
  rw [BI.bigSep_map]
  refine (bigSep_univ_equiv (Equiv.prodComm (Dev nD) Due) (fun p => (dutyTok ER (dueEmb p).1 (dueEmb p).2.1 (dueEmb p).2.2 : sProp 𝕄))).trans ?_
  rw [BI.bigSep_univ_prod]
  rfl

theorem opens_deal : bigSep ownCells (fun g => (openTok ER g : sProp 𝕄)) = bigSep Finset.univ fun c : Dev nD => bigSep Finset.univ fun k : Own => openTok ER (oc k c) := by
  rw [BI.bigSep_map, BI.bigSep_univ_prod]
  rfl

theorem unscoped_bar : ∀ sm : SemLoc sig, sm.isScoped .tc = false → sm = .reg (sig.barrier 0 rfl) := by decide +kernel

theorem bar_unscoped (c : Dev nD) : (unscopedSems0 c : sProp 𝕄) = semVal (barC c) 0 := by
  unfold unscopedSems0
  rw [show (Finset.univ.filter fun sm : SemLoc sig => ¬ sm.isScoped .tc) = {SemLoc.reg (sig.barrier 0 rfl)} from by decide +kernel, BI.bigSep_singleton]

/-- A resource given to one device alone. -/
def given (d : Dev nD) (R : sProp 𝕄) (c : Dev nD) : sProp 𝕄 := if c = d then R else iprop(emp)
theorem given_all (d : Dev nD) (R : sProp 𝕄) : bigSep Finset.univ (given d R) = R := by
  rw [bigSep_univ_at _ d, bigSep_congr (s := Finset.univ.erase d) (Ψ := fun _ => (BI.emp : sProp 𝕄))
      fun c hc => by unfold given; rw [if_neg (Finset.ne_of_mem_erase hc)]; rfl, BI.bigSep_emp_const]
  unfold given; rw [if_pos rfl]
  exact BI.equiv_iff.mp sep_emp

abbrev funds : sProp 𝕄 := BI.own (ER (launchOf barCells ownCells dueToks))

section launch
variable (m : (ℓ : Loc nD τ sig) → Buf (Elt F) ℓ) (ρ : Dev nD → PrngReg)

/-- What every device may consult: every invariant, the levels, and that no barrier is past its first round. -/
def records (κ : GSem nD τ sig → ℕ) : sProp 𝕄 := iprop(allInv (XA m) (WA m) κ ∗ bigSep barCells fun g => reached ER g 0)
instance records_persistent (κ : GSem nD τ sig → ℕ) : BI.Persistent (records m κ) := by unfold records; infer_instance

theorem bar_reached (c : Dev nD) : (bigSep barCells fun g => (reached ER g 0 : sProp 𝕄)) ⊢ reached ER (barC c) 0 :=
  BI.bigSep_elim (Finset.mem_map_of_mem barE (Finset.mem_univ c))

/-- What one device alone gets. -/
def share (c : Dev nD) : sProp 𝕄 :=
  iprop(atPos ER (barC c) 0 ∅ 0 ∗ (bigSep Finset.univ fun k => openTok ER (oc k c)) ∗ bigSep Finset.univ fun i => tok i c)
def brings (c : Dev nD) : sProp 𝕄 :=
  iprop(StableHlo.held (c : Thread nD τ) (Pipeline.ucRefs τ sig) (V0 m c) ∗ Pipeline.launchCred (owed allDues) c ∗ owes (c : Thread nD τ) (owed allDues c) ∅ ∗ ∃ r, prngReg c r)

/-- What rides along while the host computes the places. -/
def rides : Fin 2 → Dev nD → sProp 𝕄 := fun _ c => iprop((∃ r, prngReg c r) ∗ keeps m c ∗ owing c allDues)

theorem dealt (κ : GSem nD τ sig → ℕ) (c : Dev nD) :
    iprop(records m κ ∗ (share c ∗ brings m c)) ⊢ iprop(StableHlo.held (c : Thread nD τ) (Pipeline.ucRefs τ sig) (V0 m c) ∗ rides m 0 c) := by
  unfold records share brings rides keeps nearBars at_ owing
  iintro ⟨⟨#HI, #HR⟩, ⟨Ha, Ho, Ht⟩, Hh, Hc, HO, Hp⟩
  isplitl [Hh]; · iexact Hh
  isplitl [Hp]; · iexact Hp
  isplitr [HO]
  · isplitl [Ho]
    · iexists κ; isplitr; · iexact HI
      iexact Ho
    isplitl [Ha]
    · isplitl [Ha]; · iexact Ha
      iapply (bar_reached (F := F) c); iexact HR
    isplitl [Ht Hc]
    · iapply (rights_intro c); isplitl [Ht] <;> iassumption
    isplitr
    · iapply (bar_reached (F := F) (peer true c)); iexact HR
    · iapply (bar_reached (F := F) (peer false c)); iexact HR
  iexists ∅; iexact HO

theorem launched :
    iprop((bigSep Finset.univ fun c : Dev nD => iprop(unscopedBufs c (fun b => m ((c.tc : Thread nD τ).loc b)) ∗ unscopedSems0 c
          ∗ owes (c.tc : Thread nD τ) (owed allDues c) ∅ ∗ Pipeline.launchCred (owed allDues) c ∗ prngReg c (ρ c) ∗ given 0 funds c)) ∗ levAts L lv)
      ⊢ (|={Set.univ}=> bigSep Finset.univ (fun c : Dev nD => iprop(StableHlo.held (c : Thread nD τ) (Pipeline.ucRefs τ sig) (V0 m c) ∗ rides m 0 c)) : sProp 𝕄) := by
  have hcore (c : Dev nD) : iprop(unscopedBufs c (fun b => m ((c.tc : Thread nD τ).loc b)) ∗ unscopedSems0 c
        ∗ owes (c.tc : Thread nD τ) (owed allDues c) ∅ ∗ Pipeline.launchCred (owed allDues) c ∗ prngReg c (ρ c) ∗ given 0 funds c)
      ⊢ (iprop(brings m c ∗ (semVal (barC c) 0 ∗ given 0 funds c)) : sProp 𝕄) := by
    rw [bar_unscoped]
    unfold brings
    rw [← Pipeline.unscopedBufs_held (Ix := ℕ) (Name := ℕ) (U := UU) (Lvl := ℕ) c (V0 m c)]
    iintro ⟨Hh, Hb, HO, Hc, Hp, HG⟩
    isplitl [Hh HO Hc Hp]
    · isplitl [Hh]; · iexact Hh
      isplitl [Hc]; · iexact Hc
      isplitl [HO]; · iexact HO
      iexists (ρ c); iexact Hp
    isplitl [Hb] <;> iassumption
  have hv : bigSep Finset.univ (fun c : Dev nD => (semVal (barC c) 0 : sProp 𝕄)) ⊢ bigSep barCells (fun g => (semVal g 0 : sProp 𝕄)) :=
    Entails.of_eq (BI.bigSep_map (s := Finset.univ) barE (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (BI.bigSep_map (s := Finset.univ) barE (Φ := fun g : GSem nD τ sig => (atPos ER g 0 ∅ 0 : sProp 𝕄)))
  have hall : (bigSep Finset.univ fun c : Dev nD => iprop(unscopedBufs c (fun b => m ((c.tc : Thread nD τ).loc b)) ∗ unscopedSems0 c
        ∗ owes (c.tc : Thread nD τ) (owed allDues c) ∅ ∗ Pipeline.launchCred (owed allDues) c ∗ prngReg c (ρ c) ∗ given 0 funds c))
      ⊢ (bigSep Finset.univ fun c : Dev nD => iprop(brings m c ∗ (semVal (barC c) 0 ∗ given 0 funds c)) : sProp 𝕄) := BI.bigSep_mono fun c _ => hcore c
  have hG := given_all (F := F) 0 funds
  iintro ⟨H, #Hlev⟩
  ihave H := hall $$ H
  ihave H := (two_families _ _) $$ H; icases H with ⟨HB, H⟩
  ihave H := (two_families _ _) $$ H; icases H with ⟨Hv, HG⟩
  ihave Hu := (Entails.of_eq hG) $$ HG
  imod (Rounds.fund_launch ER (Rd (XA m) (WA m)) cells_disjoint (fun g _ h => h) dueToks) $$ [Hv Hu] with ⟨%κ, -, #Hinv, #Hr, Hat, Hopen, Htok⟩
  · isplitl [Hv]
    · iapply hv; iexact Hv
    · iexact Hu
  imodintro
  iapply (bigSep_with_persistent (R := records m κ) (Φ := fun c => iprop(share c ∗ brings m c)) fun c _ => dealt m κ c)
  isplitr
  · unfold records allInv
    isplitr
    · isplitr; · iexact Hinv
      iexact Hlev
    iexact Hr
  iapply (two_join _ _)
  isplitr [HB]
  · unfold share
    iapply (two_join _ _); isplitl [Hat]; · iapply hat; iexact Hat
    iapply (two_join _ _); isplitl [Hopen]; · iapply (Entails.of_eq (opens_deal (F := F))); iexact Hopen
    iapply (Entails.of_eq (toks_deal (F := F))); iexact Htok
  · iexact HB

/-! ### The run -/

def u₀ : UU :=
  (initOf (Pipeline.cells (Pipeline.pin (pcfgs (F := F)) adm) cellOf_inj) (Pipeline.launchToks (Pipeline.pin (pcfgs (F := F)) adm) cellOf_inj),
    launchOf barCells ownCells dueToks)

abbrev EP : Emb (UR sig nD τ) (MT nD τ sig ℕ (Elt F) ℕ UU ℕ) := embL

set_option backward.isDefEq.respectTransparency.types false in
/-- From any memory, with every counter at zero, the program ends on every device: the operands are as they were, the result is the quantised product, every counter is at zero. -/
theorem run_main [∀ e, Nonempty (Elt F e)] : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v29) = (OUT (XA m) (WA m) : Vec F S4096x8192 .bf16)) ∧ r.2.sem = fun _ => 0) :=
  Pipeline.θ_run_regions_kit_dev_sems (pcfgs (F := F)) adm (pdats m) 0 cellOf_inj EP defs₀ 𝒱₀ L lv m ρ main
    (segs m 𝒱₀ L lv (rides m) 0 (pdats m) (region m))
    (fun c Q => by
      rewrite [main_chain c, Pipeline.Seg.run_eq_chain,
        show (segs m 𝒱₀ L lv (rides m) 0 (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := owed allDues) (hL := fun g h => if_neg h) (G := given 0 funds) (u₀ := u₀ (F := F))
    (hu₀ := by
      unfold u₀
      iintro Hu
      ihave H := (ownU_pair _ _) $$ Hu
      icases H with ⟨HP, HX⟩
      imodintro
      isplitl [HP]; · iexact HP
      rw [given_all]; iexact HX)
    (T₀ := fun c => iprop(StableHlo.held (c : Thread nD τ) (Pipeline.ucRefs τ sig) (V0 m c) ∗ rides m 0 c))
    (Tₙ := fun c => iprop(StableHlo.held (c : Thread nD τ) (Pipeline.ucRefs τ sig) (V2 m (outs m) c) ∗ semVal (barC c) 0))
    (hch := fun c => ⟨.rfl, region_pre m c, (region_post m c).trans (by
      unfold owing
      iintro ⟨Hh, Hb, HO⟩
      isplitr [HO]
      · isplitl [Hh] <;> iassumption
      iexact HO)⟩)
    (hinit := launched m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v29) = (OUT (XA m) (WA m) : Vec F S4096x8192 .bf16)) ∧ s.sem (barC c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        have hr (r : Ref sig .tc) (hu : r.isScoped = false) := h (Proc.devRef .tc r) (Finset.mem_filter.mpr ⟨StableHlo.devRef_mem_tcRefs r, by simpa using hu⟩)
        exact ⟨⟨(hr main_arg0 rfl).trans (V2_main_arg0 m (outs m) c), (hr main_arg1 rfl).trans (V2_main_arg1 m (outs m) c), (hr main_v29 rfl).trans (V2_out m c)⟩, by simpa using hb⟩
      · iexact HSI)
    (hQ := fun s h hs => ⟨fun c => (h c).1, sem_eq_zero hs fun c sm hsm => by
        obtain rfl := unscoped_bar sm hsm
        exact (h c).2⟩)

end launch

end Cert.KernelIdeal.Proof

end
-- ==== Proof.Value.lean ====
module

public import proofs.«01_k».proof.Proof.Gather
public import proofs.«01_k».proof.Proof.Gen.ReferenceIdeal
public import Idealize.ShloMosaic.PureOps.Ideal.Laws
public import Idealize.ShloMosaic.Lib.MatmulPlain
public import Idealize.ShloMosaic.Lib.StackMember
public import Idealize.ShloMosaic.Lib.IdealHost
public import Idealize.ShloMosaic.Lib.Layout

/-! Over the extended reals the result the kernel leaves on every device is the reference's: the partial sums add up to the
whole product, the maxima of the chunks to the maximum of the whole, and multiplying by the reciprocal of the scale does what
dividing by the scale does. -/

@[expose] public section

set_option Elab.async false

noncomputable section

namespace Cert.KernelIdeal.Proof

open Idealize.ShloMosaic Idealize.ShloMosaic.ValueIdx Cert.KernelIdeal.Gen
open scoped BigOperators

/-! ### The quantisation of one element -/

/-- The pattern of 127. -/
theorem bits_127 : Ideal.ofBits .f32 0x42FE0000#32 = ((127 : ℝ) : EReal) := by
  simp [Ideal.ofBits, Ideal.ieee, -EReal.coe_mul]; norm_num

/-- Minus infinity, where a maximum starts. -/
theorem bits_bot : Ideal.ofBits .f32 0xFF800000#32 = ⊥ := by
  simp [Ideal.ofBits, Ideal.ieee]

/-- Clipping the rounded quotient and scaling back. The kernel multiplies by `127 / a`; the reference divides by `a / 127`. At
`a = 0` the scale is zero and both products are; at an infinite `a` both quotients are zero. -/
theorem quantise_eq (f : EReal → EReal) (y a : EReal) :
    f (y * Ideal.div ((127 : ℝ) : EReal) a) * Ideal.div a ((127 : ℝ) : EReal)
      = f (Ideal.div y (Ideal.div a ((127 : ℝ) : EReal))) * Ideal.div a ((127 : ℝ) : EReal) := by
  have h127 : (127 : ℝ) ≠ 0 := by norm_num
  have hpos : (0 : ℝ) < 1 / 127 := by norm_num
  rw [Ideal.div_coe h127 a]
  induction a with
  | bot =>
    have e : (⊥ : EReal) * ((1 / 127 : ℝ) : EReal) = ⊥ := EReal.bot_mul_coe_of_pos hpos
    rw [e]; simp [Ideal.div]
  | top =>
    have e : (⊤ : EReal) * ((1 / 127 : ℝ) : EReal) = ⊤ := EReal.top_mul_coe_of_pos hpos
    rw [e]; simp [Ideal.div]
  | coe r =>
    by_cases hr : r = 0
    · subst hr; simp
    · have hs : r * (1 / 127) ≠ 0 := mul_ne_zero hr (by norm_num)
      rw [← EReal.coe_mul, Ideal.div_coe hr, Ideal.div_coe hs, ← EReal.coe_mul]
      have e : (127 : ℝ) * (1 / r) = 1 / (r * (1 / 127)) := by field_simp
      rw [e]

/-! ### Maxima -/

/-- What lies above a maximum that starts at minus infinity. -/
theorem fold_le {ι : Type} (s : Finset ι) (f : ι → EReal) (b : EReal) :
    s.fold (FloatOps.maximumf (F := Ideal) (φ := .f32)) ⊥ f ≤ b ↔ ∀ i ∈ s, f i ≤ b := by
  show s.fold max ⊥ f ≤ b ↔ _
  rw [Finset.fold_max_le]
  exact ⟨fun h => h.2, fun h => ⟨bot_le, h⟩⟩

theorem reduction_le {s t : Shape} {axes : List (Fin s.rank)} (ht : ∀ b, t.size b = 1) (x : FVec Ideal s .f32) (h : s.Reduces axes t)
    (hφ : FKind.Formats .f32) (hacc : (0xFF800000#32 : BitVec 32) = FKind.maximumf.neutral .f32 hφ) (j : t.Idx) (b : EReal) :
    multiReduction .maximumf axes t x 0xFF800000#32 h hφ hacc j ≤ b ↔ ∀ i, x i ≤ b := by
  rw [multiReduction_maximumf_eq_fold, Ideal.ofBits_def, bits_bot, fold_le]
  refine ⟨fun hh i => hh i (Finset.mem_filter.mpr ⟨Finset.mem_univ i, funext fun a => Fin.ext ?_⟩), fun hh i _ => hh i⟩
  have h1 := (h.drop i a).isLt; have h2 := (j a).isLt; have h3 := ht a; omega

theorem hostReduce_le {s t : Shape} {axes : List (Fin s.rank)} (ht : ∀ b, t.size b = 1) (x : s.Idx → EReal) (u : Shape) (h : s.ReducesTo axes t)
    (hu : 0 < u.numel) (j : t.Idx) (b : EReal) :
    Host.reduce (FloatOps.maximumf (F := Ideal) (φ := .f32)) x (constant (F := Ideal) u .f32 0xFF800000#32) h hu j ≤ b ↔ ∀ i, x i ≤ b := by
  rw [Host.reduce_eq_fold]
  show Finset.fold _ (Ideal.ofBits .f32 0xFF800000#32) _ _ ≤ b ↔ _
  rw [bits_bot, fold_le]
  refine ⟨fun hh i => hh i (Finset.mem_filter.mpr ⟨Finset.mem_univ i, funext fun a => Fin.ext ?_⟩), fun hh i _ => hh i⟩
  have h1 := (h.drop i a).isLt; have h2 := (j a).isLt; have h3 := ht a; omega

/-- Another shape's view of an array has the same elements. -/
theorem cast_le {s t : Shape} (h : s.ShapeCasts t) (x : s.Idx → EReal) (b : EReal) : (∀ i, shapeCast t x h i ≤ b) ↔ ∀ i, x i ≤ b := by
  refine ⟨fun hh i => ?_, fun hh i => hh _⟩
  have e : Shape.reshapeEquiv h ((Shape.reshapeEquiv h).symm i) = i := Equiv.apply_symm_apply _ i
  have := hh ((Shape.reshapeEquiv h).symm i)
  unfold shapeCast at this
  rwa [e] at this

/-! ### The products and the partial sums -/

theorem matmul_block (x : FVec Ideal S256x256 .bf16) (w : FVec Ideal S256x4096 .bf16) (i : S256x4096.Idx) :
    matmul dot_S256x256_S256x4096_S256x4096_1_0_0_1_n_n none x w (constant (F := Ideal) S256x4096 .f32 0x00000000#32) i
      = ∑ k : Fin 256, x (ix2 (i 0) k) * w (ix2 k (i 1)) := by
  rw [eq_ix2 i]
  refine (Ideal.matmul_plain_apply (M := 256) (K := 256) (N := 4096) none x w _ (i 0) (i 1)).trans ?_
  show Ideal.ofBits .f32 0x00000000#32 + _ = _
  rw [Ideal.ofBits_zero_f32, zero_add]

theorem pay2_apply (x : Vec Ideal S256x256 .bf16) (w : Vec Ideal S256x4096 .bf16) (i : S256x4096.Idx) :
    ofSlot (k0_pay2 x w) i = ∑ k : Fin 256, x (ix2 (i 0) k) * w (ix2 k (i 1)) := by
  unfold k0_pay2
  rw [shapeCast_self, shapeCast_self]
  refine (congrFun (shapeCast_shapeCast (truncf .bf16 (matmul (F := Ideal) (φ₁ := .bf16) (φ₂ := .bf16) dot_S256x256_S256x4096_S256x4096_1_0_0_1_n_n none x w (constant S256x4096 .f32 0x00000000#32))
    bitsLt_bf16_f32) shapeCasts_S256x4096_S1x256x4096 slotCast') i : ofSlot _ i = _).trans ?_
  exact matmul_block x w i

theorem pay5_apply (x : Vec Ideal S256x256 .bf16) (w : Vec Ideal S256x4096 .bf16) (a : Vec Ideal S256x4096 .bf16) (i : S256x4096.Idx) :
    ofSlot (k0_pay5 x w (toSlot a)) i = a i + ∑ k : Fin 256, x (ix2 (i 0) k) * w (ix2 k (i 1)) := by
  unfold k0_pay5
  rw [shapeCast_self, shapeCast_self]
  refine (congrFun (shapeCast_shapeCast (truncf .bf16 (addf (extf .f32 (shapeCast S256x4096 (toSlot a) shapeCasts_S1x256x4096_S256x4096) bitsLt_bf16_f32)
    (matmul (F := Ideal) (φ₁ := .bf16) (φ₂ := .bf16) dot_S256x256_S256x4096_S256x4096_1_0_0_1_n_n none x w (constant S256x4096 .f32 0x00000000#32)))
    bitsLt_bf16_f32) shapeCasts_S256x4096_S1x256x4096 slotCast') i : ofSlot _ i = _).trans ?_
  refine congrArg₂ (fun u v : EReal => u + v) (congrFun (shapeCast_shapeCast a slotCast shapeCasts_S1x256x4096_S256x4096) i) ?_
  exact matmul_block x w i

theorem pay43_apply (x : Vec Ideal S256x256 .bf16) (w : Vec Ideal S256x4096 .bf16) (a : Vec Ideal S256x4096 .bf16) (i : S256x4096.Idx) :
    k0_pay43 (toSlot a) x w i = a i + ∑ k : Fin 256, x (ix2 (i 0) k) * w (ix2 k (i 1)) := by
  unfold k0_pay43
  rw [shapeCast_self, shapeCast_self, shapeCast_self]
  refine congrArg₂ (fun u v : EReal => u + v) (congrFun (shapeCast_shapeCast a slotCast shapeCasts_S1x256x4096_S256x4096) i) ?_
  exact matmul_block x w i

/-- The devices whose products are in the partial sums that device `d` sends in hop `h`. -/
def summed (S : Bool) : ℕ → Dev nD → Finset (Dev nD)
  | 0, d => {d}
  | h + 1, d => insert d (summed S h (peer (!S) d))

theorem summed_fresh : ∀ (S : Bool) (d : Dev nD) (h : Fin 15), d ∉ summed S h.val (peer (!S) d) := by decide +kernel
theorem summed_all : ∀ (S : Bool) (d : Dev nD), insert d (summed S 14 (peer (!S) d)) = Finset.univ := by decide +kernel
theorem hopBlk_next : ∀ (S : Bool) (d : Dev nD) (h : Fin 14), hopBlk S (peer (!S) d) h.val = hopBlk S d (h.val + 1) := by decide +kernel
theorem hopBlk_last : ∀ (S : Bool) (d : Dev nD), hopBlk S (peer (!S) d) 14 = pos d := by decide +kernel

section sums
variable (X : Dev nD → Vec Ideal S4096x256 .bf16) (Wt : Dev nD → Vec Ideal S256x8192 .bf16)

/-- The product of device `e` for a block of rows and half the columns. -/
def prod (S : Bool) (e : Dev nD) (b : Fin 16) (i : S256x4096.Idx) : EReal :=
  ∑ k : Fin 256, xB X e b (ix2 (i 0) k) * wB Wt S e (ix2 k (i 1))

theorem acc_sum (S : Bool) (i : S256x4096.Idx) : ∀ h : ℕ, h < 15 → ∀ d : Dev nD,
    acc X Wt S h d i = ∑ e ∈ summed S h d, prod X Wt S e (hopBlk S d h) i := by
  intro h
  induction h with
  | zero => intro _ d; rw [summed, Finset.sum_singleton]; exact pay2_apply _ _ i
  | succ h ih =>
    intro hh d
    have hb : hopBlk S (peer (!S) d) h = hopBlk S d (h + 1) := hopBlk_next S d ⟨h, by omega⟩
    have hf : d ∉ summed S h (peer (!S) d) := summed_fresh S d ⟨h, by omega⟩
    refine (pay5_apply (xB X d (hopBlk S d (h + 1))) (wB Wt S d) (acc X Wt S h (peer (!S) d)) i).trans ?_
    rw [ih (by omega), hb, summed, Finset.sum_insert hf]
    exact add_comm _ _

theorem yH_sum (S : Bool) (d : Dev nD) (i : S256x4096.Idx) : yH X Wt S d i = ∑ e : Dev nD, prod X Wt S e (pos d) i := by
  have hf : d ∉ summed S 14 (peer (!S) d) := summed_fresh S d ⟨14, by omega⟩
  refine (pay43_apply (xB X d (pos d)) (wB Wt S d) (acc X Wt S 14 (peer (!S) d)) i).trans ?_
  rw [acc_sum X Wt S i 14 (by omega), hopBlk_last, ← summed_all S d, Finset.sum_insert hf]
  exact add_comm _ _

/-- An element of a device's chunk: the sum over the devices of their products for the device's block of rows. -/
theorem yC_sum (d : Dev nD) (r : Fin 256) (j : Fin 8192) :
    yC X Wt d (ix2 r j) = ∑ e : Dev nD, ∑ k : Fin 256, X e (ix2 ⟨(pos d).val * 256 + r.val, by have := (pos d).isLt; omega⟩ k) * Wt e (ix2 k j) := by
  have hx : ∀ (e : Dev nD) (k : Fin 256), (xRect (pos d)).emb (ix2 r k) = ix2 ⟨(pos d).val * 256 + r.val, by have := (pos d).isLt; omega⟩ k := by
    intro e k; funext a; apply Fin.ext
    refine (emb_val _ _ a).trans ?_
    match a with
    | ⟨0, _⟩ => rfl
    | ⟨1, _⟩ => exact Nat.zero_add _
  have hw : ∀ (S : Bool) (k : Fin 256) (l : Fin 4096) (hl : col S + l.val = j.val), (halfRect S).emb (ix2 k l) = ix2 k j := by
    intro S k l hl; funext a; apply Fin.ext
    refine (emb_val _ _ a).trans ?_
    match a with
    | ⟨0, _⟩ => exact Nat.zero_add _
    | ⟨1, _⟩ => exact hl
  have key : ∀ (S : Bool) (l : Fin 4096) (i : S256x4096.Idx), i = ix2 r l → col S + l.val = j.val → yH X Wt S d i
      = ∑ e : Dev nD, ∑ k : Fin 256, X e (ix2 ⟨(pos d).val * 256 + r.val, by have := (pos d).isLt; omega⟩ k) * Wt e (ix2 k j) := by
    rintro S l i rfl hl
    rw [yH_sum]
    refine Finset.sum_congr rfl fun e _ => Finset.sum_congr rfl fun k _ => ?_
    exact congrArg₂ (fun u v : EReal => u * v) (congrArg (X e) (hx e k)) (congrArg (Wt e) (hw S k l hl))
  unfold yC
  by_cases h : j.val < 4096
  · rw [dif_pos h]
    exact key true ⟨j.val, h⟩ _ (by funext a; match a with | ⟨0, _⟩ => rfl | ⟨1, _⟩ => rfl) (Nat.zero_add _)
  · rw [dif_neg h]
    exact key false ⟨j.val - 4096, by have := j.isLt; omega⟩ _ (by funext a; match a with | ⟨0, _⟩ => rfl | ⟨1, _⟩ => rfl) (by show 4096 + (j.val - 4096) = j.val; omega)

/-- The one element of a vector of one. -/
theorem extract_one : ∃ j : S1.Idx, ∀ v : S1.Idx → EReal, extractAt ![0, 0, 0] (shapeCast S1x1x1 v shapeCasts_S1_S1x1x1) inpos_S1x1x1_p0_0_0 = v j := by
  unfold extractAt shapeCast
  exact ⟨_, fun _ => rfl⟩

theorem pay46_le (v : FVec Ideal S256x8192 .f32) (j : S1x128.Idx) (b : EReal) : (k0_pay46 (F := Ideal) v j : EReal) ≤ b ↔ ∀ i, max (v i) (-(v i)) ≤ b := by
  have h1 : ∀ a, S1.size a = 1 := by decide
  have hc : S256x8192.ShapeCasts S1x256x8192 := shapeCasts_S256x8192_S1x256x8192
  have hv : ∀ w : FVec Ideal S256x8192 .f32, ∀ j, multiReduction .maximumf [1, 2] S1 (shapeCast S1x256x8192 w hc) 0xFF800000#32 reduces_S1x256x8192_S1 (.inl rfl) rfl j ≤ b
      ↔ ∀ i, w i ≤ b := fun w j => (reduction_le h1 (shapeCast S1x256x8192 w hc) reduces_S1x256x8192_S1 (.inl rfl) rfl j b).trans (cast_le hc w b)
  obtain ⟨j0, hj⟩ := extract_one
  unfold k0_pay46
  rw [shapeCast_self, broadcast_apply, hj, hv]
  exact Iff.rfl

theorem amR_le (d : Dev nD) (j : S1x128.Idx) (b : EReal) : amR X Wt d j ≤ b ↔ ∀ i, max (yC X Wt d i) (-(yC X Wt d i)) ≤ b :=
  pay46_le (yC X Wt d) j b

theorem amA_le (b : EReal) : (∀ i, amA X Wt i ≤ b) ↔ ∀ d i, max (yC X Wt d i) (-(yC X Wt d i)) ≤ b := by
  refine ⟨fun h d i => (amR_le X Wt d _ b).mp (h (ix2 ⟨d.val, d.isLt⟩ 0)) i, fun h i => (amR_le X Wt _ _ b).mpr (h _)⟩

/-- A device's chunk of the result, given the maximum of all the rows of maxima. -/
theorem qC_apply (M : EReal) (hM : ∀ b, M ≤ b ↔ ∀ d i, max (yC X Wt d i) (-(yC X Wt d i)) ≤ b) (d : Dev nD) (i : S256x8192.Idx) :
    qC X Wt d i = min (Ideal.ofBits .f32 0x42FE0000#32) (max (Ideal.ofBits .f32 0xC2FE0000#32)
      (Ideal.liftRound Ideal.roundHalfEven (yC X Wt d i * Ideal.div (Ideal.ofBits .f32 0x42FE0000#32) M)))
      * Ideal.div M (Ideal.ofBits .f32 0x42FE0000#32) := by
  have h1 : ∀ a, S1.size a = 1 := by decide
  have hc : S16x128.ShapeCasts S1x16x128 := shapeCasts_S16x128_S1x16x128
  have hA : ∀ j, multiReduction .maximumf [1, 2] S1 (shapeCast S1x16x128 (amA X Wt) hc) 0xFF800000#32 reduces_S1x16x128_S1 (.inl rfl) rfl j = M := by
    intro j
    refine eq_of_forall_ge_iff fun b => ?_
    rw [hM, ← amA_le]
    exact (reduction_le h1 (shapeCast S1x16x128 (amA X Wt) hc) reduces_S1x16x128_S1 (.inl rfl) rfl _ b).trans (cast_le hc (amA X Wt) b)
  unfold qC k0_pay47
  rw [shapeCast_self]
  obtain ⟨j0, hj⟩ := extract_one
  simp only [hj]
  rw [hA j0]
  rfl

end sums

/-! ### The whole -/

section whole
variable (A : FVec Ideal Cert.ReferenceIdeal.S4096x4096 .bf16) (B : FVec Ideal S4096x8192 .bf16)

variable (hA : Layout.Tiles S4096x256 Cert.ReferenceIdeal.S4096x4096 1 16) (hB : Layout.Tiles S256x8192 S4096x8192 0 16)

/-- The blocks of the two operands that the devices hold. -/
def XB : Dev nD → Vec Ideal S4096x256 .bf16 := fun c => Layout.block S4096x256 Cert.ReferenceIdeal.S4096x4096 1 16 c A hA
def WB : Dev nD → Vec Ideal S256x8192 .bf16 := fun c => Layout.block S256x8192 S4096x8192 0 16 c B hB

/-- The whole product, the largest magnitude in it, and what the reference returns. -/
def Y : FVec Ideal S4096x8192 .f32 := Host.dotGeneral Cert.ReferenceIdeal.dot_S4096x4096_S4096x8192_S4096x8192_1_0_0_1_n_n none A B
def amax : FVec Ideal S_ .f32 :=
  Host.reduce FloatOps.maximumf (Host.absf (Y A B)) (constant S_ .f32 0xFF800000#32) Cert.ReferenceIdeal.Facts₀.reducesTo_S4096x8192_S_d0_1 Cert.ReferenceIdeal.Facts₀.h_S_
def refOut : FVec Ideal S4096x8192 .bf16 :=
  truncf .bf16 (mulf (minimumf (broadcastInDim S4096x8192 ![] Cert.ReferenceIdeal.Facts₀.bcast_S_S4096x8192 (id (constant S_ .f32 0x42FE0000#32)))
    (maximumf (broadcastInDim S4096x8192 ![] Cert.ReferenceIdeal.Facts₀.bcast_S_S4096x8192 (id (constant S_ .f32 0xC2FE0000#32)))
      (Host.roundeven (Host.divf (Y A B) (broadcastInDim S4096x8192 ![] Cert.ReferenceIdeal.Facts₀.bcast_S_S4096x8192 (Host.divf (amax A B) (constant S_ .f32 0x42FE0000#32)))))))
    (broadcastInDim S4096x8192 ![] Cert.ReferenceIdeal.Facts₀.bcast_S_S4096x8192 (Host.divf (amax A B) (constant S_ .f32 0x42FE0000#32)))) Cert.ReferenceIdeal.Facts₀.bitsLt_bf16_f32

theorem Y_apply (r : Fin 4096) (j : Fin 8192) : Y A B (ix2 r j) = ∑ k : Fin 4096, A (ix2 r k) * B (ix2 k j) :=
  StackMember.dotGeneral_plain_apply (m := 4096) (k := 4096) (n := 8192) none A B r j

theorem clip_apply (hi lo y s : FVec Ideal S4096x8192 .f32) (h : FTy.bits .bf16 < FTy.bits .f32) (i : S4096x8192.Idx) :
    truncf .bf16 (mulf (minimumf hi (maximumf lo (Host.roundeven (Host.divf y s)))) s) h i
      = min (hi i) (max (lo i) (Ideal.liftRound Ideal.roundHalfEven (Ideal.div (y i) (s i)))) * s i := rfl

theorem refOut_apply (i : S4096x8192.Idx) : refOut A B i = min (Ideal.ofBits .f32 0x42FE0000#32) (max (Ideal.ofBits .f32 0xC2FE0000#32)
      (Ideal.liftRound Ideal.roundHalfEven (Ideal.div (Y A B i) (Ideal.div (amax A B ix0) (Ideal.ofBits .f32 0x42FE0000#32)))))
      * Ideal.div (amax A B ix0) (Ideal.ofBits .f32 0x42FE0000#32) := by
  have hs : ∀ v : S_.Idx → EReal, broadcastInDim S4096x8192 ![] Cert.ReferenceIdeal.Facts₀.bcast_S_S4096x8192 v i = v ix0 := fun v => congrArg v (eq_ix0 _)
  unfold refOut
  rw [clip_apply, hs, hs, hs]
  rfl

/-- A device's chunk is its block of rows of the whole product: the blocks of the devices fill the axis that is summed over. -/
theorem chunk (d : Dev nD) (r : Fin 256) (j : Fin 8192) :
    yC (XB A hA) (WB B hB) d (ix2 r j) = Y A B (ix2 ⟨(pos d).val * 256 + r.val, by have := (pos d).isLt; omega⟩ j) := by
  rw [yC_sum, Y_apply, ← Equiv.sum_comp (finProdFinEquiv (m := 16) (n := 256)), Fintype.sum_prod_type]
  refine Finset.sum_congr rfl fun e _ => Finset.sum_congr rfl fun k _ => ?_
  refine congrArg₂ (fun u v : EReal => u * v) (congrArg A ?_) (congrArg B ?_)
  · funext a; apply Fin.ext
    match a with
    | ⟨0, _⟩ => rfl
    | ⟨1, _⟩ => show e.val * 256 + k.val = k.val + 256 * e.val; omega
  · funext a; apply Fin.ext
    match a with
    | ⟨0, _⟩ => show e.val * 256 + k.val = k.val + 256 * e.val; omega
    | ⟨1, _⟩ => rfl

/-- The largest magnitude of the chunks is that of the whole. -/
theorem amax_le (b : EReal) : amax A B ix0 ≤ b ↔ ∀ d i, max (yC (XB A hA) (WB B hB) d i) (-(yC (XB A hA) (WB B hB) d i)) ≤ b := by
  unfold amax
  rw [hostReduce_le (fun a => a.elim0)]
  show (∀ i, max (Y A B i) (-(Y A B i)) ≤ b) ↔ _
  constructor
  · intro h d i
    obtain ⟨r, j, rfl⟩ : ∃ (r : Fin 256) (j : Fin 8192), i = ix2 r j := ⟨i 0, i 1, eq_ix2 i⟩
    exact (congrArg (fun v : EReal => max v (-v)) (chunk A B hA hB d r j)).trans_le (h _)
  · intro h i
    have h0 : (i 0).val < 4096 := (i 0).isLt
    have e := chunk A B hA hB (ring ⟨(i 0).val / 256, by omega⟩) ⟨(i 0).val % 256, Nat.mod_lt _ (by decide)⟩ (i 1)
    have ei : (ix2 ⟨(pos (ring ⟨(i 0).val / 256, by omega⟩)).val * 256 + (i 0).val % 256, by rw [pos_ring]; show (i 0).val / 256 * 256 + _ < _; omega⟩ (i 1) : S4096x8192.Idx) = i := by
      funext a; apply Fin.ext
      match a with
      | ⟨0, _⟩ => show (pos (ring _)).val * 256 + (i 0).val % 256 = (i 0).val; rw [pos_ring]; show (i 0).val / 256 * 256 + _ = _; omega
      | ⟨1, _⟩ => rfl
    exact (congrArg (fun v : EReal => max v (-v)) (e.trans (congrArg (Y A B) ei))).symm.trans_le (h _ _)

/-- The kernel's result is the reference's. -/
theorem value : OUT (XB A hA) (WB B hB) = refOut A B := by
  funext i
  have h0 : (i 0).val < 4096 := (i 0).isLt
  have ei : (ix2 ⟨(pos (ring ⟨(i 0).val / 256, by omega⟩)).val * 256 + (i 0).val % 256, by rw [pos_ring]; show (i 0).val / 256 * 256 + _ < _; omega⟩ (i 1) : S4096x8192.Idx) = i := by
    funext a; apply Fin.ext
    match a with
    | ⟨0, _⟩ => show (pos (ring _)).val * 256 + (i 0).val % 256 = (i 0).val; rw [pos_ring]; show (i 0).val / 256 * 256 + _ = _; omega
    | ⟨1, _⟩ => rfl
  have e := chunk A B hA hB (ring ⟨(i 0).val / 256, by omega⟩) ⟨(i 0).val % 256, Nat.mod_lt _ (by decide)⟩ (i 1)
  rw [refOut_apply]
  unfold OUT
  rw [qC_apply _ _ (amax A B ix0) (amax_le A B hA hB)]
  have ex : ∀ x : S256x8192.Idx, x = ix2 ⟨(i 0).val % 256, Nat.mod_lt _ (by decide)⟩ (i 1) → yC (XB A hA) (WB B hB) (ring ⟨(i 0).val / 256, by omega⟩) x = Y A B i := by
    rintro x rfl; exact e.trans (congrArg (Y A B) ei)
  rw [ex _ (by funext a; match a with | ⟨0, _⟩ => rfl | ⟨1, _⟩ => rfl), bits_127]
  exact quantise_eq (fun q => min _ (max _ (Ideal.liftRound Ideal.roundHalfEven q))) (Y A B i) (amax A B ix0)

end whole

end Cert.KernelIdeal.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Quiescent
public import Idealize.ShloMosaic.Lib.Tactic

@[expose] public section

noncomputable section

namespace Cert.Proof

open Idealize.ShloMosaic Idealize.SL.Sem

/-- What the claim about the kernel says, of the second printing of the same module. -/
def frameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame_bits : frameBits := fun m ρ _ =>
  (θ_run Cert.KernelIdeal.defs _ _).mono (fun _ h => ⟨fun c => ⟨(h.1 c).1, (h.1 c).2.1⟩, h.2⟩) (Cert.KernelIdeal.Proof.run_main (F := Bits) m ρ)

/-- The two printings agree word for word. -/
theorem frame_same : Cert.quiescent_Kernel = frameBits := by sl_kernel_rfl

/-- The kernel at bits: the run, and the two arguments and the counters read from it. -/
theorem frame_kernel : Cert.quiescent_Kernel := frame_same.mpr frame_bits

/-- The kernel over the extended reals: the same run. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Proof.run_main (F := Ideal) m ρ)

/-- The reference: host operations alone, and no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was rewritten. -/
theorem preserves : Cert.preserves_Kernel_KernelIdeal := trivial

/-- Every device ends with the reference's result. -/
theorem algebraic : Cert.algebraic_KernelIdeal_ReferenceIdeal := fun m ρ m' ρ' _ hin => by
  have hX : Cert.KernelIdeal.Proof.XA m = Cert.KernelIdeal.Proof.XB (m' (((0 : Dev Cert.ReferenceIdeal.nD).tc : Thread Cert.ReferenceIdeal.nD Cert.ReferenceIdeal.τ).loc Cert.ReferenceIdeal.main_arg0)) (by decide) :=
    funext fun c => (hin c).1
  have hW : Cert.KernelIdeal.Proof.WA m = Cert.KernelIdeal.Proof.WB (m' (((0 : Dev Cert.ReferenceIdeal.nD).tc : Thread Cert.ReferenceIdeal.nD Cert.ReferenceIdeal.τ).loc Cert.ReferenceIdeal.main_arg1)) (by decide) :=
    funext fun c => (hin c).2
  refine ⟨Cert.KernelIdeal.Proof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, (h.1 c).1, (h.1 c).2.1⟩) (Cert.KernelIdeal.Proof.run_main (F := Ideal) m ρ)
    rw [← Cert.KernelIdeal.Proof.value _ _ (by decide) (by decide), ← hX, ← hW]
    exact (h.1 c).2.2
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, preserves, algebraic⟩

end Cert.Proof

end
